-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_arguments [hPre_finite_arguments : Cert.Pre_finite_arguments.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_arguments.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_arguments [hPre_finite_arguments : Cert.Pre_finite_arguments.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_arguments.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))) = (fun _ => 1#1)

def Pre_KernelGrad (m : (ℓ : Loc Cert.KernelGrad.nD Cert.KernelGrad.τ Cert.KernelGrad.sig) → Buf (Elt Bits) ℓ) : Prop :=
  True

def Pre_KernelGradIdeal (m : (ℓ : Loc Cert.KernelGradIdeal.nD Cert.KernelGradIdeal.τ Cert.KernelGradIdeal.sig) → Buf (Elt Ideal) ℓ) : Prop :=
  True

def Pre_KernelGradIdeal_finite_inputs [hPre_finite_inputs : Cert.Pre_finite_inputs.Facts] (m : (ℓ : Loc Cert.KernelGradIdeal.nD Cert.KernelGradIdeal.τ Cert.KernelGradIdeal.sig) → Buf (Elt Ideal) ℓ) : Prop :=
  ∀ c : Dev Cert.KernelGradIdeal.nD,
    (Cert.Pre_finite_inputs.fn (F := Ideal) (m ((c.tc : Thread Cert.KernelGradIdeal.nD Cert.KernelGradIdeal.τ).loc Cert.KernelGradIdeal.main_arg0)) (m ((c.tc : Thread Cert.KernelGradIdeal.nD Cert.KernelGradIdeal.τ).loc Cert.KernelGradIdeal.main_arg1)) (m ((c.tc : Thread Cert.KernelGradIdeal.nD Cert.KernelGradIdeal.τ).loc Cert.KernelGradIdeal.main_arg2)) (m ((c.tc : Thread Cert.KernelGradIdeal.nD Cert.KernelGradIdeal.τ).loc Cert.KernelGradIdeal.main_arg3)) (m ((c.tc : Thread Cert.KernelGradIdeal.nD Cert.KernelGradIdeal.τ).loc Cert.KernelGradIdeal.main_arg4))) = (fun _ => 1#1)

def Pre_ReferenceGradIdeal (m : (ℓ : Loc Cert.ReferenceGradIdeal.nD Cert.ReferenceGradIdeal.τ Cert.ReferenceGradIdeal.sig) → Buf (Elt Ideal) ℓ) : Prop :=
  True

def Pre_ReferenceGradIdeal_finite_inputs [hPre_finite_inputs : Cert.Pre_finite_inputs.Facts] (m : (ℓ : Loc Cert.ReferenceGradIdeal.nD Cert.ReferenceGradIdeal.τ Cert.ReferenceGradIdeal.sig) → Buf (Elt Ideal) ℓ) : Prop :=
  ∀ c : Dev Cert.ReferenceGradIdeal.nD,
    (Cert.Pre_finite_inputs.fn (F := Ideal) (m ((c.tc : Thread Cert.ReferenceGradIdeal.nD Cert.ReferenceGradIdeal.τ).loc Cert.ReferenceGradIdeal.main_arg0)) (m ((c.tc : Thread Cert.ReferenceGradIdeal.nD Cert.ReferenceGradIdeal.τ).loc Cert.ReferenceGradIdeal.main_arg1)) (m ((c.tc : Thread Cert.ReferenceGradIdeal.nD Cert.ReferenceGradIdeal.τ).loc Cert.ReferenceGradIdeal.main_arg2)) (m ((c.tc : Thread Cert.ReferenceGradIdeal.nD Cert.ReferenceGradIdeal.τ).loc Cert.ReferenceGradIdeal.main_arg3)) (m ((c.tc : Thread Cert.ReferenceGradIdeal.nD Cert.ReferenceGradIdeal.τ).loc Cert.ReferenceGradIdeal.main_arg4))) = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5)
      ∧ r.2.mem ((c.tc : Thread Cert.KernelUp.nD Cert.KernelUp.τ).loc Cert.KernelUp.main_arg6) = m ((c.tc : Thread Cert.KernelUp.nD Cert.KernelUp.τ).loc Cert.KernelUp.main_arg6))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7)
      ∧ r.2.mem ((c.tc : Thread Cert.KernelProj.nD Cert.KernelProj.τ).loc Cert.KernelProj.main_arg8) = m ((c.tc : Thread Cert.KernelProj.nD Cert.KernelProj.τ).loc Cert.KernelProj.main_arg8))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_KernelAttnIdeal_pre_finite_arguments [hKernelAttnIdeal : Cert.KernelAttnIdeal.Facts] [hPre_finite_arguments : Cert.Pre_finite_arguments.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_arguments m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_ReferenceAttnIdeal_pre_finite_arguments [hReferenceAttnIdeal : Cert.ReferenceAttnIdeal.Facts] [hPre_finite_arguments : Cert.Pre_finite_arguments.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_arguments m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_KernelGrad [hKernelGrad : Cert.KernelGrad.Facts] : Prop :=
  ∀ (m : (ℓ : Loc Cert.KernelGrad.nD Cert.KernelGrad.τ Cert.KernelGrad.sig) → Buf (Elt Bits) ℓ) (g : Dev Cert.KernelGrad.nD → PrngReg), Pre_KernelGrad m →
    θ_run (Cert.KernelGrad.defs (F := Bits)) (onTc (τ := Cert.KernelGrad.τ) (Cert.KernelGrad.main (F := Bits))) ⟨m, fun _ => 0, g⟩ (fun r => (∀ c : Dev Cert.KernelGrad.nD,
      r.2.mem ((c.tc : Thread Cert.KernelGrad.nD Cert.KernelGrad.τ).loc Cert.KernelGrad.main_arg0) = m ((c.tc : Thread Cert.KernelGrad.nD Cert.KernelGrad.τ).loc Cert.KernelGrad.main_arg0)
      ∧ r.2.mem ((c.tc : Thread Cert.KernelGrad.nD Cert.KernelGrad.τ).loc Cert.KernelGrad.main_arg1) = m ((c.tc : Thread Cert.KernelGrad.nD Cert.KernelGrad.τ).loc Cert.KernelGrad.main_arg1)
      ∧ r.2.mem ((c.tc : Thread Cert.KernelGrad.nD Cert.KernelGrad.τ).loc Cert.KernelGrad.main_arg2) = m ((c.tc : Thread Cert.KernelGrad.nD Cert.KernelGrad.τ).loc Cert.KernelGrad.main_arg2)
      ∧ r.2.mem ((c.tc : Thread Cert.KernelGrad.nD Cert.KernelGrad.τ).loc Cert.KernelGrad.main_arg3) = m ((c.tc : Thread Cert.KernelGrad.nD Cert.KernelGrad.τ).loc Cert.KernelGrad.main_arg3)
      ∧ r.2.mem ((c.tc : Thread Cert.KernelGrad.nD Cert.KernelGrad.τ).loc Cert.KernelGrad.main_arg4) = m ((c.tc : Thread Cert.KernelGrad.nD Cert.KernelGrad.τ).loc Cert.KernelGrad.main_arg4))
      ∧ r.2.sem = fun _ => 0)

def quiescent_KernelGradIdeal [hKernelGradIdeal : Cert.KernelGradIdeal.Facts] : Prop :=
  ∀ (m : (ℓ : Loc Cert.KernelGradIdeal.nD Cert.KernelGradIdeal.τ Cert.KernelGradIdeal.sig) → Buf (Elt Ideal) ℓ) (g : Dev Cert.KernelGradIdeal.nD → PrngReg), Pre_KernelGradIdeal m →
    θ_run (Cert.KernelGradIdeal.defs (F := Ideal)) (onTc (τ := Cert.KernelGradIdeal.τ) (Cert.KernelGradIdeal.main (F := Ideal))) ⟨m, fun _ => 0, g⟩ (fun r => (∀ c : Dev Cert.KernelGradIdeal.nD,
      r.2.mem ((c.tc : Thread Cert.KernelGradIdeal.nD Cert.KernelGradIdeal.τ).loc Cert.KernelGradIdeal.main_arg0) = m ((c.tc : Thread Cert.KernelGradIdeal.nD Cert.KernelGradIdeal.τ).loc Cert.KernelGradIdeal.main_arg0)
      ∧ r.2.mem ((c.tc : Thread Cert.KernelGradIdeal.nD Cert.KernelGradIdeal.τ).loc Cert.KernelGradIdeal.main_arg1) = m ((c.tc : Thread Cert.KernelGradIdeal.nD Cert.KernelGradIdeal.τ).loc Cert.KernelGradIdeal.main_arg1)
      ∧ r.2.mem ((c.tc : Thread Cert.KernelGradIdeal.nD Cert.KernelGradIdeal.τ).loc Cert.KernelGradIdeal.main_arg2) = m ((c.tc : Thread Cert.KernelGradIdeal.nD Cert.KernelGradIdeal.τ).loc Cert.KernelGradIdeal.main_arg2)
      ∧ r.2.mem ((c.tc : Thread Cert.KernelGradIdeal.nD Cert.KernelGradIdeal.τ).loc Cert.KernelGradIdeal.main_arg3) = m ((c.tc : Thread Cert.KernelGradIdeal.nD Cert.KernelGradIdeal.τ).loc Cert.KernelGradIdeal.main_arg3)
      ∧ r.2.mem ((c.tc : Thread Cert.KernelGradIdeal.nD Cert.KernelGradIdeal.τ).loc Cert.KernelGradIdeal.main_arg4) = m ((c.tc : Thread Cert.KernelGradIdeal.nD Cert.KernelGradIdeal.τ).loc Cert.KernelGradIdeal.main_arg4))
      ∧ r.2.sem = fun _ => 0)

def quiescent_KernelGradIdeal_pre_finite_inputs [hKernelGradIdeal : Cert.KernelGradIdeal.Facts] [hPre_finite_inputs : Cert.Pre_finite_inputs.Facts] : Prop :=
  ∀ (m : (ℓ : Loc Cert.KernelGradIdeal.nD Cert.KernelGradIdeal.τ Cert.KernelGradIdeal.sig) → Buf (Elt Ideal) ℓ) (g : Dev Cert.KernelGradIdeal.nD → PrngReg), Pre_KernelGradIdeal_finite_inputs m →
    θ_run (Cert.KernelGradIdeal.defs (F := Ideal)) (onTc (τ := Cert.KernelGradIdeal.τ) (Cert.KernelGradIdeal.main (F := Ideal))) ⟨m, fun _ => 0, g⟩ (fun r => (∀ c : Dev Cert.KernelGradIdeal.nD,
      r.2.mem ((c.tc : Thread Cert.KernelGradIdeal.nD Cert.KernelGradIdeal.τ).loc Cert.KernelGradIdeal.main_arg0) = m ((c.tc : Thread Cert.KernelGradIdeal.nD Cert.KernelGradIdeal.τ).loc Cert.KernelGradIdeal.main_arg0)
      ∧ r.2.mem ((c.tc : Thread Cert.KernelGradIdeal.nD Cert.KernelGradIdeal.τ).loc Cert.KernelGradIdeal.main_arg1) = m ((c.tc : Thread Cert.KernelGradIdeal.nD Cert.KernelGradIdeal.τ).loc Cert.KernelGradIdeal.main_arg1)
      ∧ r.2.mem ((c.tc : Thread Cert.KernelGradIdeal.nD Cert.KernelGradIdeal.τ).loc Cert.KernelGradIdeal.main_arg2) = m ((c.tc : Thread Cert.KernelGradIdeal.nD Cert.KernelGradIdeal.τ).loc Cert.KernelGradIdeal.main_arg2)
      ∧ r.2.mem ((c.tc : Thread Cert.KernelGradIdeal.nD Cert.KernelGradIdeal.τ).loc Cert.KernelGradIdeal.main_arg3) = m ((c.tc : Thread Cert.KernelGradIdeal.nD Cert.KernelGradIdeal.τ).loc Cert.KernelGradIdeal.main_arg3)
      ∧ r.2.mem ((c.tc : Thread Cert.KernelGradIdeal.nD Cert.KernelGradIdeal.τ).loc Cert.KernelGradIdeal.main_arg4) = m ((c.tc : Thread Cert.KernelGradIdeal.nD Cert.KernelGradIdeal.τ).loc Cert.KernelGradIdeal.main_arg4))
      ∧ r.2.sem = fun _ => 0)

def quiescent_ReferenceGradIdeal [hReferenceGradIdeal : Cert.ReferenceGradIdeal.Facts] : Prop :=
  ∀ (m : (ℓ : Loc Cert.ReferenceGradIdeal.nD Cert.ReferenceGradIdeal.τ Cert.ReferenceGradIdeal.sig) → Buf (Elt Ideal) ℓ) (g : Dev Cert.ReferenceGradIdeal.nD → PrngReg), Pre_ReferenceGradIdeal m →
    θ_run (Cert.ReferenceGradIdeal.defs (F := Ideal)) (onTc (τ := Cert.ReferenceGradIdeal.τ) (Cert.ReferenceGradIdeal.main (F := Ideal))) ⟨m, fun _ => 0, g⟩ (fun r => (∀ c : Dev Cert.ReferenceGradIdeal.nD,
      r.2.mem ((c.tc : Thread Cert.ReferenceGradIdeal.nD Cert.ReferenceGradIdeal.τ).loc Cert.ReferenceGradIdeal.main_arg0) = m ((c.tc : Thread Cert.ReferenceGradIdeal.nD Cert.ReferenceGradIdeal.τ).loc Cert.ReferenceGradIdeal.main_arg0)
      ∧ r.2.mem ((c.tc : Thread Cert.ReferenceGradIdeal.nD Cert.ReferenceGradIdeal.τ).loc Cert.ReferenceGradIdeal.main_arg1) = m ((c.tc : Thread Cert.ReferenceGradIdeal.nD Cert.ReferenceGradIdeal.τ).loc Cert.ReferenceGradIdeal.main_arg1)
      ∧ r.2.mem ((c.tc : Thread Cert.ReferenceGradIdeal.nD Cert.ReferenceGradIdeal.τ).loc Cert.ReferenceGradIdeal.main_arg2) = m ((c.tc : Thread Cert.ReferenceGradIdeal.nD Cert.ReferenceGradIdeal.τ).loc Cert.ReferenceGradIdeal.main_arg2)
      ∧ r.2.mem ((c.tc : Thread Cert.ReferenceGradIdeal.nD Cert.ReferenceGradIdeal.τ).loc Cert.ReferenceGradIdeal.main_arg3) = m ((c.tc : Thread Cert.ReferenceGradIdeal.nD Cert.ReferenceGradIdeal.τ).loc Cert.ReferenceGradIdeal.main_arg3)
      ∧ r.2.mem ((c.tc : Thread Cert.ReferenceGradIdeal.nD Cert.ReferenceGradIdeal.τ).loc Cert.ReferenceGradIdeal.main_arg4) = m ((c.tc : Thread Cert.ReferenceGradIdeal.nD Cert.ReferenceGradIdeal.τ).loc Cert.ReferenceGradIdeal.main_arg4))
      ∧ r.2.sem = fun _ => 0)

def quiescent_ReferenceGradIdeal_pre_finite_inputs [hReferenceGradIdeal : Cert.ReferenceGradIdeal.Facts] [hPre_finite_inputs : Cert.Pre_finite_inputs.Facts] : Prop :=
  ∀ (m : (ℓ : Loc Cert.ReferenceGradIdeal.nD Cert.ReferenceGradIdeal.τ Cert.ReferenceGradIdeal.sig) → Buf (Elt Ideal) ℓ) (g : Dev Cert.ReferenceGradIdeal.nD → PrngReg), Pre_ReferenceGradIdeal_finite_inputs m →
    θ_run (Cert.ReferenceGradIdeal.defs (F := Ideal)) (onTc (τ := Cert.ReferenceGradIdeal.τ) (Cert.ReferenceGradIdeal.main (F := Ideal))) ⟨m, fun _ => 0, g⟩ (fun r => (∀ c : Dev Cert.ReferenceGradIdeal.nD,
      r.2.mem ((c.tc : Thread Cert.ReferenceGradIdeal.nD Cert.ReferenceGradIdeal.τ).loc Cert.ReferenceGradIdeal.main_arg0) = m ((c.tc : Thread Cert.ReferenceGradIdeal.nD Cert.ReferenceGradIdeal.τ).loc Cert.ReferenceGradIdeal.main_arg0)
      ∧ r.2.mem ((c.tc : Thread Cert.ReferenceGradIdeal.nD Cert.ReferenceGradIdeal.τ).loc Cert.ReferenceGradIdeal.main_arg1) = m ((c.tc : Thread Cert.ReferenceGradIdeal.nD Cert.ReferenceGradIdeal.τ).loc Cert.ReferenceGradIdeal.main_arg1)
      ∧ r.2.mem ((c.tc : Thread Cert.ReferenceGradIdeal.nD Cert.ReferenceGradIdeal.τ).loc Cert.ReferenceGradIdeal.main_arg2) = m ((c.tc : Thread Cert.ReferenceGradIdeal.nD Cert.ReferenceGradIdeal.τ).loc Cert.ReferenceGradIdeal.main_arg2)
      ∧ r.2.mem ((c.tc : Thread Cert.ReferenceGradIdeal.nD Cert.ReferenceGradIdeal.τ).loc Cert.ReferenceGradIdeal.main_arg3) = m ((c.tc : Thread Cert.ReferenceGradIdeal.nD Cert.ReferenceGradIdeal.τ).loc Cert.ReferenceGradIdeal.main_arg3)
      ∧ r.2.mem ((c.tc : Thread Cert.ReferenceGradIdeal.nD Cert.ReferenceGradIdeal.τ).loc Cert.ReferenceGradIdeal.main_arg4) = m ((c.tc : Thread Cert.ReferenceGradIdeal.nD Cert.ReferenceGradIdeal.τ).loc Cert.ReferenceGradIdeal.main_arg4))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)
      ∧ m' ((c.tc : Thread Cert.ReferenceUpIdeal.nD Cert.ReferenceUpIdeal.τ).loc Cert.ReferenceUpIdeal.main_arg6) = m ((c.tc : Thread Cert.KernelUpIdeal.nD Cert.KernelUpIdeal.τ).loc Cert.KernelUpIdeal.main_arg6)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
          ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v45) = v0 c
          ∧ r.2.mem ((c.tc : Thread Cert.ReferenceUpIdeal.nD Cert.ReferenceUpIdeal.τ).loc Cert.ReferenceUpIdeal.main_v28) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5)
          ∧ r.2.mem ((c.tc : Thread Cert.ReferenceUpIdeal.nD Cert.ReferenceUpIdeal.τ).loc Cert.ReferenceUpIdeal.main_arg6) = m' ((c.tc : Thread Cert.ReferenceUpIdeal.nD Cert.ReferenceUpIdeal.τ).loc Cert.ReferenceUpIdeal.main_arg6))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)
      ∧ m' ((c.tc : Thread Cert.ReferenceProjIdeal.nD Cert.ReferenceProjIdeal.τ).loc Cert.ReferenceProjIdeal.main_arg8) = m ((c.tc : Thread Cert.KernelProjIdeal.nD Cert.KernelProjIdeal.τ).loc Cert.KernelProjIdeal.main_arg8)) →
    ∃ (v0 : (c : Dev Cert.KernelProjIdeal.nD) → Buf (Elt Ideal) ((c.tc : Thread Cert.KernelProjIdeal.nD Cert.KernelProjIdeal.τ).loc Cert.KernelProjIdeal.main_v0_0)) (v1 : (c : Dev Cert.KernelProjIdeal.nD) → Buf (Elt Ideal) ((c.tc : Thread Cert.KernelProjIdeal.nD Cert.KernelProjIdeal.τ).loc Cert.KernelProjIdeal.main_v0_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0_0) = v0 c
          ∧ r.2.mem ((c.tc : Thread Cert.KernelProjIdeal.nD Cert.KernelProjIdeal.τ).loc Cert.KernelProjIdeal.main_v0_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
          ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v51) = v0 c
          ∧ r.2.mem ((c.tc : Thread Cert.ReferenceProjIdeal.nD Cert.ReferenceProjIdeal.τ).loc Cert.ReferenceProjIdeal.main_v34) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7)
          ∧ r.2.mem ((c.tc : Thread Cert.ReferenceProjIdeal.nD Cert.ReferenceProjIdeal.τ).loc Cert.ReferenceProjIdeal.main_arg8) = m' ((c.tc : Thread Cert.ReferenceProjIdeal.nD Cert.ReferenceProjIdeal.τ).loc Cert.ReferenceProjIdeal.main_arg8))

def preserves_KernelAttn_KernelAttnIdeal : Prop :=
  True

def algebraic_KernelAttnIdeal_ReferenceAttnIdeal_pre_finite_arguments [hKernelAttnIdeal : Cert.KernelAttnIdeal.Facts] [hReferenceAttnIdeal : Cert.ReferenceAttnIdeal.Facts] [hPre_finite_arguments : Cert.Pre_finite_arguments.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_arguments m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)) →
    ∃ (v0 : (c : Dev Cert.KernelAttnIdeal.nD) → Buf (Elt Ideal) ((c.tc : Thread Cert.KernelAttnIdeal.nD Cert.KernelAttnIdeal.τ).loc Cert.KernelAttnIdeal.main_v36_0)) (v1 : (c : Dev Cert.KernelAttnIdeal.nD) → Buf (Elt Ideal) ((c.tc : Thread Cert.KernelAttnIdeal.nD Cert.KernelAttnIdeal.τ).loc Cert.KernelAttnIdeal.main_v36_1)) (v2 : (c : Dev Cert.KernelAttnIdeal.nD) → Buf (Elt Ideal) ((c.tc : Thread Cert.KernelAttnIdeal.nD Cert.KernelAttnIdeal.τ).loc Cert.KernelAttnIdeal.main_v36_2)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v36_0) = v0 c
          ∧ r.2.mem ((c.tc : Thread Cert.KernelAttnIdeal.nD Cert.KernelAttnIdeal.τ).loc Cert.KernelAttnIdeal.main_v36_1) = v1 c
          ∧ r.2.mem ((c.tc : Thread Cert.KernelAttnIdeal.nD Cert.KernelAttnIdeal.τ).loc Cert.KernelAttnIdeal.main_v36_2) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v76) = v0 c
          ∧ r.2.mem ((c.tc : Thread Cert.ReferenceAttnIdeal.nD Cert.ReferenceAttnIdeal.τ).loc Cert.ReferenceAttnIdeal.main_v75) = v1 c
          ∧ r.2.mem ((c.tc : Thread Cert.ReferenceAttnIdeal.nD Cert.ReferenceAttnIdeal.τ).loc Cert.ReferenceAttnIdeal.main_v77) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3))

def preserves_KernelGrad_KernelGradIdeal : Prop :=
  True

def algebraic_KernelGradIdeal_ReferenceGradIdeal_pre_finite_inputs [hKernelGradIdeal : Cert.KernelGradIdeal.Facts] [hReferenceGradIdeal : Cert.ReferenceGradIdeal.Facts] [hPre_finite_inputs : Cert.Pre_finite_inputs.Facts] : Prop :=
  ∀ (m : (ℓ : Loc Cert.KernelGradIdeal.nD Cert.KernelGradIdeal.τ Cert.KernelGradIdeal.sig) → Buf (Elt Ideal) ℓ) (g : Dev Cert.KernelGradIdeal.nD → PrngReg)
    (m' : (ℓ : Loc Cert.ReferenceGradIdeal.nD Cert.ReferenceGradIdeal.τ Cert.ReferenceGradIdeal.sig) → Buf (Elt Ideal) ℓ) (g' : Dev Cert.ReferenceGradIdeal.nD → PrngReg), Pre_KernelGradIdeal_finite_inputs m →
    (∀ c : Dev Cert.KernelGradIdeal.nD,
      m' ((c.tc : Thread Cert.ReferenceGradIdeal.nD Cert.ReferenceGradIdeal.τ).loc Cert.ReferenceGradIdeal.main_arg0) = m ((c.tc : Thread Cert.KernelGradIdeal.nD Cert.KernelGradIdeal.τ).loc Cert.KernelGradIdeal.main_arg0)
      ∧ m' ((c.tc : Thread Cert.ReferenceGradIdeal.nD Cert.ReferenceGradIdeal.τ).loc Cert.ReferenceGradIdeal.main_arg1) = m ((c.tc : Thread Cert.KernelGradIdeal.nD Cert.KernelGradIdeal.τ).loc Cert.KernelGradIdeal.main_arg1)
      ∧ m' ((c.tc : Thread Cert.ReferenceGradIdeal.nD Cert.ReferenceGradIdeal.τ).loc Cert.ReferenceGradIdeal.main_arg2) = m ((c.tc : Thread Cert.KernelGradIdeal.nD Cert.KernelGradIdeal.τ).loc Cert.KernelGradIdeal.main_arg2)
      ∧ m' ((c.tc : Thread Cert.ReferenceGradIdeal.nD Cert.ReferenceGradIdeal.τ).loc Cert.ReferenceGradIdeal.main_arg3) = m ((c.tc : Thread Cert.KernelGradIdeal.nD Cert.KernelGradIdeal.τ).loc Cert.KernelGradIdeal.main_arg3)
      ∧ m' ((c.tc : Thread Cert.ReferenceGradIdeal.nD Cert.ReferenceGradIdeal.τ).loc Cert.ReferenceGradIdeal.main_arg4) = m ((c.tc : Thread Cert.KernelGradIdeal.nD Cert.KernelGradIdeal.τ).loc Cert.KernelGradIdeal.main_arg4)) →
    ∃ (v0 : (c : Dev Cert.KernelGradIdeal.nD) → Buf (Elt Ideal) ((c.tc : Thread Cert.KernelGradIdeal.nD Cert.KernelGradIdeal.τ).loc Cert.KernelGradIdeal.main_v9_0)) (v1 : (c : Dev Cert.KernelGradIdeal.nD) → Buf (Elt Ideal) ((c.tc : Thread Cert.KernelGradIdeal.nD Cert.KernelGradIdeal.τ).loc Cert.KernelGradIdeal.main_v9_1)) (v2 : (c : Dev Cert.KernelGradIdeal.nD) → Buf (Elt Ideal) ((c.tc : Thread Cert.KernelGradIdeal.nD Cert.KernelGradIdeal.τ).loc Cert.KernelGradIdeal.main_v9_2)) (v3 : (c : Dev Cert.KernelGradIdeal.nD) → Buf (Elt Ideal) ((c.tc : Thread Cert.KernelGradIdeal.nD Cert.KernelGradIdeal.τ).loc Cert.KernelGradIdeal.main_v9_3)) (v4 : (c : Dev Cert.KernelGradIdeal.nD) → Buf (Elt Ideal) ((c.tc : Thread Cert.KernelGradIdeal.nD Cert.KernelGradIdeal.τ).loc Cert.KernelGradIdeal.main_v9_4)),
      θ_run (Cert.KernelGradIdeal.defs (F := Ideal)) (onTc (τ := Cert.KernelGradIdeal.τ) (Cert.KernelGradIdeal.main (F := Ideal))) ⟨m, fun _ => 0, g⟩ (fun r => ∀ c : Dev Cert.KernelGradIdeal.nD,
          r.2.mem ((c.tc : Thread Cert.KernelGradIdeal.nD Cert.KernelGradIdeal.τ).loc Cert.KernelGradIdeal.main_v9_0) = v0 c
          ∧ r.2.mem ((c.tc : Thread Cert.KernelGradIdeal.nD Cert.KernelGradIdeal.τ).loc Cert.KernelGradIdeal.main_v9_1) = v1 c
          ∧ r.2.mem ((c.tc : Thread Cert.KernelGradIdeal.nD Cert.KernelGradIdeal.τ).loc Cert.KernelGradIdeal.main_v9_2) = v2 c
          ∧ r.2.mem ((c.tc : Thread Cert.KernelGradIdeal.nD Cert.KernelGradIdeal.τ).loc Cert.KernelGradIdeal.main_v9_3) = v3 c
          ∧ r.2.mem ((c.tc : Thread Cert.KernelGradIdeal.nD Cert.KernelGradIdeal.τ).loc Cert.KernelGradIdeal.main_v9_4) = v4 c
          ∧ r.2.mem ((c.tc : Thread Cert.KernelGradIdeal.nD Cert.KernelGradIdeal.τ).loc Cert.KernelGradIdeal.main_arg0) = m ((c.tc : Thread Cert.KernelGradIdeal.nD Cert.KernelGradIdeal.τ).loc Cert.KernelGradIdeal.main_arg0)
          ∧ r.2.mem ((c.tc : Thread Cert.KernelGradIdeal.nD Cert.KernelGradIdeal.τ).loc Cert.KernelGradIdeal.main_arg1) = m ((c.tc : Thread Cert.KernelGradIdeal.nD Cert.KernelGradIdeal.τ).loc Cert.KernelGradIdeal.main_arg1)
          ∧ r.2.mem ((c.tc : Thread Cert.KernelGradIdeal.nD Cert.KernelGradIdeal.τ).loc Cert.KernelGradIdeal.main_arg2) = m ((c.tc : Thread Cert.KernelGradIdeal.nD Cert.KernelGradIdeal.τ).loc Cert.KernelGradIdeal.main_arg2)
          ∧ r.2.mem ((c.tc : Thread Cert.KernelGradIdeal.nD Cert.KernelGradIdeal.τ).loc Cert.KernelGradIdeal.main_arg3) = m ((c.tc : Thread Cert.KernelGradIdeal.nD Cert.KernelGradIdeal.τ).loc Cert.KernelGradIdeal.main_arg3)
          ∧ r.2.mem ((c.tc : Thread Cert.KernelGradIdeal.nD Cert.KernelGradIdeal.τ).loc Cert.KernelGradIdeal.main_arg4) = m ((c.tc : Thread Cert.KernelGradIdeal.nD Cert.KernelGradIdeal.τ).loc Cert.KernelGradIdeal.main_arg4))
      ∧ θ_run (Cert.ReferenceGradIdeal.defs (F := Ideal)) (onTc (τ := Cert.ReferenceGradIdeal.τ) (Cert.ReferenceGradIdeal.main (F := Ideal))) ⟨m', fun _ => 0, g'⟩ (fun r => ∀ c : Dev Cert.ReferenceGradIdeal.nD,
          r.2.mem ((c.tc : Thread Cert.ReferenceGradIdeal.nD Cert.ReferenceGradIdeal.τ).loc Cert.ReferenceGradIdeal.main_v27) = v0 c
          ∧ r.2.mem ((c.tc : Thread Cert.ReferenceGradIdeal.nD Cert.ReferenceGradIdeal.τ).loc Cert.ReferenceGradIdeal.main_v28) = v1 c
          ∧ r.2.mem ((c.tc : Thread Cert.ReferenceGradIdeal.nD Cert.ReferenceGradIdeal.τ).loc Cert.ReferenceGradIdeal.main_v29) = v2 c
          ∧ r.2.mem ((c.tc : Thread Cert.ReferenceGradIdeal.nD Cert.ReferenceGradIdeal.τ).loc Cert.ReferenceGradIdeal.main_v30) = v3 c
          ∧ r.2.mem ((c.tc : Thread Cert.ReferenceGradIdeal.nD Cert.ReferenceGradIdeal.τ).loc Cert.ReferenceGradIdeal.main_v31) = v4 c
          ∧ r.2.mem ((c.tc : Thread Cert.ReferenceGradIdeal.nD Cert.ReferenceGradIdeal.τ).loc Cert.ReferenceGradIdeal.main_arg0) = m' ((c.tc : Thread Cert.ReferenceGradIdeal.nD Cert.ReferenceGradIdeal.τ).loc Cert.ReferenceGradIdeal.main_arg0)
          ∧ r.2.mem ((c.tc : Thread Cert.ReferenceGradIdeal.nD Cert.ReferenceGradIdeal.τ).loc Cert.ReferenceGradIdeal.main_arg1) = m' ((c.tc : Thread Cert.ReferenceGradIdeal.nD Cert.ReferenceGradIdeal.τ).loc Cert.ReferenceGradIdeal.main_arg1)
          ∧ r.2.mem ((c.tc : Thread Cert.ReferenceGradIdeal.nD Cert.ReferenceGradIdeal.τ).loc Cert.ReferenceGradIdeal.main_arg2) = m' ((c.tc : Thread Cert.ReferenceGradIdeal.nD Cert.ReferenceGradIdeal.τ).loc Cert.ReferenceGradIdeal.main_arg2)
          ∧ r.2.mem ((c.tc : Thread Cert.ReferenceGradIdeal.nD Cert.ReferenceGradIdeal.τ).loc Cert.ReferenceGradIdeal.main_arg3) = m' ((c.tc : Thread Cert.ReferenceGradIdeal.nD Cert.ReferenceGradIdeal.τ).loc Cert.ReferenceGradIdeal.main_arg3)
          ∧ r.2.mem ((c.tc : Thread Cert.ReferenceGradIdeal.nD Cert.ReferenceGradIdeal.τ).loc Cert.ReferenceGradIdeal.main_arg4) = m' ((c.tc : Thread Cert.ReferenceGradIdeal.nD Cert.ReferenceGradIdeal.τ).loc Cert.ReferenceGradIdeal.main_arg4))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) →
    ∃ (v0 : (c : Dev Cert.KernelFwdIdeal.nD) → Buf (Elt Ideal) ((c.tc : Thread Cert.KernelFwdIdeal.nD Cert.KernelFwdIdeal.τ).loc Cert.KernelFwdIdeal.main_v0_0)) (v1 : (c : Dev Cert.KernelFwdIdeal.nD) → Buf (Elt Ideal) ((c.tc : Thread Cert.KernelFwdIdeal.nD Cert.KernelFwdIdeal.τ).loc Cert.KernelFwdIdeal.main_v0_1)) (v2 : (c : Dev Cert.KernelFwdIdeal.nD) → Buf (Elt Ideal) ((c.tc : Thread Cert.KernelFwdIdeal.nD Cert.KernelFwdIdeal.τ).loc Cert.KernelFwdIdeal.main_v0_2)) (v3 : (c : Dev Cert.KernelFwdIdeal.nD) → Buf (Elt Ideal) ((c.tc : Thread Cert.KernelFwdIdeal.nD Cert.KernelFwdIdeal.τ).loc Cert.KernelFwdIdeal.main_v0_3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v0_0) = v0 c
          ∧ r.2.mem ((c.tc : Thread Cert.KernelFwdIdeal.nD Cert.KernelFwdIdeal.τ).loc Cert.KernelFwdIdeal.main_v0_1) = v1 c
          ∧ r.2.mem ((c.tc : Thread Cert.KernelFwdIdeal.nD Cert.KernelFwdIdeal.τ).loc Cert.KernelFwdIdeal.main_v0_2) = v2 c
          ∧ r.2.mem ((c.tc : Thread Cert.KernelFwdIdeal.nD Cert.KernelFwdIdeal.τ).loc Cert.KernelFwdIdeal.main_v0_3) = v3 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v24) = v0 c
          ∧ r.2.mem ((c.tc : Thread Cert.ReferenceFwdIdeal.nD Cert.ReferenceFwdIdeal.τ).loc Cert.ReferenceFwdIdeal.main_v25) = v1 c
          ∧ r.2.mem ((c.tc : Thread Cert.ReferenceFwdIdeal.nD Cert.ReferenceFwdIdeal.τ).loc Cert.ReferenceFwdIdeal.main_v26) = v2 c
          ∧ r.2.mem ((c.tc : Thread Cert.ReferenceFwdIdeal.nD Cert.ReferenceFwdIdeal.τ).loc Cert.ReferenceFwdIdeal.main_v27) = v3 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelProj : Cert.KernelProj.Facts) (hKernelProjIdeal : Cert.KernelProjIdeal.Facts) (hReferenceProjIdeal : Cert.ReferenceProjIdeal.Facts) (hKernelAttn : Cert.KernelAttn.Facts) (hKernelAttnIdeal : Cert.KernelAttnIdeal.Facts) (hReferenceAttnIdeal : Cert.ReferenceAttnIdeal.Facts) (hKernelGrad : Cert.KernelGrad.Facts) (hKernelGradIdeal : Cert.KernelGradIdeal.Facts) (hReferenceGradIdeal : Cert.ReferenceGradIdeal.Facts) (hKernelFwd : Cert.KernelFwd.Facts) (hKernelFwdIdeal : Cert.KernelFwdIdeal.Facts) (hReferenceFwdIdeal : Cert.ReferenceFwdIdeal.Facts) (hPre_finite_arguments : Cert.Pre_finite_arguments.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelAttn (hKernelAttn := hKernelAttn)
    ∧ quiescent_KernelAttnIdeal (hKernelAttnIdeal := hKernelAttnIdeal)
    ∧ quiescent_KernelAttnIdeal_pre_finite_arguments (hKernelAttnIdeal := hKernelAttnIdeal) (hPre_finite_arguments := hPre_finite_arguments)
    ∧ quiescent_ReferenceAttnIdeal (hReferenceAttnIdeal := hReferenceAttnIdeal)
    ∧ quiescent_ReferenceAttnIdeal_pre_finite_arguments (hReferenceAttnIdeal := hReferenceAttnIdeal) (hPre_finite_arguments := hPre_finite_arguments)
    ∧ quiescent_KernelGrad (hKernelGrad := hKernelGrad)
    ∧ quiescent_KernelGradIdeal (hKernelGradIdeal := hKernelGradIdeal)
    ∧ quiescent_KernelGradIdeal_pre_finite_inputs (hKernelGradIdeal := hKernelGradIdeal) (hPre_finite_inputs := hPre_finite_inputs)
    ∧ quiescent_ReferenceGradIdeal (hReferenceGradIdeal := hReferenceGradIdeal)
    ∧ quiescent_ReferenceGradIdeal_pre_finite_inputs (hReferenceGradIdeal := hReferenceGradIdeal) (hPre_finite_inputs := hPre_finite_inputs)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelProj_KernelProjIdeal
    ∧ algebraic_KernelProjIdeal_ReferenceProjIdeal (hKernelProjIdeal := hKernelProjIdeal) (hReferenceProjIdeal := hReferenceProjIdeal)
    ∧ preserves_KernelAttn_KernelAttnIdeal
    ∧ algebraic_KernelAttnIdeal_ReferenceAttnIdeal_pre_finite_arguments (hKernelAttnIdeal := hKernelAttnIdeal) (hReferenceAttnIdeal := hReferenceAttnIdeal) (hPre_finite_arguments := hPre_finite_arguments)
    ∧ preserves_KernelGrad_KernelGradIdeal
    ∧ algebraic_KernelGradIdeal_ReferenceGradIdeal_pre_finite_inputs (hKernelGradIdeal := hKernelGradIdeal) (hReferenceGradIdeal := hReferenceGradIdeal) (hPre_finite_inputs := hPre_finite_inputs)
    ∧ preserves_KernelFwd_KernelFwdIdeal
    ∧ algebraic_KernelFwdIdeal_ReferenceFwdIdeal (hKernelFwdIdeal := hKernelFwdIdeal) (hReferenceFwdIdeal := hReferenceFwdIdeal)
-- ==== Pre_finite_arguments.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .bf16) : IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_v16 : IVec S4096x1024 1 := andi main_v3 main_v7
  let main_v17 : IVec S4096x1024 1 := andi main_v16 main_v11
  let main_v18 : IVec S4096x1024 1 := andi main_v17 main_v15
  main_v18
-- ==== Pre_finite_inputs.lean ====
abbrev S4096x1024 : Shape := ⟨2, ![4096, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S2816x1024 : S_.BroadcastsInDim S2816x1024 (![] : Fin 0 → Fin S2816x1024.rank)
  reducesTo_S4096x1024_S_d0_1 : S4096x1024.ReducesTo [0, 1] S_
  h_S_ : 0 < S_.numel
  reducesTo_S2816x1024_S_d0_1 : S2816x1024.ReducesTo [0, 1] S_

variable [Facts]

def fn_part1 {F : FTy → Type} [FloatOps F] (main_v7 : IVec S4096x1024 1) (main_v11 : IVec S2816x1024 1) (main_v15 : IVec S2816x1024 1) (main_v17 : FVec F S2816x1024 .f32) (main_v18 : FVec F S2816x1024 .f32) : IVec S_ 1 :=
  let main_v19 : IVec S2816x1024 1 := cmpf .olt main_v17 main_v18
  let main_v20 : IVec S2816x1024 1 := andi main_v11 main_v15
  let main_v21 : IVec S2816x1024 1 := andi main_v20 main_v19
  let main_c : IVec S_ 1 := constantI S_ 1 1#1
  let main_v22 : IVec S_ 1 := (fun x v => Host.reduce IntOp.andi x v reducesTo_S4096x1024_S_d0_1 h_S_) main_v7 main_c
  let main_c_4 : IVec S_ 1 := constantI S_ 1 1#1
  let main_v23 : IVec S_ 1 := (fun x v => Host.reduce IntOp.andi x v reducesTo_S2816x1024_S_d0_1 h_S_) main_v21 main_c_4
  let main_v24 : IVec S_ 1 := andi main_v22 main_v23
  main_v24

def fn {F : FTy → Type} [FloatOps F] (main_arg0 : FVec F S4096x1024 .f32) (main_arg1 : FVec F S4096x1024 .bf16) (main_arg2 : FVec F S2816x1024 .bf16) (main_arg3 : FVec F S2816x1024 .bf16) (main_arg4 : FVec F S2816x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : IVec S4096x1024 1 := andi main_v2 main_v6
  let main_v8 : FVec F S2816x1024 .f32 := (extf .f32 · bitsLt_bf16_f32) main_arg2
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  let main_v12 : FVec F S2816x1024 .f32 := (extf .f32 · bitsLt_bf16_f32) main_arg3
  let main_v13 : FVec F S2816x1024 .f32 := Host.absf main_v12
  let main_cst_2 : FVec F S_ .f32 := constant S_ .f32 0x7F800000#32
  let main_v14 : FVec F S2816x1024 .f32 := broadcastInDim S2816x1024 ![] bcast_S_S2816x1024 main_cst_2
  let main_v15 : IVec S2816x1024 1 := cmpf .olt main_v13 main_v14
  let main_v16 : FVec F S2816x1024 .f32 := (extf .f32 · bitsLt_bf16_f32) main_arg4
  let main_v17 : FVec F S2816x1024 .f32 := Host.absf main_v16
  let main_cst_3 : FVec F S_ .f32 := constant S_ .f32 0x7F800000#32
  let main_v18 : FVec F S2816x1024 .f32 := broadcastInDim S2816x1024 ![] bcast_S_S2816x1024 main_cst_3
  fn_part1 (F := F) main_v7 main_v11 main_v15 main_v17 main_v18
-- ==== Kernel.lean ====
abbrev S4096x1024 : Shape := ⟨2, ![4096, 1024]⟩
abbrev S4096x3072 : Shape := ⟨2, ![4096, 3072]⟩
abbrev S3x1024 : Shape := ⟨2, ![3, 1024]⟩
abbrev S2048x256 : Shape := ⟨2, ![2048, 256]⟩
abbrev S2048x768 : Shape := ⟨2, ![2048, 768]⟩
abbrev S3x256 : Shape := ⟨2, ![3, 256]⟩
abbrev S1x256 : Shape := ⟨2, ![1, 256]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .bf16⟩
  | .hbm, ⟨4, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x768, .bf16⟩
  | .local _ .vmem, ⟨3, _⟩ => ⟨S2048x768, .bf16⟩
  | .local _ .vmem, ⟨4, _⟩ => ⟨S3x256, .f32⟩
  | .local _ .vmem, ⟨5, _⟩ => ⟨S3x256, .f32⟩
  | .local _ .vmem, ⟨6, _⟩ => ⟨S2048x768, .bf16⟩
  | .local _ .vmem, ⟨7, _⟩ => ⟨S2048x768, .bf16⟩
  | .local _ .vmem, ⟨8, _⟩ => ⟨S3x256, .f32⟩
  | .local _ .vmem, ⟨9, _⟩ => ⟨S3x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4096x1024 : Shape := ⟨2, ![4096, 1024]⟩
abbrev S4096x3072 : Shape := ⟨2, ![4096, 3072]⟩
abbrev S3x1024 : Shape := ⟨2, ![3, 1024]⟩
abbrev S2x2048x4x3x256 : Shape := ⟨5, ![2, 2048, 4, 3, 256]⟩
abbrev S2x2048x4x1x256 : Shape := ⟨5, ![2, 2048, 4, 1, 256]⟩
abbrev S2x2048x4x256 : Shape := ⟨4, ![2, 2048, 4, 256]⟩
abbrev S2x2048x1024 : Shape := ⟨3, ![2, 2048, 1024]⟩
abbrev S_ : Shape := ⟨0, ![]⟩
abbrev S2x2x1024 : Shape := ⟨3, ![2, 2, 1024]⟩
abbrev S2x2050x1024 : Shape := ⟨3, ![2, 2050, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .f32⟩
  | .hbm, ⟨4, _⟩ => ⟨S2x2048x4x3x256, .f32⟩
  | .hbm, ⟨5, _⟩ => ⟨S2x2048x4x1x256, .f32⟩
  | .hbm, ⟨6, _⟩ => ⟨S2x2048x4x256, .f32⟩
  | .hbm, ⟨7, _⟩ => ⟨S2x2048x1024, .f32⟩
  | .hbm, ⟨8, _⟩ => ⟨S2x2048x4x1x256, .f32⟩
  | .hbm, ⟨9, _⟩ => ⟨S2x2048x4x256, .f32⟩
  | .hbm, ⟨10, _⟩ => ⟨S2x2048x1024, .f32⟩
  | .hbm, ⟨11, _⟩ => ⟨S2x2048x4x1x256, .f32⟩
  | .hbm, ⟨12, _⟩ => ⟨S2x2048x4x256, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2x1024, .f32⟩
  | .hbm, ⟨17, _⟩ => ⟨S2x2050x1024, .f32⟩
  | .hbm, ⟨18, _⟩ => ⟨S_, .f32⟩
  | .hbm, ⟨19, _⟩ => ⟨S2x2x1024, .f32⟩
  | .hbm, ⟨20, _⟩ => ⟨S1x1024, .f32⟩
  | .hbm, ⟨21, _⟩ => ⟨S1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1x1024, .f32⟩
  | .hbm, ⟨27, _⟩ => ⟨S1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S1x1024, .f32⟩
  | .hbm, ⟨34, _⟩ => ⟨S1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S4096x1024, .f32⟩
  | .hbm, ⟨42, _⟩ => ⟨S4096x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S1024, .f32⟩
  | .hbm, ⟨51, _⟩ => ⟨S1x1x1024, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S2x2050x1024, .f32⟩
  | .hbm, ⟨56, _⟩ => ⟨S1x1024, .f32⟩
  | .hbm, ⟨57, _⟩ => ⟨S_, .f32⟩
  | .hbm, ⟨58, _⟩ => ⟨S3x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S_, .f32⟩
  | .hbm, ⟨66, _⟩ => ⟨S1024, .f32⟩
  | .hbm, ⟨67, _⟩ => ⟨S_, .f32⟩
  | .hbm, ⟨68, _⟩ => ⟨S2x2050x1024, .f32⟩
  | .hbm, ⟨69, _⟩ => ⟨S2x2050x1024, .f32⟩
  | .hbm, ⟨70, _⟩ => ⟨S1x1024, .f32⟩
  | .hbm, ⟨71, _⟩ => ⟨S_, .f32⟩
  | .hbm, ⟨72, _⟩ => ⟨S3x1024, .f32⟩
  | .hbm, ⟨73, _⟩ => ⟨S3x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S_, .f32⟩
  | .hbm, ⟨78, _⟩ => ⟨S1024, .f32⟩
  | .hbm, ⟨79, _⟩ => ⟨S1x1x1024, .f32⟩
  | .hbm, ⟨80, _⟩ => ⟨S_, .f32⟩
  | .hbm, ⟨81, _⟩ => ⟨S1024, .f32⟩
  | .hbm, ⟨82, _⟩ => ⟨S_, .f32⟩
  | .hbm, ⟨83, _⟩ => ⟨S2x2050x1024, .f32⟩
  | .hbm, ⟨84, _⟩ => ⟨S2x2050x1024, .f32⟩
  | .hbm, ⟨85, _⟩ => ⟨S1x1024, .f32⟩
  | .hbm, ⟨86, _⟩ => ⟨S_, .f32⟩
  | .hbm, ⟨87, _⟩ => ⟨S3x1024, .f32⟩
  | .hbm, ⟨88, _⟩ => ⟨S3x1024, .f32⟩
  | .hbm, ⟨89, _⟩ => ⟨S2x2x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S2x2048x4x256, .f32⟩
  | .hbm, ⟨94, _⟩ => ⟨S2x2048x4x1x256, .f32⟩
  | .hbm, ⟨95, _⟩ => ⟨S_, .f32⟩
  | .hbm, ⟨96, _⟩ => ⟨S2x2048x4x3x256, .f32⟩
  | .hbm, ⟨97, _⟩ => ⟨S2x2048x4x256, .f32⟩
  | .hbm, ⟨98, _⟩ => ⟨S2x2048x4x1x256, .f32⟩
  | .hbm, ⟨99, _⟩ => ⟨S_, .f32⟩
  | .hbm, ⟨100, _⟩ => ⟨S2x2048x4x3x256, .f32⟩
  | .hbm, ⟨101, _⟩ => ⟨S2x2048x4x3x256, .f32⟩
  | .hbm, ⟨102, _⟩ => ⟨S2x2048x4x256, .f32⟩
  | .hbm, ⟨103, _⟩ => ⟨S2x2048x4x1x256, .f32⟩
  | .hbm, ⟨104, _⟩ => ⟨S_, .f32⟩
  | .hbm, ⟨105, _⟩ => ⟨S2x2048x4x3x256, .f32⟩
  | .hbm, ⟨106, _⟩ => ⟨S2x2048x4x3x256, .f32⟩
  | .hbm, ⟨107, _⟩ => ⟨S4096x3072, .f32⟩
  | .hbm, ⟨108, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_1 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_cst_3 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_cst_7 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_cst_10 : Ref sig .tc := ⟨.hbm, 80, rfl⟩
abbrev main_v66 : Ref sig .tc := ⟨.hbm, 81, rfl⟩
abbrev main_cst_11 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_12 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_13 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_14 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_15 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩

abbrev nD : Nat := 1
abbrev τ : Topo := Topo.v7x

variable {F : FTy → Type} [FloatOps F]
-- ==== KernelUp.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceUpIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== KernelProj.lean ====
abbrev S4096x768 : Shape := ⟨2, ![4096, 768]⟩
abbrev S4096x3072 : Shape := ⟨2, ![4096, 3072]⟩
abbrev S4096x2048 : Shape := ⟨2, ![4096, 2048]⟩
abbrev S768x1024 : Shape := ⟨2, ![768, 1024]⟩
abbrev S3072x1024 : Shape := ⟨2, ![3072, 1024]⟩
abbrev S2048x1024 : Shape := ⟨2, ![2048, 1024]⟩
abbrev S4096x1024 : Shape := ⟨2, ![4096, 1024]⟩
abbrev S1x1024 : Shape := ⟨2, ![1, 1024]⟩
abbrev S512x768 : Shape := ⟨2, ![512, 768]⟩
abbrev S512x3072 : Shape := ⟨2, ![512, 3072]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x768, .bf16⟩
  | .hbm, ⟨1, _⟩ => ⟨S4096x3072, .bf16⟩
  | .hbm, ⟨2, _⟩ => ⟨S4096x2048, .bf16⟩
  | .hbm, ⟨3, _⟩ => ⟨S768x1024, .bf16⟩
  | .hbm, ⟨4, _⟩ => ⟨S3072x1024, .bf16⟩
  | .hbm, ⟨5, _⟩ => ⟨S2048x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x3072, .bf16⟩
  | .local _ .vmem, ⟨3, _⟩ => ⟨S512x3072, .bf16⟩
  | .local _ .vmem, ⟨4, _⟩ => ⟨S512x2048, .bf16⟩
  | .local _ .vmem, ⟨5, _⟩ => ⟨S512x2048, .bf16⟩
  | .local _ .vmem, ⟨6, _⟩ => ⟨S768x1024, .bf16⟩
  | .local _ .vmem, ⟨7, _⟩ => ⟨S3072x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceProjIdeal.lean ====
abbrev S4096x768 : Shape := ⟨2, ![4096, 768]⟩
abbrev S4096x3072 : Shape := ⟨2, ![4096, 3072]⟩
abbrev S4096x2048 : Shape := ⟨2, ![4096, 2048]⟩
abbrev S768x1024 : Shape := ⟨2, ![768, 1024]⟩
abbrev S3072x1024 : Shape := ⟨2, ![3072, 1024]⟩
abbrev S2048x1024 : Shape := ⟨2, ![2048, 1024]⟩
abbrev S4096x1024 : Shape := ⟨2, ![4096, 1024]⟩
abbrev S1x1024 : Shape := ⟨2, ![1, 1024]⟩
abbrev S1024x768 : Shape := ⟨2, ![1024, 768]⟩
abbrev S1024x3072 : Shape := ⟨2, ![1024, 3072]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x3072, .bf16⟩
  | .hbm, ⟨2, _⟩ => ⟨S4096x2048, .bf16⟩
  | .hbm, ⟨3, _⟩ => ⟨S768x1024, .bf16⟩
  | .hbm, ⟨4, _⟩ => ⟨S3072x1024, .bf16⟩
  | .hbm, ⟨5, _⟩ => ⟨S2048x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S768x1024, .f32⟩
  | .hbm, ⟨10, _⟩ => ⟨S1024x768, .f32⟩
  | .hbm, ⟨11, _⟩ => ⟨S3072x1024, .f32⟩
  | .hbm, ⟨12, _⟩ => ⟨S1024x3072, .f32⟩
  | .hbm, ⟨13, _⟩ => ⟨S2048x1024, .f32⟩
  | .hbm, ⟨14, _⟩ => ⟨S1024x2048, .f32⟩
  | .hbm, ⟨15, _⟩ => ⟨S4096x768, .f32⟩
  | .hbm, ⟨16, _⟩ => ⟨S4096x3072, .f32⟩
  | .hbm, ⟨17, _⟩ => ⟨S4096x2048, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x768, .f32⟩
  | .hbm, ⟨38, _⟩ => ⟨S4096x3072, .f32⟩
  | .hbm, ⟨39, _⟩ => ⟨S4096x2048, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== KernelAttn.lean ====
abbrev S4096x1024 : Shape := ⟨2, ![4096, 1024]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8x1 : Shape := ⟨4, ![2, 2048, 8, 1]⟩
abbrev S2048x128 : Shape := ⟨2, ![2048, 128]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 50
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S2x2048x8x128, .f32⟩
  | .hbm, ⟨6, _⟩ => ⟨S4096x1024, .f32⟩
  | .hbm, ⟨7, _⟩ => ⟨S2x2048x8x128, .f32⟩
  | .hbm, ⟨8, _⟩ => ⟨S4096x1024, .f32⟩
  | .hbm, ⟨9, _⟩ => ⟨S2x2048x8x128, .f32⟩
  | .hbm, ⟨10, _⟩ => ⟨S2x8x2048x2048, .f32⟩
  | .hbm, ⟨11, _⟩ => ⟨S_, .f32⟩
  | .hbm, ⟨12, _⟩ => ⟨S2x8x2048x2048, .f32⟩
  | .hbm, ⟨13, _⟩ => ⟨S2x8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x1x2048x2048, .i1⟩
  | .hbm, ⟨22, _⟩ => ⟨S_, .f32⟩
  | .hbm, ⟨23, _⟩ => ⟨S_, .f32⟩
  | .hbm, ⟨24, _⟩ => ⟨S2x8x2048x2048, .i1⟩
  | .hbm, ⟨25, _⟩ => ⟨S2x8x2048x2048, .f32⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .f32⟩
  | .hbm, ⟨38, _⟩ => ⟨S2x8x128x2048, .f32⟩
  | .hbm, ⟨39, _⟩ => ⟨S2x2048x8x128, .f32⟩
  | .hbm, ⟨40, _⟩ => ⟨S4096x1024, .f32⟩
  | .hbm, ⟨41, _⟩ => ⟨S4096x1024, .bf16⟩
  | .hbm, ⟨42, _⟩ => ⟨S2x8x2048x1, .f32⟩
  | .hbm, ⟨43, _⟩ => ⟨S2x8x2048x1, .f32⟩
  | .hbm, ⟨44, _⟩ => ⟨S2x2048x8x1, .f32⟩
  | .hbm, ⟨45, _⟩ => ⟨S2x2048x8x128, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | .local _ .vmem, ⟨14, _⟩ => ⟨S1024x128, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | .local _ .vmem, ⟨18, _⟩ => ⟨S1024x128, .f32⟩
  | .local _ .vmem, ⟨19, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 2], ![false, false, false]⟩

def k0_mult1 (i : grid0.Coords) : BitVec 32 :=
  let arg2 : BitVec 32 := BitVec.ofNat 32 (i 2).val
  let c1024_i32 : BitVec 32 := 1024#32
  let v13 : BitVec 32 := Scalar.muli arg2 c1024_i32
  v13
def k0_off1 (i : grid0.Coords) : Fin 2 → Nat :=
  let arg2 : BitVec 32 := BitVec.ofNat 32 (i 2).val
  let c1024_i32 : BitVec 32 := 1024#32
  let v13 : BitVec 32 := Scalar.muli arg2 c1024_i32
  let v14 : BitVec 32 := v13
  let v15 : Index := Scalar.indexCast v14
  let c0_9 : Index := 0#32
  ![v15.toNat, 0]
@[reducible] def k0_t1_loop (i : grid0.Coords) : Scf.Loop 32 :=
  let arg2 : BitVec 32 := BitVec.ofNat 32 (i 2).val
  let c1_i32 : BitVec 32 := 1#32
  let v69 : BitVec 32 := Scalar.addi arg2 c1_i32
  let c2_i32 : BitVec 32 := 2#32
  let v70 : BitVec 32 := Scalar.subi c2_i32 v69
  let c1_i32_33 : BitVec 32 := 1#32
  let v72 : BitVec 32 := Scalar.divsi v70 c1_i32_33
  let v73 : BitVec 32 := Scalar.muli v72 c1_i32_33
  let v74 : BitVec 32 := Scalar.addi v69 v73
  let c1_i32_34 : BitVec 32 := 1#32
  ⟨v69, v74, c1_i32_34⟩
def k0_mult2 (i : grid0.Coords) (k0_t1 : Fin (k0_t1_loop i).trips) : BitVec 32 :=
  let arg2 : BitVec 32 := BitVec.ofNat 32 (i 2).val
  let c1_i32 : BitVec 32 := 1#32
  let v69 : BitVec 32 := Scalar.addi arg2 c1_i32
  let c1_i32_34 : BitVec 32 := 1#32
  let arg14 : BitVec 32 := Scf.iv v69 c1_i32_34 k0_t1
  let c1024_i32_44 : BitVec 32 := 1024#32
  let v80 : BitVec 32 := Scalar.muli arg14 c1024_i32_44
  v80
def k0_off2 (i : grid0.Coords) (k0_t1 : Fin (k0_t1_loop i).trips) : Fin 2 → Nat :=
  let arg2 : BitVec 32 := BitVec.ofNat 32 (i 2).val
  let c1_i32 : BitVec 32 := 1#32
  let v69 : BitVec 32 := Scalar.addi arg2 c1_i32
  let c1_i32_34 : BitVec 32 := 1#32
  let arg14 : BitVec 32 := Scf.iv v69 c1_i32_34 k0_t1
  let c1024_i32_44 : BitVec 32 := 1024#32
  let v80 : BitVec 32 := Scalar.muli arg14 c1024_i32_44
  let v81 : BitVec 32 := v80
  let v82 : Index := Scalar.indexCast v81
  let c0_45 : Index := 0#32
  ![v82.toNat, 0]
@[reducible] def k0_t2_loop (i : grid0.Coords) : Scf.Loop 32 :=
  let arg2 : BitVec 32 := BitVec.ofNat 32 (i 2).val
  let c1_i32 : BitVec 32 := 1#32
  let v69 : BitVec 32 := Scalar.addi arg2 c1_i32
  let c2_i32 : BitVec 32 := 2#32
  let v70 : BitVec 32 := Scalar.subi c2_i32 v69
  let c1_i32_33 : BitVec 32 := 1#32
  let v72 : BitVec 32 := Scalar.divsi v70 c1_i32_33
  let v73 : BitVec 32 := Scalar.muli v72 c1_i32_33
  let v74 : BitVec 32 := Scalar.addi v69 v73
  let v71 : BitVec 32 := Scalar.addi v69 v70
  let c1_i32_35 : BitVec 32 := 1#32
  ⟨v74, v71, c1_i32_35⟩
def k0_mult3 (i : grid0.Coords) (k0_t2 : Fin (k0_t2_loop i).trips) : BitVec 32 :=
  let arg2 : BitVec 32 := BitVec.ofNat 32 (i 2).val
  let c1_i32 : BitVec 32 := 1#32
  let v69 : BitVec 32 := Scalar.addi arg2 c1_i32
  let c2_i32 : BitVec 32 := 2#32
  let v70 : BitVec 32 := Scalar.subi c2_i32 v69
  let c1_i32_33 : BitVec 32 := 1#32
  let v72 : BitVec 32 := Scalar.divsi v70 c1_i32_33
  let v73 : BitVec 32 := Scalar.muli v72 c1_i32_33
  let v74 : BitVec 32 := Scalar.addi v69 v73
  let c1_i32_35 : BitVec 32 := 1#32
  let arg14 : BitVec 32 := Scf.iv v74 c1_i32_35 k0_t2
  let c1024_i32_44 : BitVec 32 := 1024#32
  let v80 : BitVec 32 := Scalar.muli arg14 c1024_i32_44
  v80
def k0_off3 (i : grid0.Coords) (k0_t2 : Fin (k0_t2_loop i).trips) : Fin 2 → Nat :=
  let arg2 : BitVec 32 := BitVec.ofNat 32 (i 2).val
  let c1_i32 : BitVec 32 := 1#32
  let v69 : BitVec 32 := Scalar.addi arg2 c1_i32
  let c2_i32 : BitVec 32 := 2#32
  let v70 : BitVec 32 := Scalar.subi c2_i32 v69
  let c1_i32_33 : BitVec 32 := 1#32
  let v72 : BitVec 32 := Scalar.divsi v70 c1_i32_33
  let v73 : BitVec 32 := Scalar.muli v72 c1_i32_33
  let v74 : BitVec 32 := Scalar.addi v69 v73
  let c1_i32_35 : BitVec 32 := 1#32
  let arg14 : BitVec 32 := Scf.iv v74 c1_i32_35 k0_t2
  let c1024_i32_44 : BitVec 32 := 1024#32
  let v80 : BitVec 32 := Scalar.muli arg14 c1024_i32_44
  let v81 : BitVec 32 := v80
  let v82 : Index := Scalar.indexCast v81
  let c0_45 : Index := 0#32
  ![v82.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceAttnIdeal.lean ====
abbrev S4096x1024 : Shape := ⟨2, ![4096, 1024]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x128 : Shape := ⟨4, ![2, 8, 2048, 128]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S2x2048x8x128, .f32⟩
  | .hbm, ⟨8, _⟩ => ⟨S2x2048x8x128, .f32⟩
  | .hbm, ⟨9, _⟩ => ⟨S2x2048x8x128, .f32⟩
  | .hbm, ⟨10, _⟩ => ⟨S2x8x2048x2048, .f32⟩
  | .hbm, ⟨11, _⟩ => ⟨S_, .f32⟩
  | .hbm, ⟨12, _⟩ => ⟨S2x8x2048x2048, .f32⟩
  | .hbm, ⟨13, _⟩ => ⟨S2x8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x1x2048x2048, .i1⟩
  | .hbm, ⟨22, _⟩ => ⟨S_, .f32⟩
  | .hbm, ⟨23, _⟩ => ⟨S_, .f32⟩
  | .hbm, ⟨24, _⟩ => ⟨S2x8x2048x2048, .i1⟩
  | .hbm, ⟨25, _⟩ => ⟨S2x8x2048x2048, .f32⟩
  | .hbm, ⟨26, _⟩ => ⟨S2x8x2048x2048, .f32⟩
  | .hbm, ⟨27, _⟩ => ⟨S_, .f32⟩
  | .hbm, ⟨28, _⟩ => ⟨S2x8x2048x2048, .f32⟩
  | .hbm, ⟨29, _⟩ => ⟨S_, .f32⟩
  | .hbm, ⟨30, _⟩ => ⟨S2x8x2048, .f32⟩
  | .hbm, ⟨31, _⟩ => ⟨S2x8x2048x1, .f32⟩
  | .hbm, ⟨32, _⟩ => ⟨S2x8x2048x2048, .f32⟩
  | .hbm, ⟨33, _⟩ => ⟨S2x8x2048x2048, .i1⟩
  | .hbm, ⟨34, _⟩ => ⟨S2x8x2048x2048, .f32⟩
  | .hbm, ⟨35, _⟩ => ⟨S_, .f32⟩
  | .hbm, ⟨36, _⟩ => ⟨S2x8x2048, .f32⟩
  | .hbm, ⟨37, _⟩ => ⟨S_, .f32⟩
  | .hbm, ⟨38, _⟩ => ⟨S2x8x2048, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S2x8x2048, .i1⟩
  | .hbm, ⟨43, _⟩ => ⟨S_, .f32⟩
  | .hbm, ⟨44, _⟩ => ⟨S2x8x2048, .f32⟩
  | .hbm, ⟨45, _⟩ => ⟨S2x8x2048, .i1⟩
  | .hbm, ⟨46, _⟩ => ⟨S_, .f32⟩
  | .hbm, ⟨47, _⟩ => ⟨S2x8x2048, .f32⟩
  | .hbm, ⟨48, _⟩ => ⟨S_, .f32⟩
  | .hbm, ⟨49, _⟩ => ⟨S2x8x2048, .f32⟩
  | .hbm, ⟨50, _⟩ => ⟨S_, .f32⟩
  | .hbm, ⟨51, _⟩ => ⟨S2x8x2048, .f32⟩
  | .hbm, ⟨52, _⟩ => ⟨S2x8x2048, .f32⟩
  | .hbm, ⟨53, _⟩ => ⟨S2x8x2048, .f32⟩
  | .hbm, ⟨54, _⟩ => ⟨S2x8x2048x1, .f32⟩
  | .hbm, ⟨55, _⟩ => ⟨S2x8x2048x2048, .f32⟩
  | .hbm, ⟨56, _⟩ => ⟨S2x8x2048x2048, .f32⟩
  | .hbm, ⟨57, _⟩ => ⟨S2x8x2048x2048, .f32⟩
  | .hbm, ⟨58, _⟩ => ⟨S_, .f32⟩
  | .hbm, ⟨59, _⟩ => ⟨S2x8x2048, .f32⟩
  | .hbm, ⟨60, _⟩ => ⟨S2x8x2048x1, .f32⟩
  | .hbm, ⟨61, _⟩ => ⟨S2x8x2048x2048, .f32⟩
  | .hbm, ⟨62, _⟩ => ⟨S2x8x2048x2048, .f32⟩
  | .hbm, ⟨63, _⟩ => ⟨S2x8x2048x1, .f32⟩
  | .hbm, ⟨64, _⟩ => ⟨S_, .f32⟩
  | .hbm, ⟨65, _⟩ => ⟨S2x8x2048x1, .f32⟩
  | .hbm, ⟨66, _⟩ => ⟨S2x8x2048x1, .f32⟩
  | .hbm, ⟨67, _⟩ => ⟨S2x8x128x2048, .f32⟩
  | .hbm, ⟨68, _⟩ => ⟨S2x2048x8x128, .f32⟩
  | .hbm, ⟨69, _⟩ => ⟨S4096x1024, .f32⟩
  | .hbm, ⟨70, _⟩ => ⟨S4096x1024, .f32⟩
  | .hbm, ⟨71, _⟩ => ⟨S2x2048x8x128, .f32⟩
  | .hbm, ⟨72, _⟩ => ⟨S2x8x128x2048, .f32⟩
  | .hbm, ⟨73, _⟩ => ⟨S2x8x2048x2048, .f32⟩
  | .hbm, ⟨74, _⟩ => ⟨S2x8x128x2048, .f32⟩
  | .hbm, ⟨75, _⟩ => ⟨S2x2048x8x128, .f32⟩
  | .hbm, ⟨76, _⟩ => ⟨S2x8x2048x2048, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048, .f32⟩
  | .hbm, ⟨81, _⟩ => ⟨S2x8x2048x1, .f32⟩
  | .hbm, ⟨82, _⟩ => ⟨S2x8x2048x1, .f32⟩
  | .hbm, ⟨83, _⟩ => ⟨S2x8x2048x2048, .f32⟩
  | .hbm, ⟨84, _⟩ => ⟨S2x8x2048x2048, .f32⟩
  | .hbm, ⟨85, _⟩ => ⟨S_, .f32⟩
  | .hbm, ⟨86, _⟩ => ⟨S2x8x2048, .f32⟩
  | .hbm, ⟨87, _⟩ => ⟨S2x8x2048x2048, .f32⟩
  | .hbm, ⟨88, _⟩ => ⟨S2x8x2048x2048, .f32⟩
  | .hbm, ⟨89, _⟩ => ⟨S2x8x2048x2048, .f32⟩
  | .hbm, ⟨90, _⟩ => ⟨S_, .f32⟩
  | .hbm, ⟨91, _⟩ => ⟨S2x8x2048x2048, .f32⟩
  | .hbm, ⟨92, _⟩ => ⟨S2x8x2048x2048, .f32⟩
  | .hbm, ⟨93, _⟩ => ⟨S_, .f32⟩
  | .hbm, ⟨94, _⟩ => ⟨S2x8x2048x2048, .f32⟩
  | .hbm, ⟨95, _⟩ => ⟨S2x8x2048x2048, .f32⟩
  | .hbm, ⟨96, _⟩ => ⟨S2x8x2048x128, .f32⟩
  | .hbm, ⟨97, _⟩ => ⟨S2x2048x8x128, .f32⟩
  | .hbm, ⟨98, _⟩ => ⟨S2x8x2048x128, .f32⟩
  | .hbm, ⟨99, _⟩ => ⟨S2x2048x8x128, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_v17_1 : Ref sig .tc := ⟨.hbm, 24, rfl⟩
abbrev main_call0_v2 : Ref sig .tc := ⟨.hbm, 25, rfl⟩
abbrev main_v17_0 : Ref sig .tc := ⟨.hbm, 26, rfl⟩
abbrev main_call0_cst : Ref sig .tc := ⟨.hbm, 27, rfl⟩
abbrev main_v17_2 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== KernelGrad.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S1024x1024 : Shape := ⟨2, ![1024, 1024]⟩
abbrev S1024x256 : Shape := ⟨2, ![1024, 256]⟩
abbrev S256x1024 : Shape := ⟨2, ![256, 1024]⟩
abbrev S256x256 : Shape := ⟨2, ![256, 256]⟩
abbrev S16x256 : Shape := ⟨2, ![16, 256]⟩

abbrev nBuf : Space → Nat
  | .hbm => 19
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S4096x2816, .bf16⟩
  | .hbm, ⟨10, _⟩ => ⟨S2816x1024, .f32⟩
  | .hbm, ⟨11, _⟩ => ⟨S1024x2816, .f32⟩
  | .hbm, ⟨12, _⟩ => ⟨S4096x2816, .f32⟩
  | .hbm, ⟨13, _⟩ => ⟨S4096x2816, .bf16⟩
  | .hbm, ⟨14, _⟩ => ⟨S4096x2816, .bf16⟩
  | .hbm, ⟨15, _⟩ => ⟨S4096x2816, .bf16⟩
  | .hbm, ⟨16, _⟩ => ⟨S2816x1024, .bf16⟩
  | .hbm, ⟨17, _⟩ => ⟨S2816x1024, .bf16⟩
  | .hbm, ⟨18, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1024x256, .f32⟩
  | .local _ .vmem, ⟨23, _⟩ => ⟨S1024x256, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2066 : Index := Scalar.indexCast v1
  let c0_1018 : Index := 0#32
  ![v2066.toNat, 0]
def k0_mult2 (i : grid0.Coords) : BitVec 32 :=
  let arg1 : BitVec 32 := BitVec.ofNat 32 (i 1).val
  let c1024_i32_3 : BitVec 32 := 1024#32
  let v8 : BitVec 32 := Scalar.muli arg1 c1024_i32_3
  let c0_i32_4 : BitVec 32 := 0#32
  let v9 : BitVec 32 := Scalar.addi v8 c0_i32_4
  v9
def k0_off2 (i : grid0.Coords) (c0_i32_4 : BitVec 32) : Fin 2 → Nat :=
  let arg1 : BitVec 32 := BitVec.ofNat 32 (i 1).val
  let c1024_i32_3 : BitVec 32 := 1024#32
  let v8 : BitVec 32 := Scalar.muli arg1 c1024_i32_3
  let v9 : BitVec 32 := Scalar.addi v8 c0_i32_4
  let v10 : BitVec 32 := v9
  let v11 : Index := Scalar.indexCast v10
  let c0 : Index := 0#32
  ![v11.toNat, 0]
def k0_mult3 (i : grid0.Coords) : BitVec 32 :=
  let arg1 : BitVec 32 := BitVec.ofNat 32 (i 1).val
  let c1024_i32_250 : BitVec 32 := 1024#32
  let v514 : BitVec 32 := Scalar.muli arg1 c1024_i32_250
  let c256_i32 : BitVec 32 := 256#32
  let v515 : BitVec 32 := Scalar.addi v514 c256_i32
  v515
def k0_mult4 (i : grid0.Coords) : BitVec 32 :=
  let arg1 : BitVec 32 := BitVec.ofNat 32 (i 1).val
  let c1024_i32_497 : BitVec 32 := 1024#32
  let v1020 : BitVec 32 := Scalar.muli arg1 c1024_i32_497
  let c512_i32 : BitVec 32 := 512#32
  let v1021 : BitVec 32 := Scalar.addi v1020 c512_i32
  v1021
def k0_mult5 (i : grid0.Coords) : BitVec 32 :=
  let arg1 : BitVec 32 := BitVec.ofNat 32 (i 1).val
  let c1024_i32_744 : BitVec 32 := 1024#32
  let v1526 : BitVec 32 := Scalar.muli arg1 c1024_i32_744
  let c768_i32 : BitVec 32 := 768#32
  let v1527 : BitVec 32 := Scalar.addi v1526 c768_i32
  v1527
def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2032 : Index := Scalar.indexCast v1
  let c0_991 : Index := 0#32
  ![v2032.toNat, 0]
def k0_cond3 (i : grid0.Coords) : BitVec 1 :=
  let arg1 : BitVec 32 := BitVec.ofNat 32 (i 1).val
  let c3_i32 : BitVec 32 := 3#32
  let v2059 : BitVec 1 := Scalar.cmpi .eq arg1 c3_i32
  let v2060 : BitVec 32 := Scalar.extui v2059
  let c0_i32_1014 : BitVec 32 := 0#32
  let v2061 : BitVec 1 := Scalar.cmpi .ne v2060 c0_i32_1014
  v2061

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceGradIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S1024x2816, .f32⟩
  | .hbm, ⟨35, _⟩ => ⟨S2816x1024, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S2816x1024, .f32⟩
  | .hbm, ⟨44, _⟩ => ⟨S1024x2816, .f32⟩
  | .hbm, ⟨45, _⟩ => ⟨S2816x1024, .f32⟩
  | .hbm, ⟨46, _⟩ => ⟨S1024x2816, .f32⟩
  | .hbm, ⟨47, _⟩ => ⟨S2816x1024, .f32⟩
  | .hbm, ⟨48, _⟩ => ⟨S2816x1024, .f32⟩
  | .hbm, ⟨49, _⟩ => ⟨S4096x2816, .bf16⟩
  | .hbm, ⟨50, _⟩ => ⟨S4096x2816, .bf16⟩
  | .hbm, ⟨51, _⟩ => ⟨S2816x1024, .bf16⟩
  | .hbm, ⟨52, _⟩ => ⟨S2816x1024, .bf16⟩
  | .hbm, ⟨53, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v8_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v8_1 : Ref sig .tc := ⟨.hbm, 24, rfl⟩
abbrev main_v8_0 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== KernelFwd.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x1024, .bf16⟩
  | .hbm, ⟨7, _⟩ => ⟨S4096x2816, .bf16⟩
  | .hbm, ⟨8, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_21 : BitVec 32 := 0#32
  let v32 : BitVec 1 := Scalar.cmpi .ne v31 c0_i32_21
  v32

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceFwdIdeal.lean ====
abbrev S4096x1024 : Shape := ⟨2, ![4096, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x2816, .bf16⟩
  | .hbm, ⟨44, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Basics.lean ====
/- Small facts used by the value proofs of this problem: an array of two axes read at two naturals, a list of stored rows
   read back at an index, a lane mask decided by a comparison of a row number, and a sum over the two leading axes. -/
module

public import Idealize.ShloMosaic.Lib.Pipeline.ValueKit
public import Idealize.ShloMosaic.Lib.Affine

@[expose] public section

noncomputable section

namespace Cert.Own

open Idealize.ShloMosaic Idealize.ShloMosaic.TcCoe Idealize.SL.Sem

/-- An array of two axes at the naturals `r` and `l`; zero outside. -/
def at2 {n0 n1 : Nat} (x : (⟨2, ![n0, n1]⟩ : Shape).Idx → EReal) (r l : Nat) : EReal :=
  if h : r < n0 ∧ l < n1 then x (ix2 ⟨r, h.1⟩ ⟨l, h.2⟩) else 0

theorem at2_of_lt {n0 n1 : Nat} (x : (⟨2, ![n0, n1]⟩ : Shape).Idx → EReal) {r l : Nat} (hr : r < n0) (hl : l < n1) :
    at2 x r l = x (ix2 ⟨r, hr⟩ ⟨l, hl⟩) := dif_pos ⟨hr, hl⟩

theorem at2_ix2 {n0 n1 : Nat} (x : (⟨2, ![n0, n1]⟩ : Shape).Idx → EReal) (r : Fin n0) (l : Fin n1) :
    x (ix2 r l) = at2 x r.val l.val := (at2_of_lt x r.isLt l.isLt).symm

/-- Every index of a two-axis shape is a pair. -/
theorem pair_of {n0 n1 : Nat} (y : (⟨2, ![n0, n1]⟩ : Shape).Idx) : ∃ (a : Fin n0) (b : Fin n1), y = ix2 a b := ⟨y 0, y 1, eq_ix2 y⟩

/-- The newest stored row, read at its own row or passed over. -/
theorem canon_row {K n k : Nat} {e : EltTy}
    (inb : ∀ x, (![k, 0] : Fin 2 → Nat) x + (![1, n] : Fin 2 → Nat) x ≤ (⟨2, ![K, n]⟩ : Shape).size x)
    (w : (⟨2, ![1, n]⟩ : Shape).Idx → Elt Ideal e) (L : List (View.Piece (Elt Ideal) (⟨2, ![K, n]⟩ : Shape) e))
    (a : Fin K) (l : Fin n) :
    View.canon ((⟨Rect.unit (s := (⟨2, ![K, n]⟩ : Shape)) ![k, 0] ![1, n] inb, w⟩ : View.Piece (Elt Ideal) (⟨2, ![K, n]⟩ : Shape) e) :: L) (ix2 a l)
      = if a.val = k then w (ix2 (0 : Fin 1) l) else View.canon L (ix2 a l) := by
  split
  · next h =>
    have he : (Rect.unit (s := (⟨2, ![K, n]⟩ : Shape)) ![k, 0] ![1, n] inb).emb (ix2 (0 : Fin 1) l) = ix2 a l := by
      funext x; apply Fin.ext
      fin_cases x
      · show k + 1 * 0 = a.val; omega
      · show 0 + 1 * l.val = l.val; omega
    rw [← he]
    exact View.canon_cons_emb (Rect.unit (s := (⟨2, ![K, n]⟩ : Shape)) ![k, 0] ![1, n] inb) w L (ix2 (0 : Fin 1) l)
  · next h =>
    refine View.canon_cons_of_not_mem _ L ?_
    intro hm
    obtain ⟨i, hi, he⟩ := (LoadRect.mem_set _).mp hm (0 : Fin 2)
    have hi1 : i < 1 := hi
    have he' : a.val = k + 1 * i := he
    omega

/-- A row read back from the stored pieces. -/
theorem readCov_row {sig : RefSig} {κ : Kind} {sp : Space} {K n k : Nat} {e : EltTy}
    (v : View sig κ sp (⟨2, ![K, n]⟩ : Shape) e) (L : List (View.Piece (Elt Ideal) (⟨2, ![K, n]⟩ : Shape) e)) (hk : k < K)
    (inb : ∀ x, (![k, 0] : Fin 2 → Nat) x + (![1, n] : Fin 2 → Nat) x ≤ (⟨2, ![K, n]⟩ : Shape).size x) (l : Fin n) :
    v.readCov L (Rect.unit (s := (⟨2, ![K, n]⟩ : Shape)) ![k, 0] ![1, n] inb).toLoadRect (ix2 (0 : Fin 1) l)
      = View.canon L (ix2 ⟨k, hk⟩ l) := by
  rw [View.readCov_eq_canon']
  refine congrArg (View.canon L) ?_
  funext x; apply Fin.ext
  fin_cases x
  · show k + 1 * 0 = k; omega
  · show 0 + 1 * l.val = l.val; omega

theorem toInt_small {p : Nat} (hp : p < 4096) : (BitVec.ofNat 32 p).toInt = p := by
  rw [BitVec.toInt_eq_toNat_of_lt (by rw [BitVec.toNat_ofNat]; omega), BitVec.toNat_ofNat]
  omega

theorem select_sge {p k : Nat} (hp : p < 4096) (hk : k < 4096) (a b : EReal) :
    Scalar.select (IntOp.cmpi .sge (BitVec.ofNat 32 p) (BitVec.ofNat 32 k)) a b = if k ≤ p then a else b := by
  have hpi : (BitVec.ofNat 32 p).toInt = p := toInt_small hp
  have hki : (BitVec.ofNat 32 k).toInt = k := toInt_small hk
  have h : IntOp.cmpi .sge (BitVec.ofNat 32 p) (BitVec.ofNat 32 k) = 1#1 ↔ k ≤ p := by
    rw [IntOp.cmpi_sge, hpi, hki]; omega
  unfold Scalar.select
  by_cases hc : k ≤ p
  · rw [if_pos hc, h.mpr hc]; rfl
  · rw [if_neg hc]
    have : ¬ IntOp.cmpi .sge (BitVec.ofNat 32 p) (BitVec.ofNat 32 k) = 1#1 := fun hh => hc (h.mp hh)
    simp [this]

theorem select_slt {p k : Nat} (hp : p < 4096) (hk : k < 4096) (a b : EReal) :
    Scalar.select (IntOp.cmpi .slt (BitVec.ofNat 32 p) (BitVec.ofNat 32 k)) a b = if p < k then a else b := by
  have hpi : (BitVec.ofNat 32 p).toInt = p := toInt_small hp
  have hki : (BitVec.ofNat 32 k).toInt = k := toInt_small hk
  have h : IntOp.cmpi .slt (BitVec.ofNat 32 p) (BitVec.ofNat 32 k) = 1#1 ↔ p < k := by
    rw [IntOp.cmpi_slt, hpi, hki]; omega
  unfold Scalar.select
  by_cases hc : p < k
  · rw [if_pos hc, h.mpr hc]; rfl
  · rw [if_neg hc]
    have : ¬ IntOp.cmpi .slt (BitVec.ofNat 32 p) (BitVec.ofNat 32 k) = 1#1 := fun hh => hc (h.mp hh)
    simp [this]

/-- The host's sum over the two leading axes of three. -/
theorem hostSum_leading {n0 n1 n2 : Nat} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ a : Fin n0, ∑ b : Fin n1, v (ix3 a b l) := by
  refine congrArg (init + ·) ?_
  have hf : ∀ i : (⟨3, ![n0, n1, n2]⟩ : Shape).Idx,
      h.drop i = ix1 l ↔ ∃ k : Fin n0 × Fin n1, ix3 k.1 k.2 l = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  refine (Finset.sum_filter_eq_sum_of_fiber _ (fun k : Fin n0 × Fin n1 => ix3 k.1 k.2 l)
    (fun _ _ e => Prod.ext (congrFun e 0) (congrFun e 1)) hf v).trans ?_
  simp only [Fintype.sum_prod_type]

/-- A sum over blocks and over the entries of a block is one sum. -/
theorem sum_blocks {M : Type} [AddCommMonoid M] {a b n : Nat} (hn : a * b = n) (f : Fin n → M) :
    ∑ k : Fin a, ∑ p : Fin b, f ⟨b * k.val + p.val, by
        have h1 := k.isLt
        have h2 := p.isLt
        calc b * k.val + p.val < b * k.val + b := by omega
          _ = b * (k.val + 1) := by ring
          _ ≤ b * a := Nat.mul_le_mul_left b h1
          _ = n := by rw [← hn, mul_comm]⟩ = ∑ r : Fin n, f r := by
  subst hn
  rw [← Fintype.sum_prod_type' (f := fun (k : Fin a) (p : Fin b) => f ⟨b * k.val + p.val, _⟩)]
  refine Fintype.sum_equiv finProdFinEquiv _ _ fun k => congrArg f (Fin.ext ?_)
  show b * k.1.val + k.2.val = k.2.val + b * k.1.val
  omega

end Cert.Own

end
-- ==== Proof.ConvSpec.lean ====
/- The gradient of the gated short convolution, one column at a time: for one column of a sequence of 2048 rows, what the
   gradients of the three inputs and of the three taps are, as functions of the row. -/
module

public import proofs.«01_k».proof.Proof.Basics

@[expose] public section

noncomputable section

namespace Cert.Own.Conv

/-- The gated input `u` of the convolution. -/
def gated (xc gC : Nat → EReal) (p : Nat) : EReal := gC p * xc p
/-- A column moved down by `k` rows, zeros moving in. -/
def down (k : Nat) (u : Nat → EReal) (p : Nat) : EReal := if k ≤ p then u (p - k) else 0
/-- The convolution of the gated input. -/
def conv (w0 w1 w2 : EReal) (u : Nat → EReal) (p : Nat) : EReal := w0 * down 2 u p + w1 * down 1 u p + w2 * u p
/-- The gradient of the convolution's output. -/
def dconv (d gB : Nat → EReal) (p : Nat) : EReal := d p * gB p
/-- The gradient of the gated input. -/
def dgated (w0 w1 w2 : EReal) (dz : Nat → EReal) (p : Nat) : EReal :=
  w2 * dz p + (if p < 2047 then w1 * dz (p + 1) else 0) + (if p < 2046 then w0 * dz (p + 2) else 0)
/-- The gradient of the input's part `i`. -/
def part (i : Nat) (w0 w1 w2 : EReal) (d xc gB gC : Nat → EReal) (p : Nat) : EReal :=
  if i = 0 then dgated w0 w1 w2 (dconv d gB) p * gC p
  else if i = 1 then d p * conv w0 w1 w2 (gated xc gC) p
  else dgated w0 w1 w2 (dconv d gB) p * xc p
/-- What row `p` adds to the gradient of tap `k`. -/
def tap (k : Nat) (d xc gB gC : Nat → EReal) (p : Nat) : EReal := dconv d gB p * down (2 - k) (gated xc gC) p

theorem down_congr {u u' : Nat → EReal} (h : ∀ p < 2048, u p = u' p) (k p : Nat) (hp : p < 2048) : down k u p = down k u' p := by
  unfold down; rw [h (p - k) (by omega)]

theorem gated_congr {xc gC xc' gC' : Nat → EReal} (hx : ∀ p < 2048, xc p = xc' p) (hc : ∀ p < 2048, gC p = gC' p) (p : Nat) (hp : p < 2048) :
    gated xc gC p = gated xc' gC' p := by
  unfold gated; rw [hx p hp, hc p hp]

theorem dconv_congr {d gB d' gB' : Nat → EReal} (hd : ∀ p < 2048, d p = d' p) (hb : ∀ p < 2048, gB p = gB' p) (p : Nat) (hp : p < 2048) :
    dconv d gB p = dconv d' gB' p := by
  unfold dconv; rw [hd p hp, hb p hp]

theorem dgated_congr {w0 w1 w2 : EReal} {z z' : Nat → EReal} (h : ∀ p < 2048, z p = z' p) (p : Nat) (hp : p < 2048) :
    dgated w0 w1 w2 z p = dgated w0 w1 w2 z' p := by
  unfold dgated
  rw [h p hp]
  have h1 : (if p < 2047 then w1 * z (p + 1) else 0) = if p < 2047 then w1 * z' (p + 1) else 0 := by
    split
    · rw [h (p + 1) (by omega)]
    · rfl
  have h2 : (if p < 2046 then w0 * z (p + 2) else 0) = if p < 2046 then w0 * z' (p + 2) else 0 := by
    split
    · rw [h (p + 2) (by omega)]
    · rfl
  rw [h1, h2]

theorem part_congr {w0 w1 w2 : EReal} {d xc gB gC d' xc' gB' gC' : Nat → EReal} (hd : ∀ p < 2048, d p = d' p)
    (hx : ∀ p < 2048, xc p = xc' p) (hb : ∀ p < 2048, gB p = gB' p) (hc : ∀ p < 2048, gC p = gC' p) (i p : Nat) (hp : p < 2048) :
    part i w0 w1 w2 d xc gB gC p = part i w0 w1 w2 d' xc' gB' gC' p := by
  unfold part conv
  rw [dgated_congr (dconv_congr hd hb) p hp, down_congr (gated_congr hx hc) 2 p hp, down_congr (gated_congr hx hc) 1 p hp,
    gated_congr hx hc p hp, hd p hp, hx p hp, hc p hp]

theorem tap_congr {d xc gB gC d' xc' gB' gC' : Nat → EReal} (hd : ∀ p < 2048, d p = d' p)
    (hx : ∀ p < 2048, xc p = xc' p) (hb : ∀ p < 2048, gB p = gB' p) (hc : ∀ p < 2048, gC p = gC' p) (k p : Nat) (hp : p < 2048) :
    tap k d xc gB gC p = tap k d' xc' gB' gC' p := by
  unfold tap
  rw [dconv_congr hd hb p hp, down_congr (gated_congr hx hc) _ p hp]

end Cert.Own.Conv

end
-- ==== Proof.ConvBlock.lean ====
/- The convolution's gradient kernel, one grid point: the blocks its payloads compute, read at an index. -/
module

public import proofs.«01_k».proof.Proof.Gen.KernelIdeal.Value
public import proofs.«01_k».proof.Proof.ConvSpec

@[expose] public section

set_option maxRecDepth 16384

noncomputable section

namespace Cert.Own.Conv

open Idealize.ShloMosaic Idealize.ShloMosaic.TcCoe Idealize.SL.Sem
open Cert.KernelIdeal Cert.KernelIdeal.Gen

theorem gated_at (x1 : Vec Ideal S2048x768 .bf16) (p : Fin 2048) (q : Fin 256) :
    k0_pay6 (F := Ideal) x1 (ix2 p q) = gated (fun p => at2 x1 p q) (fun p => at2 x1 p (512 + q)) p := by
  pointwise [k0_pay6, k0_pay5, k0_pay4, k0_pay3]
  exact (congrArg₂ (· * ·) (at2_of_lt x1 p.isLt (by omega)) (at2_of_lt x1 p.isLt (by omega))).symm

theorem down1_at (x1 : Vec Ideal S2048x768 .bf16) (p : Fin 2048) (q : Fin 256) :
    k0_pay7 (F := Ideal) x1 (ix2 p q) = down 1 (gated (fun p => at2 x1 p q) (fun p => at2 x1 p (512 + q))) p := by
  pointwise [k0_pay7]
  rw [gated_at, select_sge (by omega) (by omega)]
  unfold down
  split
  · next h => exact congrArg _ (show (p.val + 2048 - 1) % 2048 = p.val - 1 by omega)
  · rfl

theorem down2_at (x1 : Vec Ideal S2048x768 .bf16) (p : Fin 2048) (q : Fin 256) :
    k0_pay8 (F := Ideal) x1 (ix2 p q) = down 2 (gated (fun p => at2 x1 p q) (fun p => at2 x1 p (512 + q))) p := by
  pointwise [k0_pay8]
  rw [gated_at, select_sge (by omega) (by omega)]
  unfold down
  split
  · next h => exact congrArg _ (show (p.val + 2048 - 2) % 2048 = p.val - 2 by omega)
  · rfl

theorem dconv_at (x0 : Vec Ideal S2048x256 .bf16) (x1 : Vec Ideal S2048x768 .bf16) (p : Fin 2048) (q : Fin 256) :
    k0_pay11 (F := Ideal) x1 x0 (ix2 p q) = dconv (fun p => at2 x0 p q) (fun p => at2 x1 p (256 + q)) p := by
  pointwise [k0_pay11, k0_pay10, k0_pay3]
  exact (congrArg₂ (· * ·) (at2_of_lt x0 p.isLt (by omega)) (at2_of_lt x1 p.isLt (by omega))).symm

/-- The block of the input's gradient that one grid point stores. -/
def outBlock (x0 : Vec Ideal S2048x256 .bf16) (x1 : Vec Ideal S2048x768 .bf16) (x2 : Vec Ideal S3x256 .f32) : Vec Ideal S2048x768 .bf16 :=
  k0_pay14 (k0_pay4 x1) (k0_pay5 x1) (iota Kind.tc S2048x256 32 [0] iota_S2048x256_d0_w32)
    (View.ld x2 (Rect.unit ![0, 0] ![1, 256] inb_S3x256_S1x256_0_0))
    (View.ld x2 (Rect.unit ![1, 0] ![1, 256] inb_S3x256_S1x256_1_0))
    (k0_pay9 x1 (View.ld x2 (Rect.unit ![0, 0] ![1, 256] inb_S3x256_S1x256_0_0))
      (View.ld x2 (Rect.unit ![1, 0] ![1, 256] inb_S3x256_S1x256_1_0))
      (View.ld x2 (Rect.unit ![2, 0] ![1, 256] inb_S3x256_S1x256_2_0)))
    (k0_pay10 x0) (k0_pay11 x1 x0)
    (k0_pay12 x1 (View.ld x2 (Rect.unit ![2, 0] ![1, 256] inb_S3x256_S1x256_2_0)) x0)
    k0_pay13

theorem dgated_at (x0 : Vec Ideal S2048x256 .bf16) (x1 : Vec Ideal S2048x768 .bf16) (w0 w1 w2 : EReal) (p : Fin 2048) (q : Fin 256) :
    w2 * k0_pay11 (F := Ideal) x1 x0 (ix2 p q)
      + Scalar.select (IntOp.cmpi .slt (BitVec.ofNat 32 ↑p) 2047#32)
          (w1 * k0_pay11 (F := Ideal) x1 x0 (ix2 ⟨(↑p + 2048 - 2047) % 2048, by omega⟩ q)) 0
      + Scalar.select (IntOp.cmpi .slt (BitVec.ofNat 32 ↑p) 2046#32)
          (w0 * k0_pay11 (F := Ideal) x1 x0 (ix2 ⟨(↑p + 2048 - 2046) % 2048, by omega⟩ q)) 0
      = dgated w0 w1 w2 (dconv (fun p => at2 x0 p q) (fun p => at2 x1 p (256 + q))) p := by
  rw [dconv_at, dconv_at, dconv_at, select_slt (by omega) (by omega), select_slt (by omega) (by omega)]
  unfold dgated
  have h1 : (if (p : Nat) < 2047 then w1 * dconv (fun p => at2 x0 p q) (fun p => at2 x1 p (256 + q)) ((p + 2048 - 2047) % 2048) else 0)
      = if (p : Nat) < 2047 then w1 * dconv (fun p => at2 x0 p q) (fun p => at2 x1 p (256 + q)) (p + 1) else 0 := by
    split
    · next h => exact congrArg (fun k => w1 * dconv _ _ k) (show (p.val + 2048 - 2047) % 2048 = p.val + 1 by omega)
    · rfl
  have h2 : (if (p : Nat) < 2046 then w0 * dconv (fun p => at2 x0 p q) (fun p => at2 x1 p (256 + q)) ((p + 2048 - 2046) % 2048) else 0)
      = if (p : Nat) < 2046 then w0 * dconv (fun p => at2 x0 p q) (fun p => at2 x1 p (256 + q)) (p + 2) else 0 := by
    split
    · next h => exact congrArg (fun k => w0 * dconv _ _ k) (show (p.val + 2048 - 2046) % 2048 = p.val + 2 by omega)
    · rfl
  rw [h1, h2]

theorem three_at (a b c : FVec Ideal S2048x256 .f32) (p : Fin 2048) (q : Fin 768) :
    concatenate S2048x768 1 [⟨S2048x256, a⟩, ⟨S2048x256, b⟩, ⟨S2048x256, c⟩] concatenates_S2048x256_S2048x256_S2048x256_S2048x768_d1 (ix2 p q)
      = if h : (q : Nat) < 256 then a (ix2 p ⟨q, h⟩)
        else if h : (q : Nat) - 256 < 256 then b (ix2 p ⟨q - 256, h⟩)
        else c (ix2 p ⟨q - 256 - 256, by omega⟩) := by
  pointwise

theorem outBlock_at (x0 : Vec Ideal S2048x256 .bf16) (x1 : Vec Ideal S2048x768 .bf16) (x2 : Vec Ideal S3x256 .f32) (p : Fin 2048) (q : Fin 768) :
    outBlock x0 x1 x2 (ix2 p q)
      = part (q / 256) (at2 x2 0 (q % 256)) (at2 x2 1 (q % 256)) (at2 x2 2 (q % 256)) (fun p => at2 x0 p (q % 256))
          (fun p => at2 x1 p (q % 256)) (fun p => at2 x1 p (256 + q % 256)) (fun p => at2 x1 p (512 + q % 256)) p := by
  have hq := q.isLt
  refine (three_at _ _ _ p q).trans ?_
  unfold part
  split
  · next h =>
    have e : (q : Nat) % 256 = q := by omega
    rw [if_pos (by omega), e]
    pointwise [k0_pay5, k0_pay3, k0_pay12, k0_pay13]
    refine congrArg₂ (· * ·) ?_ (at2_of_lt x1 p.isLt (by omega)).symm
    refine (dgated_at x0 x1 _ _ _ p ⟨q, h⟩).trans ?_
    rw [at2_of_lt x2 (by omega) h, at2_of_lt x2 (by omega) h, at2_of_lt x2 (by omega) h]
    rfl
  · next h =>
    split
    · next h' =>
      have e : (q : Nat) % 256 = q - 256 := by omega
      rw [if_neg (by omega), if_pos (by omega), e]
      pointwise [k0_pay10, k0_pay9]
      refine congrArg₂ (· * ·) (at2_of_lt x0 p.isLt h').symm ?_
      rw [gated_at, down1_at, down2_at]
      unfold conv
      rw [at2_of_lt x2 (by omega) h', at2_of_lt x2 (by omega) h', at2_of_lt x2 (by omega) h']
      rfl
    · next h' =>
      have e : (q : Nat) % 256 = q - 256 - 256 := by omega
      have hl : (q : Nat) - 256 - 256 < 256 := by omega
      rw [if_neg (by omega), if_neg (by omega), e]
      pointwise [k0_pay4, k0_pay3, k0_pay12, k0_pay13]
      refine congrArg₂ (· * ·) ?_ (at2_of_lt x1 p.isLt (by omega)).symm
      refine (dgated_at x0 x1 _ _ _ p ⟨q - 256 - 256, hl⟩).trans ?_
      rw [at2_of_lt x2 (by omega) hl, at2_of_lt x2 (by omega) hl, at2_of_lt x2 (by omega) hl]
      rfl

/-- What one grid point adds to the gradient of the taps. -/
def tapBlock (x0 : Vec Ideal S2048x256 .bf16) (x1 : Vec Ideal S2048x768 .bf16) (k : Nat) (q : Nat) : EReal :=
  ∑ p : Fin 2048, tap k (fun p => at2 x0 p q) (fun p => at2 x1 p q) (fun p => at2 x1 p (256 + q)) (fun p => at2 x1 p (512 + q)) p

theorem tap0_at (x0 : Vec Ideal S2048x256 .bf16) (x1 : Vec Ideal S2048x768 .bf16) (a : Vec Ideal S1x256 .f32) (q : Fin 256) :
    k0_pay15 (F := Ideal) (k0_pay8 x1) (k0_pay11 x1 x0) a (ix2 0 q) = a (ix2 0 q) + tapBlock x0 x1 0 q := by
  pointwise [k0_pay15]
  unfold tapBlock tap
  refine congrArg _ (Finset.sum_congr rfl fun p _ => ?_)
  rw [dconv_at, down2_at]
theorem tap1_at (x0 : Vec Ideal S2048x256 .bf16) (x1 : Vec Ideal S2048x768 .bf16) (a : Vec Ideal S1x256 .f32) (q : Fin 256) :
    k0_pay16 (F := Ideal) (k0_pay7 x1) (k0_pay11 x1 x0) a (ix2 0 q) = a (ix2 0 q) + tapBlock x0 x1 1 q := by
  pointwise [k0_pay16]
  unfold tapBlock tap
  refine congrArg _ (Finset.sum_congr rfl fun p _ => ?_)
  rw [dconv_at, down1_at]
theorem tap2_at (x0 : Vec Ideal S2048x256 .bf16) (x1 : Vec Ideal S2048x768 .bf16) (a : Vec Ideal S1x256 .f32) (q : Fin 256) :
    k0_pay1 (F := Ideal) (k0_pay17 a) (k0_pay18 (k0_pay6 x1) (k0_pay11 x1 x0)) (ix2 0 q) = a (ix2 0 q) + tapBlock x0 x1 2 q := by
  pointwise [k0_pay1, k0_pay17, k0_pay18]
  unfold tapBlock tap
  refine congrArg _ (Finset.sum_congr rfl fun p _ => ?_)
  rw [dconv_at, gated_at]
  rfl

end Cert.Own.Conv

end
-- ==== Proof.ConvArray.lean ====
/- The convolution's gradient kernel over its whole grid: the two arrays it leaves, index by index. -/
module

public import proofs.«01_k».proof.Proof.ConvBlock

@[expose] public section

set_option maxRecDepth 16384

noncomputable section

namespace Cert.Own.Conv

open Idealize.ShloMosaic Idealize.ShloMosaic.TcCoe Idealize.SL.Sem
open Idealize.ShloMosaic.Pipeline (Dat)
open Cert.KernelIdeal Cert.KernelIdeal.Gen

/-- The gradient of the input at row `r` and column `c`, of the gradient `x0` of the output, the input `x1` and the taps `x2`. -/
def inGrad (x0 : Vec Ideal S4096x1024 .bf16) (x1 : Vec Ideal S4096x3072 .bf16) (x2 : Vec Ideal S3x1024 .f32) (r c : Nat) : EReal :=
  part (c / 256 % 3) (at2 x2 0 (256 * (c / 768) + c % 256)) (at2 x2 1 (256 * (c / 768) + c % 256)) (at2 x2 2 (256 * (c / 768) + c % 256))
    (fun p => at2 x0 (2048 * (r / 2048) + p) (256 * (c / 768) + c % 256))
    (fun p => at2 x1 (2048 * (r / 2048) + p) (768 * (c / 768) + c % 256))
    (fun p => at2 x1 (2048 * (r / 2048) + p) (768 * (c / 768) + (256 + c % 256)))
    (fun p => at2 x1 (2048 * (r / 2048) + p) (768 * (c / 768) + (512 + c % 256))) (r % 2048)

/-- What sequence `b` adds to the gradient of tap `k` at lane `q` of column group `j`. -/
def tapTerm (x0 : Vec Ideal S4096x1024 .bf16) (x1 : Vec Ideal S4096x3072 .bf16) (b j k q : Nat) : EReal :=
  ∑ p : Fin 2048, tap k (fun p => at2 x0 (2048 * b + p) (256 * j + q)) (fun p => at2 x1 (2048 * b + p) (768 * j + q))
    (fun p => at2 x1 (2048 * b + p) (768 * j + (256 + q))) (fun p => at2 x1 (2048 * b + p) (768 * j + (512 + q))) p

/-- The gradient of tap `k` at column `c`. -/
def tapGrad (x0 : Vec Ideal S4096x1024 .bf16) (x1 : Vec Ideal S4096x3072 .bf16) (k c : Nat) : EReal :=
  ∑ b ∈ Finset.range 2, tapTerm x0 x1 b (c / 256) k (c % 256)

variable (m : (ℓ : Loc nD τ sig) → Buf (Elt Ideal) ℓ) (c : Dev nD)

theorem index0 : ∀ t : Fin cfg0.N, win0_0.index t = ![t.val % 2, t.val / 2] := by decide +kernel
theorem index1 : ∀ t : Fin cfg0.N, win0_1.index t = ![t.val % 2, t.val / 2] := by decide +kernel
theorem index2 : ∀ t : Fin cfg0.N, win0_2.index t = ![0, t.val / 2] := by decide +kernel
theorem index3 : ∀ t : Fin cfg0.N, win0_3.index t = ![t.val % 2, t.val / 2] := by decide +kernel
theorem index4 : ∀ t : Fin cfg0.N, win0_4.index t = ![0, t.val / 2] := by decide +kernel

theorem blk0 (t : Fin cfg0.N) {p q : Nat} (hp : p < 2048) (hq : q < 256) :
    at2 (n0 := 2048) (n1 := 256) (iblk m c 0 t) p q
      = at2 (n0 := 4096) (n1 := 1024) (V m c main_arg0) (2048 * (t.val % 2) + p) (256 * (t.val / 2) + q) := by
  have ht : t.val < 8 := t.isLt
  rw [at2_of_lt _ hp hq, at2_of_lt _ (by omega) (by omega)]
  blk_point [iblk, index0 t]

theorem blk1 (t : Fin cfg0.N) {p q : Nat} (hp : p < 2048) (hq : q < 768) :
    at2 (n0 := 2048) (n1 := 768) (iblk m c 1 t) p q
      = at2 (n0 := 4096) (n1 := 3072) (V m c main_arg1) (2048 * (t.val % 2) + p) (768 * (t.val / 2) + q) := by
  have ht : t.val < 8 := t.isLt
  rw [at2_of_lt _ hp hq, at2_of_lt _ (by omega) (by omega)]
  blk_point [iblk, index1 t]

theorem blk2 (t : Fin cfg0.N) {p q : Nat} (hp : p < 3) (hq : q < 256) :
    at2 (n0 := 3) (n1 := 256) (iblk m c 2 t) p q
      = at2 (n0 := 3) (n1 := 1024) (V m c main_arg2) p (256 * (t.val / 2) + q) := by
  have ht : t.val < 8 := t.isLt
  rw [at2_of_lt _ hp hq, at2_of_lt _ (by omega) (by omega)]
  blk_point [iblk, index2 t]

/-- One grid point's input gradient, of the whole arrays. -/
theorem outBlock_eq (t : Fin cfg0.N) (p : Fin 2048) (q : Fin 768) :
    outBlock (iblk m c 0 t) (iblk m c 1 t) (iblk m c 2 t) (ix2 p q)
      = inGrad (V m c main_arg0) (V m c main_arg1) (V m c main_arg2) (2048 * (t.val % 2) + p) (768 * (t.val / 2) + q) := by
  have ht : t.val < 8 := t.isLt
  have hq := q.isLt
  have hp := p.isLt
  have hl : (q : Nat) % 256 < 256 := Nat.mod_lt _ (by omega)
  rw [outBlock_at, blk2 m c t (by omega) hl, blk2 m c t (by omega) hl, blk2 m c t (by omega) hl]
  unfold inGrad
  rw [show (768 * (t.val / 2) + (q : Nat)) / 256 % 3 = q / 256 by omega, show (768 * (t.val / 2) + (q : Nat)) / 768 = t.val / 2 by omega,
    show (768 * (t.val / 2) + (q : Nat)) % 256 = q % 256 by omega, show (2048 * (t.val % 2) + (p : Nat)) / 2048 = t.val % 2 by omega,
    show (2048 * (t.val % 2) + (p : Nat)) % 2048 = p by omega]
  exact part_congr (fun r hr => blk0 m c t hr hl) (fun r hr => blk1 m c t hr (by omega)) (fun r hr => blk1 m c t hr (by omega))
    (fun r hr => blk1 m c t hr (by omega)) _ _ hp

/-- One grid point's term of a tap's gradient, of the whole arrays. -/
theorem tapBlock_eq (t : Fin cfg0.N) (k : Nat) {q : Nat} (hq : q < 256) :
    tapBlock (iblk m c 0 t) (iblk m c 1 t) k q = tapTerm (V m c main_arg0) (V m c main_arg1) (t.val % 2) (t.val / 2) k q := by
  unfold tapBlock tapTerm
  exact Finset.sum_congr rfl fun p _ => tap_congr (fun r hr => blk0 m c t hr hq) (fun r hr => blk1 m c t hr (by omega))
    (fun r hr => blk1 m c t hr (by omega)) (fun r hr => blk1 m c t hr (by omega)) _ _ p.isLt

theorem fin3 : (dats m 0 c).arrAt 3 cfg0.N
    = fun i : S4096x3072.Idx => inGrad (V m c main_arg0) (V m c main_arg1) (V m c main_arg2) (i 0).val (i 1).val := by
  refine (dats m 0 c).arrAt_eq_of_covers 3 _ (by decide +kernel) fun t hf y => ?_
  blk_simp
  have key : (outsAt0 m c t.val t.isLt).1 = outBlock (iblk m c 0 t) (iblk m c 1 t) (iblk m c 2 t) := by
    by_cases h : t.val % 2 = 0
    · rw [outsAt0_A m c t h]; funext y; frame_out; rfl
    · rw [outsAt0_B m c t h]; funext y; frame_out; rfl
  rw [after0_3, key]
  obtain ⟨p, q, hy⟩ : ∃ (p : Fin 2048) (q : Fin 768), y = ix2 p q := pair_of y
  subst hy
  rw [outBlock_eq, index3 t]
  exact congrArg₂ (inGrad _ _ _) (show _ = t.val % 2 * 2048 + p.val by omega) (show _ = t.val / 2 * 768 + q.val by omega)

/-- The three stored rows over a block read back, one tap at a time. -/
theorem rows_at (t : Fin cfg0.N) (L : List (View.Piece (Elt Ideal) S3x256 .f32)) (a0 a1 a2 : Vec Ideal S1x256 .f32) (k : Fin 3) (q : Fin 256) :
    View.canon
      (⟨Rect.unit ![2, 0] ![1, 256] inb_S3x256_S1x256_2_0,
          k0_pay1 (k0_pay17 a2) (k0_pay18 (k0_pay6 (iblk m c 1 t)) (k0_pay11 (iblk m c 1 t) (iblk m c 0 t)))⟩ ::
        ⟨Rect.unit ![1, 0] ![1, 256] inb_S3x256_S1x256_1_0, k0_pay16 (k0_pay7 (iblk m c 1 t)) (k0_pay11 (iblk m c 1 t) (iblk m c 0 t)) a1⟩ ::
        ⟨Rect.unit ![0, 0] ![1, 256] inb_S3x256_S1x256_0_0, k0_pay15 (k0_pay8 (iblk m c 1 t)) (k0_pay11 (iblk m c 1 t) (iblk m c 0 t)) a0⟩ :: L)
      (ix2 k q)
      = (if k.val = 2 then a2 (ix2 0 q) else if k.val = 1 then a1 (ix2 0 q) else a0 (ix2 0 q))
        + tapBlock (iblk m c 0 t) (iblk m c 1 t) k q := by
  rw [canon_row, canon_row, canon_row]
  have hk := k.isLt
  split
  · next h => rw [tap2_at, h]
  · next h =>
    split
    · next h' => rw [tap1_at, h']
    · next h' =>
      rw [if_pos (by omega), tap0_at, show (k : Nat) = 0 by omega]

theorem zero_at (k : Fin 3) (q : Fin 256) :
    View.canon [(⟨Rect.unit ![0, 0] ![3, 256] inb_S3x256_S3x256_0_0, k0_pay2 (F := Ideal)⟩ : View.Piece (Elt Ideal) S3x256 .f32)] (ix2 k q) = 0 := by
  have he : (Rect.unit (s := S3x256) ![0, 0] ![3, 256] inb_S3x256_S3x256_0_0).emb (ix2 k q) = ix2 k q := by
    funext x; apply Fin.ext
    fin_cases x
    · show 0 + 1 * k.val = k.val; omega
    · show 0 + 1 * q.val = q.val; omega
  conv_lhs => rw [← he]
  refine (View.canon_cons_emb (Rect.unit (s := S3x256) ![0, 0] ![3, 256] inb_S3x256_S3x256_0_0) _ [] (ix2 k q)).trans ?_
  pointwise [k0_pay2]

theorem acc_A (t : Fin cfg0.N) (h : t.val % 2 = 0) (k : Fin 3) (q : Fin 256) :
    (outsAt0 m c t.val t.isLt).2 (ix2 k q) = 0 + tapBlock (iblk m c 0 t) (iblk m c 1 t) k q := by
  rw [outsAt0_A m c t h]
  frame_out
  refine (rows_at m c t _ _ _ _ k q).trans (congrArg (· + _) ?_)
  split
  · rw [readCov_row _ _ (by omega), canon_row, if_neg (show ¬(2 : Nat) = 1 by decide), canon_row, if_neg (show ¬(2 : Nat) = 0 by decide), zero_at]
  · split
    · rw [readCov_row _ _ (by omega), canon_row, if_neg (show ¬(1 : Nat) = 0 by decide), zero_at]
    · rw [readCov_row _ _ (by omega), zero_at]

theorem acc_B (t : Fin cfg0.N) (h : ¬t.val % 2 = 0) (k : Fin 3) (q : Fin 256) :
    (outsAt0 m c t.val t.isLt).2 (ix2 k q)
      = (outsAt0 m c (t.val - 1) (Nat.lt_of_le_of_lt (Nat.sub_le _ _) t.isLt)).2 (ix2 k q) + tapBlock (iblk m c 0 t) (iblk m c 1 t) k q := by
  rw [outsAt0_B m c t h]
  frame_out
  refine (rows_at m c t _ _ _ _ k q).trans (congrArg (· + _) ?_)
  have hk := k.isLt
  have e : ∀ (x : Vec Ideal S3x256 .f32) (r : Fin 3) (hr : r.val = k.val), x (ix2 r q) = x (ix2 k q) := fun x r hr => by
    rw [Fin.ext hr]
  split
  · next h2 => pointwise; exact e _ 2 h2.symm
  · split
    · next h1 => pointwise; exact e _ 1 h1.symm
    · next h0 => pointwise; exact e _ 0 (by show 0 = k.val; omega)

theorem fin4 : (dats m 0 c).arrAt 4 cfg0.N
    = fun i : S3x1024.Idx => tapGrad (V m c main_arg0) (V m c main_arg1) (i 0).val (i 1).val := by
  refine (dats m 0 c).arrAt_eq_of_covers 4 _ (by decide +kernel) fun t hf y => ?_
  blk_simp
  have ht : t.val < 8 := t.isLt
  rw [after0_4]
  have acc := Pipeline.eq_sum_of_reset_step_apply_of_mod (fun n h => (outsAt0 m c n h).2) 2 (fun _ => 0)
    (fun t y => tapTerm (V m c main_arg0) (V m c main_arg1) (t % 2) (t / 2) (y 0).val (y 1).val)
    (fun t h y => by
      obtain ⟨k, q, rfl⟩ := pair_of y
      rw [acc_A m c t h, tapBlock_eq m c t _ (Fin.isLt _)]; rfl)
    (fun t h y => by
      obtain ⟨k, q, rfl⟩ := pair_of y
      rw [acc_B m c t h, tapBlock_eq m c t _ (Fin.isLt _)]; rfl) t ((flush0_4 t).mp hf) y
  refine acc.trans ?_
  rw [zero_add]
  unfold tapGrad
  have hy1 : (y 1).val < 256 := (y 1).isLt
  rw [index4 t]
  change _ = ∑ b ∈ Finset.range 2, tapTerm _ _ b ((t.val / 2 * 256 + (y 1).val) / 256) (0 * 3 + (y 0).val) ((t.val / 2 * 256 + (y 1).val) % 256)
  refine Finset.sum_congr rfl fun b hb => ?_
  have hb' : b < 2 := Finset.mem_range.mp hb
  rw [show (2 * (t.val / 2) + b) % 2 = b by omega, show (2 * (t.val / 2) + b) / 2 = t.val / 2 by omega,
    show (t.val / 2 * 256 + (y 1).val) / 256 = t.val / 2 by omega, show (t.val / 2 * 256 + (y 1).val) % 256 = (y 1).val by omega,
    show 0 * 3 + (y 0).val = (y 0).val by omega]

end Cert.Own.Conv

end
-- ==== Proof.ConvRef.lean ====
/- The reference of the convolution's gradient, index by index. -/
module

public import proofs.«01_k».proof.Proof.Gen.ReferenceIdeal.Read
public import proofs.«01_k».proof.Proof.ConvSpec

@[expose] public section

set_option maxRecDepth 16384

noncomputable section

namespace Cert.Own.ConvRef

open Idealize.ShloMosaic Idealize.ShloMosaic.TcCoe Idealize.SL.Sem
open Cert.ReferenceIdeal Cert.ReferenceIdeal.Gen Cert.ReferenceIdeal.Read
open Cert.Own.Conv

variable (x0 : Vec Ideal S4096x1024 .bf16) (x1 : Vec Ideal S4096x3072 .bf16) (x2 : Vec Ideal S3x1024 .f32)

/-- The input's part `i` (0, 1 or 2) at row `p` of sequence `b` and lane `l`. -/
def inPart (i b l p : Nat) : EReal := at2 x1 (2048 * b + p) (768 * (l / 256) + (256 * i + l % 256))
/-- The output's gradient at row `p` of sequence `b` and lane `l`. -/
def outPart (b l p : Nat) : EReal := at2 x0 (2048 * b + p) l

theorem xc_at (b : Fin 2) (t : Fin 2048) (l : Fin 1024) : val_main_v4 (F := Ideal) x1 (ix3 b t l) = inPart x1 0 b l t := by
  have h0 := b.isLt
  have h1 := t.isLt
  have h2 := l.isLt
  pointwise [val_main_v4, val_main_v3, val_main_v2, val_main_v1, val_main_v0]
  unfold inPart
  rw [at2_of_lt x1 (by omega) (by omega)]
  blk_point
theorem gB_at (b : Fin 2) (t : Fin 2048) (l : Fin 1024) : val_main_v7 (F := Ideal) x1 (ix3 b t l) = inPart x1 1 b l t := by
  have h0 := b.isLt
  have h1 := t.isLt
  have h2 := l.isLt
  pointwise [val_main_v7, val_main_v6, val_main_v5, val_main_v1, val_main_v0]
  unfold inPart
  rw [at2_of_lt x1 (by omega) (by omega)]
  blk_point
theorem gC_at (b : Fin 2) (t : Fin 2048) (l : Fin 1024) : val_main_v10 (F := Ideal) x1 (ix3 b t l) = inPart x1 2 b l t := by
  have h0 := b.isLt
  have h1 := t.isLt
  have h2 := l.isLt
  pointwise [val_main_v10, val_main_v9, val_main_v8, val_main_v1, val_main_v0]
  unfold inPart
  rw [at2_of_lt x1 (by omega) (by omega)]
  blk_point
theorem dp_at (b : Fin 2) (t : Fin 2048) (l : Fin 1024) : val_main_v38 (F := Ideal) x0 (ix3 b t l) = outPart x0 b l t := by
  have h0 := b.isLt
  have h1 := t.isLt
  have h2 := l.isLt
  pointwise [val_main_v38, val_main_v37]
  unfold outPart
  rw [at2_of_lt x0 (by omega) (by omega)]
  blk_point
theorem dconv_at (b : Fin 2) (t : Fin 2048) (l : Fin 1024) :
    val_main_v39 (F := Ideal) x0 x1 (ix3 b t l) = dconv (outPart x0 b l) (inPart x1 1 b l) t := by
  pointwise [val_main_v39]
  rw [dp_at, gB_at, mul_comm]
  rfl
theorem gated_at (b : Fin 2) (t : Fin 2048) (l : Fin 1024) :
    val_main_v11 (F := Ideal) x1 (ix3 b t l) = gated (inPart x1 0 b l) (inPart x1 2 b l) t := by
  pointwise [val_main_v11]
  rw [xc_at, gC_at]
  rfl
theorem down2_at (b : Fin 2) (t : Fin 2048) (l : Fin 1024) :
    val_main_v17 (F := Ideal) x1 (ix3 b t l) = down 2 (gated (inPart x1 0 b l) (inPart x1 2 b l)) t := by
  pointwise [val_main_v17, val_main_v13, val_main_v12, val_main_cst]
  unfold down
  split
  · next h => rw [if_neg (by omega)]
  · next h =>
    refine (gated_at x1 b _ l).trans (if_pos (show 2 ≤ t.val by omega)).symm
theorem down1_at (b : Fin 2) (t : Fin 2048) (l : Fin 1024) :
    val_main_v23 (F := Ideal) x1 (ix3 b t l) = down 1 (gated (inPart x1 0 b l) (inPart x1 2 b l)) t := by
  pointwise [val_main_v23, val_main_v13, val_main_v12, val_main_cst]
  unfold down
  split
  · next h => rw [if_neg (by omega)]
  · next h =>
    refine (gated_at x1 b _ l).trans (Eq.trans ?_ (if_pos (show 1 ≤ t.val by omega)).symm)
    exact congrArg _ (show 1 + t.val - 2 = t.val - 1 by omega)
theorem down0_at (b : Fin 2) (t : Fin 2048) (l : Fin 1024) :
    val_main_v30 (F := Ideal) x1 (ix3 b t l) = gated (inPart x1 0 b l) (inPart x1 2 b l) t := by
  pointwise [val_main_v30, val_main_v13, val_main_v12, val_main_cst]
  exact gated_at x1 b t l
theorem conv_at (b : Fin 2) (t : Fin 2048) (l : Fin 1024) :
    val_main_v34 (F := Ideal) x1 x2 (ix3 b t l)
      = conv (at2 x2 0 l) (at2 x2 1 l) (at2 x2 2 l) (gated (inPart x1 0 b l) (inPart x1 2 b l)) t := by
  pointwise [val_main_v34, val_main_v33, val_main_v32, val_main_v31, val_main_v29, val_main_v28, val_main_v27, val_main_v26,
    val_main_v25, val_main_v24, val_main_v22, val_main_v21, val_main_v20, val_main_v19, val_main_v18, val_main_v16, val_main_v15]
  rw [down0_at, down1_at, down2_at]
  unfold conv
  rw [at2_ix2 x2, at2_ix2 x2, at2_ix2 x2]
  rfl
theorem dgated_at (b : Fin 2) (t : Fin 2048) (l : Fin 1024) :
    val_main_v73 (F := Ideal) x0 x1 x2 (ix3 b t l)
      = dgated (at2 x2 0 l) (at2 x2 1 l) (at2 x2 2 l) (dconv (outPart x0 b l) (inPart x1 1 b l)) t := by
  pointwise [val_main_v73, val_main_v68, val_main_v67, val_main_v62, val_main_v61, val_main_v57, val_main_v56, val_main_v51, val_main_v50,
    val_main_v47, val_main_v42, val_main_v41, val_main_v31, val_main_v29, val_main_v28,
    val_main_v24, val_main_v22, val_main_v21, val_main_v18, val_main_v16, val_main_v15, val_main_cst_3, val_main_cst_7, val_main_cst_11]
  have ht := t.isLt
  simp only [dconv_at, at2_ix2 x2]
  unfold dgated
  refine congrArg₂ (· + ·) (congrArg₂ (· + ·) rfl ?_) ?_
  · by_cases h : t.val < 2047
    · rw [dif_pos (by omega), if_pos h]
      exact congrArg (fun k => at2 x2 1 l * dconv _ _ k) (show 2 + t.val - 1 = t.val + 1 by omega)
    · rw [dif_neg (by omega), if_neg h]
  · by_cases h : t.val < 2046
    · rw [dif_pos (by omega), if_pos h]
      exact congrArg (fun k => at2 x2 0 l * dconv _ _ k) (show 2 + t.val = t.val + 2 by omega)
    · rw [dif_neg (by omega), if_neg h]
theorem in_at (r : Fin 4096) (c : Fin 3072) : val_main_v88 (F := Ideal) x0 x1 x2 (ix2 r c)
      = part (c / 256 % 3) (at2 x2 0 (c / 768 * 256 + c % 256)) (at2 x2 1 (c / 768 * 256 + c % 256)) (at2 x2 2 (c / 768 * 256 + c % 256))
          (outPart x0 (r / 2048) (c / 768 * 256 + c % 256)) (inPart x1 0 (r / 2048) (c / 768 * 256 + c % 256))
          (inPart x1 1 (r / 2048) (c / 768 * 256 + c % 256)) (inPart x1 2 (r / 2048) (c / 768 * 256 + c % 256)) (r % 2048) := by
  pointwise [val_main_v88, val_main_v87, val_main_v86, val_main_v85, val_main_v84, val_main_v83, val_main_v82, val_main_v81, val_main_v80,
    val_main_v79, val_main_v78, val_main_v77, val_main_v76, val_main_v75, val_main_v74, val_main_v40, val_main_cst_13, val_main_cst_14, val_main_cst_15]
  have hr := r.isLt
  have hc := c.isLt
  simp only [dgated_at, xc_at, gC_at, dp_at, conv_at]
  unfold part
  by_cases h0 : c.val / 256 % 3 = 0
  · rw [dif_neg (by omega), dif_neg (by omega), dif_pos (by omega), if_pos h0, add_zero, zero_add, mul_comm]
  · by_cases h1 : c.val / 256 % 3 = 1
    · rw [dif_neg (by omega), dif_pos (by omega), dif_neg (by omega), if_neg h0, if_pos h1, zero_add, add_zero]
    · rw [dif_pos (by omega), dif_neg (by omega), dif_neg (by omega), if_neg h0, if_neg h1, add_zero, add_zero]
/-- The gradient of tap `k` at column `l`. -/
def tapSum (k l : Nat) : EReal :=
  ∑ b : Fin 2, ∑ p : Fin 2048, tap k (outPart x0 b l) (inPart x1 0 b l) (inPart x1 1 b l) (inPart x1 2 b l) p

/-- A sum over rows and sequences, followed by one over two axes of extent one. -/
theorem two_sums (v : FVec Ideal S2x2048x1024 .f32) (z z' : FVec Ideal S_ .f32) (hz : ∀ i, z i = 0) (hz' : ∀ i, z' i = 0) (l : Fin 1024) :
    Host.reduceAdd (shapeCast S1x1x1024 (Host.reduceAdd v z reducesTo_S2x2048x1024_S1024_d0_1 h_S_) shapeCasts_S1024_S1x1x1024) z'
      reducesTo_S1x1x1024_S1024_d0_1 h_S_ (ix1 l) = ∑ b : Fin 2, ∑ p : Fin 2048, v (ix3 b p l) := by
  refine (hostSum_leading _ _ _ _).trans ?_
  rw [hz', zero_add, Fin.sum_univ_one, Fin.sum_univ_one]
  pointwise
  refine (hostSum_leading _ _ _ _).trans ?_
  rw [hz, zero_add]

theorem sum2_at (l : Fin 1024) : val_main_v46 (F := Ideal) x0 x1 (ix1 l) = tapSum x0 x1 2 l := by
  refine (two_sums (val_main_v43 x0 x1) (val_main_cst_1 (F := Ideal)) (val_main_cst_2 (F := Ideal)) (fun i => by pointwise [val_main_cst_1])
    (fun i => by pointwise [val_main_cst_2]) l).trans ?_
  refine Finset.sum_congr rfl fun b _ => Finset.sum_congr rfl fun p _ => ?_
  pointwise [val_main_v43]
  rw [dconv_at, down0_at]
  rfl
theorem sum1_at (l : Fin 1024) : val_main_v55 (F := Ideal) x0 x1 (ix1 l) = tapSum x0 x1 1 l := by
  refine (two_sums (val_main_v52 x0 x1) (val_main_cst_5 (F := Ideal)) (val_main_cst_6 (F := Ideal)) (fun i => by pointwise [val_main_cst_5])
    (fun i => by pointwise [val_main_cst_6]) l).trans ?_
  refine Finset.sum_congr rfl fun b _ => Finset.sum_congr rfl fun p _ => ?_
  pointwise [val_main_v52]
  rw [dconv_at, down1_at]
  rfl
theorem sum0_at (l : Fin 1024) : val_main_v66 (F := Ideal) x0 x1 (ix1 l) = tapSum x0 x1 0 l := by
  refine (two_sums (val_main_v63 x0 x1) (val_main_cst_9 (F := Ideal)) (val_main_cst_10 (F := Ideal)) (fun i => by pointwise [val_main_cst_9])
    (fun i => by pointwise [val_main_cst_10]) l).trans ?_
  refine Finset.sum_congr rfl fun b _ => Finset.sum_congr rfl fun p _ => ?_
  pointwise [val_main_v63]
  rw [dconv_at, down2_at]
  rfl
theorem tap_at (k : Fin 3) (l : Fin 1024) : val_main_v71 (F := Ideal) x0 x1 (ix2 k l) = tapSum x0 x1 k l := by
  have hk := k.isLt
  pointwise [val_main_v71, val_main_v70, val_main_v69, val_main_v60, val_main_v59, val_main_v58, val_main_v49, val_main_v48, val_main_cst_12, val_main_cst_8, val_main_cst_4]
  simp only [sum0_at, sum1_at, sum2_at]
  by_cases h0 : k.val = 0
  · rw [dif_neg (by omega), dif_neg (by omega), dif_pos (by omega), h0, add_zero, zero_add]
  · by_cases h1 : k.val = 1
    · rw [dif_neg (by omega), dif_pos (by omega), dif_neg (by omega), h1, zero_add, add_zero]
    · rw [dif_pos (by omega), dif_neg (by omega), dif_neg (by omega), show k.val = 2 by omega, add_zero, add_zero]

end Cert.Own.ConvRef

end
-- ==== Proof.ConvClaim.lean ====
/- The claims about the convolution's gradient: the runs of the two programs, and their results equal. -/
module

public import proofs.«01_k».proof.Defs
public import proofs.«01_k».proof.Proof.Gen.Kernel.Frame
public import proofs.«01_k».proof.Proof.Gen.ReferenceIdeal.Run
public import proofs.«01_k».proof.Proof.ConvArray
public import proofs.«01_k».proof.Proof.ConvRef
public import Idealize.ShloMosaic.Lib.Claim

@[expose] public section

noncomputable section

namespace Cert.Own.ConvClaim

open Idealize.ShloMosaic Idealize.ShloMosaic.TcCoe Idealize.SL.Sem
open Cert.Own.Conv Cert.Own.ConvRef

/-- The reference's input gradient is the kernel's. -/
theorem in_eq (x0 : Vec Ideal Cert.KernelIdeal.S4096x1024 .bf16) (x1 : Vec Ideal Cert.KernelIdeal.S4096x3072 .bf16)
    (x2 : Vec Ideal Cert.KernelIdeal.S3x1024 .f32) :
    Cert.ReferenceIdeal.Read.val_main_v88 (F := Ideal) x0 x1 x2
      = fun i : Cert.KernelIdeal.S4096x3072.Idx => inGrad x0 x1 x2 (i 0).val (i 1).val := by
  funext i
  obtain ⟨r, c, rfl⟩ := pair_of i
  refine (in_at x0 x1 x2 r c).trans ?_
  show _ = inGrad x0 x1 x2 r.val c.val
  have hr := r.isLt
  have hc := c.isLt
  unfold inGrad outPart inPart
  rw [show (c : Nat) / 768 * 256 + c % 256 = 256 * (c / 768) + c % 256 by omega,
    show (256 * ((c : Nat) / 768) + c % 256) / 256 = c / 768 by omega, show (256 * ((c : Nat) / 768) + c % 256) % 256 = c % 256 by omega,
    show 256 * 0 + (c : Nat) % 256 = c % 256 by omega]

/-- The reference's gradient of the taps is the kernel's. -/
theorem tap_eq (x0 : Vec Ideal Cert.KernelIdeal.S4096x1024 .bf16) (x1 : Vec Ideal Cert.KernelIdeal.S4096x3072 .bf16) :
    Cert.ReferenceIdeal.Read.val_main_v71 (F := Ideal) x0 x1
      = fun i : Cert.KernelIdeal.S3x1024.Idx => tapGrad x0 x1 (i 0).val (i 1).val := by
  funext i
  obtain ⟨k, l, rfl⟩ := pair_of i
  refine (tap_at x0 x1 k l).trans ?_
  show _ = tapGrad x0 x1 k.val l.val
  have hl := l.isLt
  unfold tapSum tapGrad tapTerm outPart inPart
  rw [Finset.sum_range]
  refine Finset.sum_congr rfl fun b _ => Finset.sum_congr rfl fun p _ => ?_
  rw [show 256 * ((l : Nat) / 256) + l % 256 = l by omega, show 256 * 0 + (l : Nat) % 256 = l % 256 by omega]

theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    · rw [Conv.fin3 m c, Cert.ReferenceIdeal.Read.val_main_v88_eq, (hagree c).1, (hagree c).2.1, (hagree c).2.2,
        Cert.KernelIdeal.Gen.V_main_arg0, Cert.KernelIdeal.Gen.V_main_arg1, Cert.KernelIdeal.Gen.V_main_arg2]
      exact in_eq _ _ _
    · rw [Conv.fin4 m c, Cert.ReferenceIdeal.Read.val_main_v71_eq, (hagree c).1, (hagree c).2.1,
        Cert.KernelIdeal.Gen.V_main_arg0, Cert.KernelIdeal.Gen.V_main_arg1]
      exact tap_eq _ _

theorem reference_frame : Cert.quiescent_ReferenceIdeal (hReferenceIdeal := Cert.ReferenceIdeal.Gen.facts) := fun m ρ _ =>
  (θ_run Cert.ReferenceIdeal.defs _ _).mono
    (fun r h => ⟨fun c => ⟨(h c).2.2.1, (h c).2.2.2.1, (h c).2.2.2.2⟩, sem_eq_zero_of_no_sems (by decide) r.2⟩)
    (Cert.ReferenceIdeal.Value.run (F := Ideal) m ρ)

end Cert.Own.ConvClaim

end
-- ==== Proof.Norm.lean ====
/- The gradient of the root-mean-square normalisation of one row, in its two forms: the one kernels use, which scales the
   normalised row, and the one that differentiating the formula gives. Every entry may be infinite. -/
module

public import proofs.«01_k».proof.Proof.Basics

@[expose] public section

noncomputable section

namespace Cert.Own.Norm

open Idealize.ShloMosaic

theorem ofBits_1024 : Ideal.ofBits .f32 1149239296#32 = ((1024 : ℝ) : EReal) := by
  simp [Ideal.ofBits, Ideal.ieee, -EReal.coe_mul]; norm_num
theorem ofBits_half : Ideal.ofBits .f32 3204448256#32 = ((-(1 / 2) : ℝ) : EReal) := by
  simp [Ideal.ofBits, Ideal.ieee, -EReal.coe_mul]; norm_num
theorem ofBits_eps : ∃ e : ℝ, 0 < e ∧ Ideal.ofBits .f32 897988541#32 = (e : EReal) := by
  refine ⟨8796093 / 8796093022208, by norm_num, ?_⟩
  simp [Ideal.ofBits, Ideal.ieee, -EReal.coe_mul]; norm_num

/-- A real factor that is not negative goes into a sum. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem mul_self_nonneg (x : EReal) : 0 ≤ x * x := by
  induction x using EReal.rec with
  | bot => simp
  | top => simp
  | coe r => exact_mod_cast _root_.mul_self_nonneg r

/-- The mean square of a row, with a small positive number added. -/
def square {n : Nat} (x : Fin n → EReal) : EReal :=
  Ideal.div (∑ j, x j * x j) (Ideal.ofBits .f32 1149239296#32) + Ideal.ofBits .f32 897988541#32
/-- What a row is scaled by. -/
def scale {n : Nat} (x : Fin n → EReal) : EReal := Ideal.rsqrt (square x)

theorem square_cases {n : Nat} (x : Fin n → EReal) : square x = ⊤ ∨ ∃ w : ℝ, 0 < w ∧ square x = (w : EReal) := by
  obtain ⟨e, he, hE⟩ := ofBits_eps
  unfold square
  rw [ofBits_1024, hE, Ideal.div_coe (by norm_num)]
  have hs : 0 ≤ ∑ j, x j * x j := Finset.sum_nonneg fun j _ => mul_self_nonneg (x j)
  generalize ∑ j, x j * x j = s at hs
  induction s using EReal.rec with
  | bot => exact absurd hs (by simp)
  | top =>
    left
    rw [EReal.top_mul_coe_of_pos (by norm_num), EReal.top_add_coe]
  | coe s =>
    right
    have hs' : 0 ≤ s := by exact_mod_cast hs
    exact ⟨s * (1 / 1024) + e, by positivity, by push_cast; rfl⟩

theorem scale_cases {n : Nat} (x : Fin n → EReal) :
    (scale x = 0 ∧ Ideal.div (scale x) (square x) = 0)
      ∨ ∃ r : ℝ, 0 < r ∧ scale x = (r : EReal) ∧ Ideal.div (scale x) (square x) = ((r * (r * r) : ℝ) : EReal) := by
  unfold scale
  rcases square_cases x with h | ⟨w, hw, h⟩
  · left
    rw [h]
    have h0 : Ideal.rsqrt ⊤ = 0 := rfl
    refine ⟨h0, ?_⟩
    rw [h0]
    unfold Ideal.div
    rw [if_neg (by simp), zero_mul]
  · right
    have hq : 0 < Real.sqrt w := Real.sqrt_pos.mpr hw
    refine ⟨(Real.sqrt w)⁻¹, inv_pos.mpr hq, ?_, ?_⟩
    · rw [h, Ideal.rsqrt_coe, if_neg (not_lt.mpr hw.le), if_neg hw.ne']
    · rw [h, Ideal.rsqrt_coe, if_neg (not_lt.mpr hw.le), if_neg hw.ne', Ideal.div_coe hw.ne', ← EReal.coe_mul]
      congr 2
      rw [← mul_inv, Real.mul_self_sqrt hw.le, one_div]

theorem twice (y : EReal) {c : ℝ} (hc : 0 < c) : y * ((-(c / 2) : ℝ) : EReal) + y * ((-(c / 2) : ℝ) : EReal) = -(y * (c : EReal)) := by
  have hn : -(c / 2) < 0 := by linarith
  induction y using EReal.rec with
  | bot => rw [EReal.bot_mul_coe_of_neg hn, EReal.bot_mul_coe_of_pos hc]; rfl
  | top => rw [EReal.top_mul_coe_of_neg hn, EReal.top_mul_coe_of_pos hc]; rfl
  | coe y => norm_cast; ring

/-- The two forms of a row's gradient agree: `a` is the gradient of the scaled row. -/
theorem grad_eq {n : Nat} (x a : Fin n → EReal) (d : EReal) (l : Fin n) :
    d + scale x * (a l - x l * scale x * Ideal.div (∑ j, a j * (x j * scale x)) (Ideal.ofBits .f32 1149239296#32))
      = d + a l * scale x
        + x l * Ideal.div ((∑ j, x j * a j) * (Ideal.ofBits .f32 3204448256#32 * Ideal.div (scale x) (square x))) (Ideal.ofBits .f32 1149239296#32)
        + Ideal.div ((∑ j, x j * a j) * (Ideal.ofBits .f32 3204448256#32 * Ideal.div (scale x) (square x))) (Ideal.ofBits .f32 1149239296#32) * x l := by
  rw [ofBits_1024, ofBits_half, Ideal.div_coe (by norm_num), Ideal.div_coe (by norm_num)]
  rcases scale_cases x with ⟨h0, h1⟩ | ⟨r, hr, h0, h1⟩
  · rw [h1, h0]; simp
  · rw [h1, h0]
    have hS : ∑ j, a j * (x j * (r : EReal)) = (∑ j, x j * a j) * (r : EReal) := by
      rw [sum_mul_coe _ _ hr.le]
      refine Finset.sum_congr rfl fun j _ => ?_
      rw [← mul_assoc, mul_comm (a j)]
    rw [hS]
    generalize ∑ j, x j * a j = S
    have hc : 0 < r * (r * r) * (1 / 1024) := by positivity
    have e1 : x l * (S * (((-(1 / 2) : ℝ) : EReal) * ((r * (r * r) : ℝ) : EReal)) * ((1 / 1024 : ℝ) : EReal))
        = x l * S * ((-(r * (r * r) * (1 / 1024) / 2) : ℝ) : EReal) := by
      rw [mul_assoc, mul_assoc, mul_assoc, ← EReal.coe_mul, ← EReal.coe_mul]
      congr 4
      ring
    rw [mul_comm _ (x l), e1, add_assoc, twice _ hc]
    have e2 : (r : EReal) * (a l - x l * (r : EReal) * (S * (r : EReal) * ((1 / 1024 : ℝ) : EReal)))
        = a l * (r : EReal) + -(x l * S * ((r * (r * r) * (1 / 1024) : ℝ) : EReal)) := by
      rw [sub_eq_add_neg, EReal.left_distrib_of_nonneg_of_ne_top (by exact_mod_cast hr.le) (EReal.coe_ne_top r), mul_comm _ (a l)]
      congr 1
      rw [mul_neg]
      congr 1
      push_cast
      ac_rfl
    rw [e2, add_assoc]

end Cert.Own.Norm

end
-- ==== Proof.UpBlock.lean ====
/- The up projections' gradient kernel, one grid point: the blocks its payloads compute, read at an index. -/
module

public import proofs.«01_k».proof.Proof.Gen.KernelUpIdeal.Value
public import proofs.«01_k».proof.Proof.Norm

@[expose] public section

set_option maxRecDepth 16384

noncomputable section

namespace Cert.Own.Up

open Idealize.ShloMosaic Idealize.ShloMosaic.TcCoe Idealize.SL.Sem
open Idealize.ShloMosaic.Pipeline (Dat)
open Cert.KernelUpIdeal Cert.KernelUpIdeal.Gen Cert.Own.Norm

/-- The gradient of the normalised row `r` at column `l`: both projections' gradients, each times its weights. -/
def dh (da db : Vec Ideal S4096x2816 .bf16) (wg wu : Vec Ideal S2816x1024 .bf16) (r : Fin 4096) (l : Fin 1024) : EReal :=
  (∑ j : Fin 2816, da (ix2 r j) * wg (ix2 j l)) + ∑ j : Fin 2816, db (ix2 r j) * wu (ix2 j l)
/-- Row `r` of an array. -/
def row {n k : Nat} (x : (⟨2, ![n, k]⟩ : Shape).Idx → EReal) (r : Fin n) (l : Fin k) : EReal := x (ix2 r l)

/-- The gradient of the input. -/
def dx (da db : Vec Ideal S4096x2816 .bf16) (wg wu : Vec Ideal S2816x1024 .bf16) (x : Vec Ideal S4096x1024 .f32)
    (g : Vec Ideal S1x1024 .f32) (d : Vec Ideal S4096x1024 .f32) (r : Fin 4096) (l : Fin 1024) : EReal :=
  d (ix2 r l) + scale (row x r) * (dh da db wg wu r l * g (ix2 0 l)
    - x (ix2 r l) * scale (row x r)
      * Ideal.div (∑ j, dh da db wg wu r j * g (ix2 0 j) * (x (ix2 r j) * scale (row x r))) (Ideal.ofBits .f32 1149239296#32))
/-- Row `r`'s term of the gradient of the gain at column `l`. -/
def dgTerm (da db : Vec Ideal S4096x2816 .bf16) (wg wu : Vec Ideal S2816x1024 .bf16) (x : Vec Ideal S4096x1024 .f32)
    (r : Fin 4096) (l : Fin 1024) : EReal :=
  dh da db wg wu r l * (x (ix2 r l) * scale (row x r))

theorem dh_at (a b : Vec Ideal S512x2816 .bf16) (wg wu : Vec Ideal S2816x1024 .bf16) (p : Fin 512) (l : Fin 1024) :
    k0_pay4 (F := Ideal) a wg b wu (ix2 p l) = (∑ j : Fin 2816, a (ix2 p j) * wg (ix2 j l)) + ∑ j : Fin 2816, b (ix2 p j) * wu (ix2 j l) := by
  pointwise [k0_pay4]
theorem r_at (x : Vec Ideal S512x1024 .f32) (p : Fin 512) : k0_pay5 (F := Ideal) x (ix2 p 0) = scale (row x p) := by
  pointwise [k0_pay5]
  rfl
theorem xhat_at (x : Vec Ideal S512x1024 .f32) (p : Fin 512) (l : Fin 1024) :
    k0_pay6 (F := Ideal) x (ix2 p l) = x (ix2 p l) * scale (row x p) := by
  pointwise [k0_pay6]
  rw [r_at]
theorem dg_at (a b : Vec Ideal S512x2816 .bf16) (wg wu : Vec Ideal S2816x1024 .bf16) (x : Vec Ideal S512x1024 .f32) (acc : Vec Ideal S1x1024 .f32) (l : Fin 1024) :
    k0_pay2 (F := Ideal) (k0_pay7 a wg b wu x) acc (ix2 0 l)
      = acc (ix2 0 l) + ∑ p : Fin 512, k0_pay4 (F := Ideal) a wg b wu (ix2 p l) * (x (ix2 p l) * scale (row x p)) := by
  pointwise [k0_pay2, k0_pay7]
  simp only [xhat_at]
theorem dx_at (a b : Vec Ideal S512x2816 .bf16) (wg wu : Vec Ideal S2816x1024 .bf16) (x : Vec Ideal S512x1024 .f32) (g : Vec Ideal S1x1024 .f32) (d : Vec Ideal S512x1024 .f32) (p : Fin 512) (l : Fin 1024) :
    k0_pay1 (F := Ideal) (k0_pay8 a wg b wu x g) (k0_pay9 x) d (ix2 p l)
      = d (ix2 p l) + scale (row x p) * (k0_pay4 (F := Ideal) a wg b wu (ix2 p l) * g (ix2 0 l)
        - x (ix2 p l) * scale (row x p)
          * Ideal.div (∑ j, k0_pay4 (F := Ideal) a wg b wu (ix2 p j) * g (ix2 0 j) * (x (ix2 p j) * scale (row x p))) (Ideal.ofBits .f32 1149239296#32)) := by
  pointwise [k0_pay1, k0_pay8, k0_pay9]
  simp only [xhat_at, r_at]

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![0, 0] := by decide +kernel

/-- The row of the whole array that row `p` of grid point `t`'s block is. -/
def rowOf (t : Fin cfg0.N) (p : Fin 512) : Fin 4096 := ⟨512 * t.val + p.val, by have : t.val < 8 := t.isLt; omega⟩

theorem blk0 (t : Fin cfg0.N) (p : Fin 512) (q : Fin 2816) :
    (iblk m c 0 t : Vec Ideal S512x2816 .bf16) (ix2 p q) = (V m c main_arg0 : Vec Ideal S4096x2816 .bf16) (ix2 (rowOf t p) q) := by
  unfold rowOf
  blk_point [iblk, index0 t]
theorem blk1 (t : Fin cfg0.N) (p : Fin 512) (q : Fin 2816) :
    (iblk m c 1 t : Vec Ideal S512x2816 .bf16) (ix2 p q) = (V m c main_arg1 : Vec Ideal S4096x2816 .bf16) (ix2 (rowOf t p) q) := by
  unfold rowOf
  blk_point [iblk, index1 t]
theorem blk2 (t : Fin cfg0.N) (p : Fin 2816) (q : Fin 1024) :
    (iblk m c 2 t : Vec Ideal S2816x1024 .bf16) (ix2 p q) = (V m c main_arg2 : Vec Ideal S2816x1024 .bf16) (ix2 p q) := by
  blk_point [iblk, index2 t]
theorem blk3 (t : Fin cfg0.N) (p : Fin 2816) (q : Fin 1024) :
    (iblk m c 3 t : Vec Ideal S2816x1024 .bf16) (ix2 p q) = (V m c main_arg3 : Vec Ideal S2816x1024 .bf16) (ix2 p q) := by
  blk_point [iblk, index3 t]
theorem blk4 (t : Fin cfg0.N) (p : Fin 512) (q : Fin 1024) :
    (iblk m c 4 t : Vec Ideal S512x1024 .f32) (ix2 p q) = (V m c main_arg4 : Vec Ideal S4096x1024 .f32) (ix2 (rowOf t p) q) := by
  unfold rowOf
  blk_point [iblk, index4 t]
theorem blk5 (t : Fin cfg0.N) (p : Fin 1) (q : Fin 1024) :
    (iblk m c 5 t : Vec Ideal S1x1024 .f32) (ix2 p q) = (V m c main_arg5 : Vec Ideal S1x1024 .f32) (ix2 p q) := by
  blk_point [iblk, index5 t]
theorem blk6 (t : Fin cfg0.N) (p : Fin 512) (q : Fin 1024) :
    (iblk m c 6 t : Vec Ideal S512x1024 .f32) (ix2 p q) = (V m c main_arg6 : Vec Ideal S4096x1024 .f32) (ix2 (rowOf t p) q) := by
  unfold rowOf
  blk_point [iblk, index6 t]

theorem row_eq (t : Fin cfg0.N) (p : Fin 512) :
    row (iblk m c 4 t : Vec Ideal S512x1024 .f32) p = row (V m c main_arg4 : Vec Ideal S4096x1024 .f32) (rowOf t p) :=
  funext fun q => blk4 m c t p q

theorem dh_eq (t : Fin cfg0.N) (p : Fin 512) (l : Fin 1024) :
    k0_pay4 (F := Ideal) (iblk m c 0 t) (iblk m c 2 t) (iblk m c 1 t) (iblk m c 3 t) (ix2 p l)
      = dh (V m c main_arg0) (V m c main_arg1) (V m c main_arg2) (V m c main_arg3) (rowOf t p) l := by
  refine (dh_at _ _ _ _ p l).trans ?_
  unfold dh
  exact congrArg₂ (· + ·) (Finset.sum_congr rfl fun j _ => congrArg₂ (· * ·) (blk0 m c t p j) (blk2 m c t j l))
    (Finset.sum_congr rfl fun j _ => congrArg₂ (· * ·) (blk1 m c t p j) (blk3 m c t j l))

theorem fin7 : (dats m 0 c).arrAt 7 cfg0.N
    = fun i : S4096x1024.Idx => dx (V m c main_arg0) (V m c main_arg1) (V m c main_arg2) (V m c main_arg3) (V m c main_arg4)
        (V m c main_arg5) (V m c main_arg6) (i 0) (i 1) := by
  refine (dats m 0 c).arrAt_eq_of_covers 7 _ (by decide +kernel) fun t hf y => ?_
  blk_simp
  have key : (outsAt0 m c t.val t.isLt).1 = k0_pay1 (F := Ideal) (k0_pay8 (iblk m c 0 t) (iblk m c 2 t) (iblk m c 1 t) (iblk m c 3 t) (iblk m c 4 t) (iblk m c 5 t))
      (k0_pay9 (iblk m c 4 t)) (iblk m c 6 t) := by
    by_cases h : t.val % 8 = 0
    · rw [outsAt0_A m c t h]; funext y; frame_out
    · rw [outsAt0_B m c t h]; funext y; frame_out
  rw [after0_7, key]
  obtain ⟨p, q, hy⟩ : ∃ (p : Fin 512) (q : Fin 1024), y = ix2 p q := pair_of y
  subst hy
  refine (dx_at _ _ _ _ _ _ _ p q).trans ?_
  simp only [dh_eq m c t, row_eq m c t, blk4 m c t, blk5 m c t, blk6 m c t]
  refine Eq.trans (b := dx (V m c main_arg0) (V m c main_arg1) (V m c main_arg2) (V m c main_arg3) (V m c main_arg4)
        (V m c main_arg5) (V m c main_arg6) (rowOf t p) q) rfl ?_
  refine congrArg₂ (dx _ _ _ _ _ _ _) (Fin.ext ?_) (Fin.ext ?_)
  · show 512 * t.val + p.val = win0_7.index t 0 * 512 + 1 * p.val
    rw [index7 t]
    show 512 * t.val + p.val = t.val * 512 + 1 * p.val
    omega
  · show q.val = win0_7.index t 1 * 1024 + 1 * q.val
    rw [index7 t]
    show q.val = 0 * 1024 + 1 * q.val
    omega

/-- Grid point `t`'s term of the gain's gradient. -/
def dgBlock (da db : Vec Ideal S4096x2816 .bf16) (wg wu : Vec Ideal S2816x1024 .bf16) (x : Vec Ideal S4096x1024 .f32) (t : Nat) (l : Fin 1024) : EReal :=
  ∑ p : Fin 512, if h : t < 8 then dgTerm da db wg wu x ⟨512 * t + p.val, by omega⟩ l else 0

theorem dgBlock_eq (t : Fin cfg0.N) (acc : Vec Ideal S1x1024 .f32) (l : Fin 1024) :
    k0_pay2 (F := Ideal) (k0_pay7 (iblk m c 0 t) (iblk m c 2 t) (iblk m c 1 t) (iblk m c 3 t) (iblk m c 4 t)) acc (ix2 0 l)
      = acc (ix2 0 l) + dgBlock (V m c main_arg0) (V m c main_arg1) (V m c main_arg2) (V m c main_arg3) (V m c main_arg4) t.val l := by
  refine (dg_at _ _ _ _ _ acc l).trans (congrArg (_ + ·) ?_)
  unfold dgBlock
  refine Finset.sum_congr rfl fun p _ => ?_
  have ht : t.val < 8 := t.isLt
  rw [dif_pos ht]
  simp only [dh_eq m c t, row_eq m c t, blk4 m c t]
  rfl

theorem fin8 : (dats m 0 c).arrAt 8 cfg0.N
    = fun i : S1x1024.Idx => ∑ r : Fin 4096, dgTerm (V m c main_arg0) (V m c main_arg1) (V m c main_arg2) (V m c main_arg3) (V m c main_arg4) r (i 1) := by
  refine (dats m 0 c).arrAt_eq_of_covers 8 _ (by decide +kernel) fun t hf y => ?_
  blk_simp
  have ht : t.val < 8 := t.isLt
  have hm : t.val % 8 = 7 := (flush0_8 t).mp hf
  rw [after0_8]
  have acc := Pipeline.eq_sum_of_reset_step_apply_of_mod (fun n h => (outsAt0 m c n h).2) 8 (fun _ => 0)
    (fun t y => dgBlock (V m c main_arg0) (V m c main_arg1) (V m c main_arg2) (V m c main_arg3) (V m c main_arg4) t (y 1))
    (fun t h y => by
      obtain ⟨k, q, rfl⟩ := pair_of y
      obtain rfl : k = 0 := Subsingleton.elim _ _
      rw [outsAt0_A m c t h]
      frame_out
      refine (dgBlock_eq m c t _ q).trans (congrArg (· + _) ?_)
      pointwise [k0_pay3])
    (fun t h y => by
      obtain ⟨k, q, rfl⟩ := pair_of y
      obtain rfl : k = 0 := Subsingleton.elim _ _
      rw [outsAt0_B m c t h]
      frame_out
      exact dgBlock_eq m c t _ q) t hm y
  refine acc.trans ?_
  rw [zero_add, show 8 * (t.val / 8) = 0 by omega, Finset.sum_range]
  obtain ⟨k, q, hy⟩ : ∃ (k : Fin 1) (q : Fin 1024), y = ix2 k q := pair_of y
  subst hy
  have hq : ((View.whole main_v0_1).slice (win0_8.rect t)).emb (ix2 k q) 1 = q := by
    apply Fin.ext
    show win0_8.index t 1 * 1024 + 1 * q.val = q.val
    rw [index8 t]
    show 0 * 1024 + 1 * q.val = q.val
    omega
  refine Eq.trans ?_ (congrArg (fun l => ∑ r : Fin 4096, dgTerm (V m c main_arg0) (V m c main_arg1) (V m c main_arg2) (V m c main_arg3) (V m c main_arg4) r l) hq.symm)
  refine Eq.trans ?_ (sum_blocks (show 8 * 512 = 4096 by norm_num) _)
  refine Finset.sum_congr rfl fun k _ => Finset.sum_congr rfl fun p _ => ?_
  have hk : 0 + k.val < 8 := by have := k.isLt; omega
  rw [dif_pos hk]
  exact congrArg (fun r => dgTerm _ _ _ _ _ r q) (Fin.ext (show 512 * (0 + k.val) + p.val = 512 * k.val + p.val by omega))

end Cert.Own.Up

end
-- ==== Proof.UpRef.lean ====
/- The reference of the up projections' gradient, index by index. -/
module

public import proofs.«01_k».proof.Proof.Gen.ReferenceUpIdeal.Read
public import proofs.«01_k».proof.Proof.UpBlock

@[expose] public section

set_option maxRecDepth 16384

noncomputable section

namespace Cert.Own.UpRef

open Idealize.ShloMosaic Idealize.ShloMosaic.TcCoe Idealize.SL.Sem
open Cert.ReferenceUpIdeal Cert.ReferenceUpIdeal.Gen Cert.ReferenceUpIdeal.Read
open Cert.Own.Norm Cert.Own.Up

variable (x0 x1 : Vec Ideal S4096x2816 .bf16) (x2 x3 : Vec Ideal S2816x1024 .bf16) (x4 : Vec Ideal S4096x1024 .f32)
  (x5 : Vec Ideal S1x1024 .f32) (x6 : Vec Ideal S4096x1024 .f32)

theorem v_at (r : Fin 4096) : val_main_v10 (F := Ideal) x4 (ix2 r 0) = square (row x4 r) := by
  pointwise [val_main_v10, val_main_v9, val_main_v8, val_main_v7, val_main_v6, val_main_v5, val_main_v4, val_main_cst, val_main_cst_0, val_main_cst_1]
  rfl
theorem rs_at (r : Fin 4096) : val_main_v14 (F := Ideal) x4 (ix2 r 0)
    = Ideal.ofBits .f32 3204448256#32 * Ideal.div (scale (row x4 r)) (square (row x4 r)) := by
  pointwise [val_main_v14, val_main_v13, val_main_v12, val_main_v11, val_main_cst_2]
  rw [v_at]
  rfl
theorem dh_at (r : Fin 4096) (l : Fin 1024) : val_main_v25 (F := Ideal) x0 x1 x2 x3 (ix2 r l) = dh x0 x1 x2 x3 r l := by
  pointwise [val_main_v25, val_main_v24, val_main_v23, val_main_v22, val_main_v21, val_main_v3, val_main_v2, val_main_v1, val_main_v0]
  exact add_comm _ _
theorem dg_at (l : Fin 1024) : val_main_v28 (F := Ideal) x0 x1 x2 x3 x4 (ix2 0 l) = ∑ r : Fin 4096, dgTerm x0 x1 x2 x3 x4 r l := by
  pointwise [val_main_v28, val_main_v27, val_main_v26, val_main_v16, val_main_v15, val_main_v11, val_main_cst_3]
  refine Finset.sum_congr rfl fun r _ => ?_
  rw [dh_at, v_at, mul_comm]
  rfl
theorem c_at (r : Fin 4096) : val_main_v40 (F := Ideal) x0 x1 x2 x3 x4 x5 (ix1 r)
    = Ideal.div ((∑ j, x4 (ix2 r j) * (dh x0 x1 x2 x3 r j * x5 (ix2 0 j)))
        * (Ideal.ofBits .f32 3204448256#32 * Ideal.div (scale (row x4 r)) (square (row x4 r)))) (Ideal.ofBits .f32 1149239296#32) := by
  pointwise [val_main_v40, val_main_v39, val_main_v38, val_main_v37, val_main_v33, val_main_v32, val_main_v31, val_main_v30, val_main_v29, val_main_cst_4, val_main_cst_5, val_main_cst_6]
  rw [Fin.sum_univ_one, rs_at]
  simp only [dh_at]
theorem dx_at (r : Fin 4096) (l : Fin 1024) : val_main_v45 (F := Ideal) x0 x1 x2 x3 x4 x5 x6 (ix2 r l) = dx x0 x1 x2 x3 x4 x5 x6 r l := by
  pointwise [val_main_v45, val_main_v44, val_main_v43, val_main_v42, val_main_v41, val_main_v36, val_main_v35, val_main_v34, val_main_v30, val_main_v29, val_main_v11]
  rw [dh_at, v_at, c_at]
  exact (grad_eq (row x4 r) (fun j => dh x0 x1 x2 x3 r j * x5 (ix2 0 j)) (x6 (ix2 r l)) l).symm

end Cert.Own.UpRef

end
-- ==== Proof.UpClaim.lean ====
/- The claims about the up projections' gradient: the runs of the two programs, and their results equal. -/
module

public import proofs.«01_k».proof.Defs
public import proofs.«01_k».proof.Proof.Gen.KernelUp.Frame
public import proofs.«01_k».proof.Proof.Gen.ReferenceUpIdeal.Run
public import proofs.«01_k».proof.Proof.UpRef
public import Idealize.ShloMosaic.Lib.Claim

@[expose] public section

noncomputable section

namespace Cert.Own.UpClaim

open Idealize.ShloMosaic Idealize.ShloMosaic.TcCoe Idealize.SL.Sem
open Cert.Own.Up Cert.Own.UpRef

theorem dx_eq (x0 x1 : Vec Ideal Cert.KernelUpIdeal.S4096x2816 .bf16) (x2 x3 : Vec Ideal Cert.KernelUpIdeal.S2816x1024 .bf16)
    (x4 : Vec Ideal Cert.KernelUpIdeal.S4096x1024 .f32) (x5 : Vec Ideal Cert.KernelUpIdeal.S1x1024 .f32)
    (x6 : Vec Ideal Cert.KernelUpIdeal.S4096x1024 .f32) :
    Cert.ReferenceUpIdeal.Read.val_main_v45 (F := Ideal) x0 x1 x2 x3 x4 x5 x6
      = fun i : Cert.KernelUpIdeal.S4096x1024.Idx => dx x0 x1 x2 x3 x4 x5 x6 (i 0) (i 1) := by
  funext i
  obtain ⟨r, l, rfl⟩ := pair_of i
  exact UpRef.dx_at x0 x1 x2 x3 x4 x5 x6 r l

theorem dg_eq (x0 x1 : Vec Ideal Cert.KernelUpIdeal.S4096x2816 .bf16) (x2 x3 : Vec Ideal Cert.KernelUpIdeal.S2816x1024 .bf16)
    (x4 : Vec Ideal Cert.KernelUpIdeal.S4096x1024 .f32) :
    Cert.ReferenceUpIdeal.Read.val_main_v28 (F := Ideal) x0 x1 x2 x3 x4
      = fun i : Cert.KernelUpIdeal.S1x1024.Idx => ∑ r : Fin 4096, dgTerm x0 x1 x2 x3 x4 r (i 1) := by
  funext i
  obtain ⟨k, l, rfl⟩ := pair_of i
  obtain rfl : k = 0 := Subsingleton.elim _ _
  exact UpRef.dg_at x0 x1 x2 x3 x4 l

theorem algebraic : Cert.algebraic_KernelUpIdeal_ReferenceUpIdeal (hKernelUpIdeal := Cert.KernelUpIdeal.Gen.facts) (hReferenceUpIdeal := Cert.ReferenceUpIdeal.Gen.facts) := by
  pair_intro
  · run_from Cert.KernelUpIdeal.Value.run_blocks m g
  · refine θ_run_mono (Cert.ReferenceUpIdeal.Value.run (F := Ideal) m' g') ?_
    intro r hr c
    refine ⟨(hr c).1.trans ?_, (hr c).2.1.trans ?_, (hr c).2.2⟩
    · rw [Cert.ReferenceUpIdeal.Read.val_main_v45_eq, (hagree c).1, (hagree c).2.1, (hagree c).2.2.1, (hagree c).2.2.2.1, (hagree c).2.2.2.2.1, (hagree c).2.2.2.2.2.1, (hagree c).2.2.2.2.2.2]
      refine (dx_eq _ _ _ _ _ _ _).trans ((Up.fin7 m c).trans ?_).symm
      rw [Cert.KernelUpIdeal.Gen.V_main_arg0, Cert.KernelUpIdeal.Gen.V_main_arg1, Cert.KernelUpIdeal.Gen.V_main_arg2, Cert.KernelUpIdeal.Gen.V_main_arg3, Cert.KernelUpIdeal.Gen.V_main_arg4, Cert.KernelUpIdeal.Gen.V_main_arg5, Cert.KernelUpIdeal.Gen.V_main_arg6]
    · rw [Cert.ReferenceUpIdeal.Read.val_main_v28_eq, (hagree c).1, (hagree c).2.1, (hagree c).2.2.1, (hagree c).2.2.2.1, (hagree c).2.2.2.2.1]
      refine (dg_eq _ _ _ _ _).trans ((Up.fin8 m c).trans ?_).symm
      rw [Cert.KernelUpIdeal.Gen.V_main_arg0, Cert.KernelUpIdeal.Gen.V_main_arg1, Cert.KernelUpIdeal.Gen.V_main_arg2, Cert.KernelUpIdeal.Gen.V_main_arg3, Cert.KernelUpIdeal.Gen.V_main_arg4]

theorem reference_frame : Cert.quiescent_ReferenceUpIdeal (hReferenceUpIdeal := Cert.ReferenceUpIdeal.Gen.facts) := fun m ρ _ =>
  (θ_run Cert.ReferenceUpIdeal.defs _ _).mono
    (fun r h => ⟨fun c => (h c).2.2, sem_eq_zero_of_no_sems (by decide) r.2⟩)
    (Cert.ReferenceUpIdeal.Value.run (F := Ideal) m ρ)

end Cert.Own.UpClaim

end
-- ==== Proof.ProjBlock.lean ====
/- The combined input projection's gradient kernel, one grid point: the blocks its payloads compute, read at an index. -/
module

public import proofs.«01_k».proof.Proof.Gen.KernelProjIdeal.Value
public import proofs.«01_k».proof.Proof.UpBlock

@[expose] public section

set_option maxRecDepth 16384

noncomputable section

namespace Cert.Own.Proj

open Idealize.ShloMosaic Idealize.ShloMosaic.TcCoe Idealize.SL.Sem
open Idealize.ShloMosaic.Pipeline (Dat)
open Cert.KernelProjIdeal Cert.KernelProjIdeal.Gen Cert.Own.Norm
open Cert.Own.Up (row)

/-- The gradient of the normalised row `r` at column `l`: the three projections' gradients, each times its weights. -/
def dh (dl : Vec Ideal S4096x768 .bf16) (dc : Vec Ideal S4096x3072 .bf16) (dg : Vec Ideal S4096x2048 .bf16) (wl : Vec Ideal S768x1024 .bf16)
    (wc : Vec Ideal S3072x1024 .bf16) (wg : Vec Ideal S2048x1024 .bf16) (r : Fin 4096) (l : Fin 1024) : EReal :=
  (∑ j : Fin 768, dl (ix2 r j) * wl (ix2 j l)) + (∑ j : Fin 3072, dc (ix2 r j) * wc (ix2 j l)) + ∑ j : Fin 2048, dg (ix2 r j) * wg (ix2 j l)

/-- The gradient of the input, of the gradient `h` of the normalised rows. -/
def dx (h : Fin 4096 → Fin 1024 → EReal) (x : Vec Ideal S4096x1024 .f32)
    (g : Vec Ideal S1x1024 .f32) (d : Vec Ideal S4096x1024 .f32) (r : Fin 4096) (l : Fin 1024) : EReal :=
  d (ix2 r l) + scale (row x r) * (h r l * g (ix2 0 l)
    - x (ix2 r l) * scale (row x r)
      * Ideal.div (∑ j, h r j * g (ix2 0 j) * (x (ix2 r j) * scale (row x r))) (Ideal.ofBits .f32 1149239296#32))
/-- Row `r`'s term of the gradient of the gain at column `l`. -/
def dgTerm (h : Fin 4096 → Fin 1024 → EReal) (x : Vec Ideal S4096x1024 .f32) (r : Fin 4096) (l : Fin 1024) : EReal :=
  h r l * (x (ix2 r l) * scale (row x r))

variable (a : Vec Ideal S512x768 .bf16) (b : Vec Ideal S512x3072 .bf16) (e : Vec Ideal S512x2048 .bf16) (wl : Vec Ideal S768x1024 .bf16)
  (wc : Vec Ideal S3072x1024 .bf16) (wg : Vec Ideal S2048x1024 .bf16) (x : Vec Ideal S512x1024 .f32)

theorem dh_at (p : Fin 512) (l : Fin 1024) :
    k0_pay4 (F := Ideal) a wl b wc e wg (ix2 p l)
      = (∑ j : Fin 768, a (ix2 p j) * wl (ix2 j l)) + (∑ j : Fin 3072, b (ix2 p j) * wc (ix2 j l)) + ∑ j : Fin 2048, e (ix2 p j) * wg (ix2 j l) := by
  pointwise [k0_pay4]
theorem r_at (p : Fin 512) : k0_pay5 (F := Ideal) x (ix2 p 0) = scale (row x p) := by
  pointwise [k0_pay5]
  rfl
theorem xhat_at (p : Fin 512) (l : Fin 1024) : k0_pay6 (F := Ideal) x (ix2 p l) = x (ix2 p l) * scale (row x p) := by
  pointwise [k0_pay6]
  rw [r_at]
theorem dg_at (acc : Vec Ideal S1x1024 .f32) (l : Fin 1024) :
    k0_pay2 (F := Ideal) (k0_pay7 a wl b wc e wg x) acc (ix2 0 l)
      = acc (ix2 0 l) + ∑ p : Fin 512, k0_pay4 (F := Ideal) a wl b wc e wg (ix2 p l) * (x (ix2 p l) * scale (row x p)) := by
  pointwise [k0_pay2, k0_pay7]
  simp only [xhat_at]
theorem dx_at (g : Vec Ideal S1x1024 .f32) (d : Vec Ideal S512x1024 .f32) (p : Fin 512) (l : Fin 1024) :
    k0_pay1 (F := Ideal) (k0_pay5 x) (k0_pay6 x) (k0_pay8 a wl b wc e wg g) (k0_pay9 a wl b wc e wg x g) d (ix2 p l)
      = d (ix2 p l) + scale (row x p) * (k0_pay4 (F := Ideal) a wl b wc e wg (ix2 p l) * g (ix2 0 l)
        - x (ix2 p l) * scale (row x p)
          * Ideal.div (∑ j, k0_pay4 (F := Ideal) a wl b wc e wg (ix2 p j) * g (ix2 0 j) * (x (ix2 p j) * scale (row x p))) (Ideal.ofBits .f32 1149239296#32)) := by
  pointwise [k0_pay1, k0_pay8, k0_pay9]
  simp only [xhat_at, r_at]

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![0, 0] := by decide +kernel
theorem index8 : ∀ t : Fin cfg0.N, win0_8.index t = ![t.val, 0] := by decide +kernel
theorem index9 : ∀ t : Fin cfg0.N, win0_9.index t = ![t.val, 0] := by decide +kernel
theorem index10 : ∀ t : Fin cfg0.N, win0_10.index t = ![0, 0] := by decide +kernel

/-- The row of the whole array that row `p` of grid point `t`'s block is. -/
def rowOf (t : Fin cfg0.N) (p : Fin 512) : Fin 4096 := ⟨512 * t.val + p.val, by have : t.val < 8 := t.isLt; omega⟩

theorem blk0 (t : Fin cfg0.N) (p : Fin 512) (q : Fin 768) :
    (iblk m c 0 t : Vec Ideal S512x768 .bf16) (ix2 p q) = (V m c main_arg0 : Vec Ideal S4096x768 .bf16) (ix2 (rowOf t p) q) := by
  unfold rowOf
  blk_point [iblk, index0 t]
theorem blk1 (t : Fin cfg0.N) (p : Fin 512) (q : Fin 3072) :
    (iblk m c 1 t : Vec Ideal S512x3072 .bf16) (ix2 p q) = (V m c main_arg1 : Vec Ideal S4096x3072 .bf16) (ix2 (rowOf t p) q) := by
  unfold rowOf
  blk_point [iblk, index1 t]
theorem blk2 (t : Fin cfg0.N) (p : Fin 512) (q : Fin 2048) :
    (iblk m c 2 t : Vec Ideal S512x2048 .bf16) (ix2 p q) = (V m c main_arg2 : Vec Ideal S4096x2048 .bf16) (ix2 (rowOf t p) q) := by
  unfold rowOf
  blk_point [iblk, index2 t]
theorem blk3 (t : Fin cfg0.N) (p : Fin 768) (q : Fin 1024) :
    (iblk m c 3 t : Vec Ideal S768x1024 .bf16) (ix2 p q) = (V m c main_arg3 : Vec Ideal S768x1024 .bf16) (ix2 p q) := by
  blk_point [iblk, index3 t]
theorem blk4 (t : Fin cfg0.N) (p : Fin 3072) (q : Fin 1024) :
    (iblk m c 4 t : Vec Ideal S3072x1024 .bf16) (ix2 p q) = (V m c main_arg4 : Vec Ideal S3072x1024 .bf16) (ix2 p q) := by
  blk_point [iblk, index4 t]
theorem blk5 (t : Fin cfg0.N) (p : Fin 2048) (q : Fin 1024) :
    (iblk m c 5 t : Vec Ideal S2048x1024 .bf16) (ix2 p q) = (V m c main_arg5 : Vec Ideal S2048x1024 .bf16) (ix2 p q) := by
  blk_point [iblk, index5 t]
theorem blk6 (t : Fin cfg0.N) (p : Fin 512) (q : Fin 1024) :
    (iblk m c 6 t : Vec Ideal S512x1024 .f32) (ix2 p q) = (V m c main_arg6 : Vec Ideal S4096x1024 .f32) (ix2 (rowOf t p) q) := by
  unfold rowOf
  blk_point [iblk, index6 t]
theorem blk7 (t : Fin cfg0.N) (p : Fin 1) (q : Fin 1024) :
    (iblk m c 7 t : Vec Ideal S1x1024 .f32) (ix2 p q) = (V m c main_arg7 : Vec Ideal S1x1024 .f32) (ix2 p q) := by
  blk_point [iblk, index7 t]
theorem blk8 (t : Fin cfg0.N) (p : Fin 512) (q : Fin 1024) :
    (iblk m c 8 t : Vec Ideal S512x1024 .f32) (ix2 p q) = (V m c main_arg8 : Vec Ideal S4096x1024 .f32) (ix2 (rowOf t p) q) := by
  unfold rowOf
  blk_point [iblk, index8 t]

theorem row_eq (t : Fin cfg0.N) (p : Fin 512) :
    row (iblk m c 6 t : Vec Ideal S512x1024 .f32) p = row (V m c main_arg6 : Vec Ideal S4096x1024 .f32) (rowOf t p) :=
  funext fun q => blk6 m c t p q

/-- The gradient of the normalised rows, of the whole arrays. -/
abbrev dhV (r : Fin 4096) (l : Fin 1024) : EReal :=
  dh (V m c main_arg0) (V m c main_arg1) (V m c main_arg2) (V m c main_arg3) (V m c main_arg4) (V m c main_arg5) r l

theorem dh_eq (t : Fin cfg0.N) (p : Fin 512) (l : Fin 1024) :
    k0_pay4 (F := Ideal) (iblk m c 0 t) (iblk m c 3 t) (iblk m c 1 t) (iblk m c 4 t) (iblk m c 2 t) (iblk m c 5 t) (ix2 p l)
      = dhV m c (rowOf t p) l := by
  refine (dh_at _ _ _ _ _ _ p l).trans ?_
  unfold dhV dh
  exact congrArg₂ (· + ·) (congrArg₂ (· + ·) (Finset.sum_congr rfl fun j _ => congrArg₂ (· * ·) (blk0 m c t p j) (blk3 m c t j l))
    (Finset.sum_congr rfl fun j _ => congrArg₂ (· * ·) (blk1 m c t p j) (blk4 m c t j l)))
    (Finset.sum_congr rfl fun j _ => congrArg₂ (· * ·) (blk2 m c t p j) (blk5 m c t j l))

theorem fin9 : (dats m 0 c).arrAt 9 cfg0.N
    = fun i : S4096x1024.Idx => dx (dhV m c) (V m c main_arg6) (V m c main_arg7) (V m c main_arg8) (i 0) (i 1) := by
  refine (dats m 0 c).arrAt_eq_of_covers 9 _ (by decide +kernel) fun t hf y => ?_
  blk_simp
  have key : (outsAt0 m c t.val t.isLt).1 = k0_pay1 (F := Ideal) (k0_pay5 (iblk m c 6 t)) (k0_pay6 (iblk m c 6 t))
      (k0_pay8 (iblk m c 0 t) (iblk m c 3 t) (iblk m c 1 t) (iblk m c 4 t) (iblk m c 2 t) (iblk m c 5 t) (iblk m c 7 t))
      (k0_pay9 (iblk m c 0 t) (iblk m c 3 t) (iblk m c 1 t) (iblk m c 4 t) (iblk m c 2 t) (iblk m c 5 t) (iblk m c 6 t) (iblk m c 7 t)) (iblk m c 8 t) := by
    by_cases h : t.val % 8 = 0
    · rw [outsAt0_A m c t h]; funext y; frame_out
    · rw [outsAt0_B m c t h]; funext y; frame_out
  rw [after0_9, key]
  obtain ⟨p, q, hy⟩ : ∃ (p : Fin 512) (q : Fin 1024), y = ix2 p q := pair_of y
  subst hy
  refine (dx_at _ _ _ _ _ _ _ _ _ p q).trans ?_
  simp only [dh_eq m c t, row_eq m c t, blk6 m c t, blk7 m c t, blk8 m c t]
  refine Eq.trans (b := dx (dhV m c) (V m c main_arg6) (V m c main_arg7) (V m c main_arg8) (rowOf t p) q) rfl ?_
  refine congrArg₂ (dx _ _ _ _) (Fin.ext ?_) (Fin.ext ?_)
  · show 512 * t.val + p.val = win0_9.index t 0 * 512 + 1 * p.val
    rw [index9 t]
    show 512 * t.val + p.val = t.val * 512 + 1 * p.val
    omega
  · show q.val = win0_9.index t 1 * 1024 + 1 * q.val
    rw [index9 t]
    show q.val = 0 * 1024 + 1 * q.val
    omega

/-- Grid point `t`'s term of the gain's gradient. -/
def dgBlock (h : Fin 4096 → Fin 1024 → EReal) (x : Vec Ideal S4096x1024 .f32) (t : Nat) (l : Fin 1024) : EReal :=
  ∑ p : Fin 512, if ht : t < 8 then dgTerm h x ⟨512 * t + p.val, by omega⟩ l else 0

theorem dgBlock_eq (t : Fin cfg0.N) (acc : Vec Ideal S1x1024 .f32) (l : Fin 1024) :
    k0_pay2 (F := Ideal) (k0_pay7 (iblk m c 0 t) (iblk m c 3 t) (iblk m c 1 t) (iblk m c 4 t) (iblk m c 2 t) (iblk m c 5 t) (iblk m c 6 t)) acc (ix2 0 l)
      = acc (ix2 0 l) + dgBlock (dhV m c) (V m c main_arg6) t.val l := by
  refine (dg_at _ _ _ _ _ _ _ acc l).trans (congrArg (_ + ·) ?_)
  unfold dgBlock
  refine Finset.sum_congr rfl fun p _ => ?_
  have ht : t.val < 8 := t.isLt
  rw [dif_pos ht]
  simp only [dh_eq m c t, row_eq m c t, blk6 m c t]
  rfl

theorem fin10 : (dats m 0 c).arrAt 10 cfg0.N
    = fun i : S1x1024.Idx => ∑ r : Fin 4096, dgTerm (dhV m c) (V m c main_arg6) r (i 1) := by
  refine (dats m 0 c).arrAt_eq_of_covers 10 _ (by decide +kernel) fun t hf y => ?_
  blk_simp
  have ht : t.val < 8 := t.isLt
  have hm : t.val % 8 = 7 := (flush0_10 t).mp hf
  rw [after0_10]
  have acc := Pipeline.eq_sum_of_reset_step_apply_of_mod (fun n h => (outsAt0 m c n h).2) 8 (fun _ => 0)
    (fun t y => dgBlock (dhV m c) (V m c main_arg6) t (y 1))
    (fun t h y => by
      obtain ⟨k, q, rfl⟩ := pair_of y
      obtain rfl : k = 0 := Subsingleton.elim _ _
      rw [outsAt0_A m c t h]
      frame_out
      refine (dgBlock_eq m c t _ q).trans (congrArg (· + _) ?_)
      pointwise [k0_pay3])
    (fun t h y => by
      obtain ⟨k, q, rfl⟩ := pair_of y
      obtain rfl : k = 0 := Subsingleton.elim _ _
      rw [outsAt0_B m c t h]
      frame_out
      exact dgBlock_eq m c t _ q) t hm y
  refine acc.trans ?_
  rw [zero_add, show 8 * (t.val / 8) = 0 by omega, Finset.sum_range]
  obtain ⟨k, q, hy⟩ : ∃ (k : Fin 1) (q : Fin 1024), y = ix2 k q := pair_of y
  subst hy
  have hq : ((View.whole main_v0_1).slice (win0_10.rect t)).emb (ix2 k q) 1 = q := by
    apply Fin.ext
    show win0_10.index t 1 * 1024 + 1 * q.val = q.val
    rw [index10 t]
    show 0 * 1024 + 1 * q.val = q.val
    omega
  refine Eq.trans ?_ (congrArg (fun l => ∑ r : Fin 4096, dgTerm (dhV m c) (V m c main_arg6) r l) hq.symm)
  refine Eq.trans ?_ (sum_blocks (show 8 * 512 = 4096 by norm_num) _)
  refine Finset.sum_congr rfl fun k _ => Finset.sum_congr rfl fun p _ => ?_
  have hk : 0 + k.val < 8 := by have := k.isLt; omega
  rw [dif_pos hk]
  exact congrArg (fun r => dgTerm _ _ r q) (Fin.ext (show 512 * (0 + k.val) + p.val = 512 * k.val + p.val by omega))

end Cert.Own.Proj

end
-- ==== Proof.ProjRef.lean ====
/- The reference of the combined input projection's gradient, index by index. -/
module

public import proofs.«01_k».proof.Proof.Gen.ReferenceProjIdeal.Read
public import proofs.«01_k».proof.Proof.ProjBlock

@[expose] public section

set_option maxRecDepth 16384

noncomputable section

namespace Cert.Own.ProjRef

open Idealize.ShloMosaic Idealize.ShloMosaic.TcCoe Idealize.SL.Sem
open Cert.ReferenceProjIdeal Cert.ReferenceProjIdeal.Gen Cert.ReferenceProjIdeal.Read
open Cert.Own.Norm Cert.Own.Proj
open Cert.Own.Up (row)

variable (x0 : Vec Ideal S4096x768 .bf16) (x1 : Vec Ideal S4096x3072 .bf16) (x2 : Vec Ideal S4096x2048 .bf16) (x3 : Vec Ideal S768x1024 .bf16)
  (x4 : Vec Ideal S3072x1024 .bf16) (x5 : Vec Ideal S2048x1024 .bf16) (x6 : Vec Ideal S4096x1024 .f32) (x7 : Vec Ideal S1x1024 .f32)
  (x8 : Vec Ideal S4096x1024 .f32)

theorem v_at (r : Fin 4096) : val_main_v15 (F := Ideal) x6 (ix2 r 0) = square (row x6 r) := by
  pointwise [val_main_v15, val_main_v14, val_main_v13, val_main_v12, val_main_v11, val_main_v10, val_main_v9, val_main_cst, val_main_cst_0, val_main_cst_1]
  rfl
theorem rs_at (r : Fin 4096) : val_main_v19 (F := Ideal) x6 (ix2 r 0)
    = Ideal.ofBits .f32 3204448256#32 * Ideal.div (scale (row x6 r)) (square (row x6 r)) := by
  pointwise [val_main_v19, val_main_v18, val_main_v17, val_main_v16, val_main_cst_2]
  rw [v_at]
  rfl
theorem dh_at (r : Fin 4096) (l : Fin 1024) : val_main_v31 (F := Ideal) x0 x1 x2 x3 x4 x5 (ix2 r l) = dh x0 x1 x2 x3 x4 x5 r l := by
  pointwise [val_main_v31, val_main_v30, val_main_v29, val_main_v28, val_main_v27, val_main_v8, val_main_v7, val_main_v6, val_main_v5, val_main_v4, val_main_v3, val_main_v2, val_main_v1, val_main_v0]
  unfold dh
  rw [add_comm (∑ _, _) (∑ _, _)]
  ac_rfl
theorem dg_at (l : Fin 1024) : val_main_v34 (F := Ideal) x0 x1 x2 x3 x4 x5 x6 (ix2 0 l) = ∑ r : Fin 4096, dgTerm (dh x0 x1 x2 x3 x4 x5) x6 r l := by
  pointwise [val_main_v34, val_main_v33, val_main_v32, val_main_v21, val_main_v20, val_main_v16, val_main_cst_3]
  refine Finset.sum_congr rfl fun r _ => ?_
  rw [dh_at, v_at, mul_comm]
  rfl
theorem c_at (r : Fin 4096) : val_main_v46 (F := Ideal) x0 x1 x2 x3 x4 x5 x6 x7 (ix1 r)
    = Ideal.div ((∑ j, x6 (ix2 r j) * (dh x0 x1 x2 x3 x4 x5 r j * x7 (ix2 0 j)))
        * (Ideal.ofBits .f32 3204448256#32 * Ideal.div (scale (row x6 r)) (square (row x6 r)))) (Ideal.ofBits .f32 1149239296#32) := by
  pointwise [val_main_v46, val_main_v45, val_main_v44, val_main_v43, val_main_v39, val_main_v38, val_main_v37, val_main_v36, val_main_v35, val_main_cst_4, val_main_cst_5, val_main_cst_6]
  rw [Fin.sum_univ_one, rs_at]
  simp only [dh_at]
theorem dx_at (r : Fin 4096) (l : Fin 1024) : val_main_v51 (F := Ideal) x0 x1 x2 x3 x4 x5 x6 x7 x8 (ix2 r l) = dx (dh x0 x1 x2 x3 x4 x5) x6 x7 x8 r l := by
  pointwise [val_main_v51, val_main_v50, val_main_v49, val_main_v48, val_main_v47, val_main_v42, val_main_v41, val_main_v40, val_main_v36, val_main_v35, val_main_v16]
  rw [dh_at, v_at, c_at]
  exact (grad_eq (row x6 r) (fun j => dh x0 x1 x2 x3 x4 x5 r j * x7 (ix2 0 j)) (x8 (ix2 r l)) l).symm

end Cert.Own.ProjRef

end
-- ==== Proof.ProjClaim.lean ====
/- The claims about the combined input projection's gradient: the runs of the two programs, and their results equal. -/
module

public import proofs.«01_k».proof.Defs
public import proofs.«01_k».proof.Proof.Gen.KernelProj.Frame
public import proofs.«01_k».proof.Proof.Gen.ReferenceProjIdeal.Run
public import proofs.«01_k».proof.Proof.ProjRef
public import Idealize.ShloMosaic.Lib.Claim

@[expose] public section

noncomputable section

namespace Cert.Own.ProjClaim

open Idealize.ShloMosaic Idealize.ShloMosaic.TcCoe Idealize.SL.Sem
open Cert.Own.Proj Cert.Own.ProjRef

theorem dx_eq (x0 : Vec Ideal Cert.KernelProjIdeal.S4096x768 .bf16) (x1 : Vec Ideal Cert.KernelProjIdeal.S4096x3072 .bf16) (x2 : Vec Ideal Cert.KernelProjIdeal.S4096x2048 .bf16)
    (x3 : Vec Ideal Cert.KernelProjIdeal.S768x1024 .bf16) (x4 : Vec Ideal Cert.KernelProjIdeal.S3072x1024 .bf16) (x5 : Vec Ideal Cert.KernelProjIdeal.S2048x1024 .bf16)
    (x6 : Vec Ideal Cert.KernelProjIdeal.S4096x1024 .f32) (x7 : Vec Ideal Cert.KernelProjIdeal.S1x1024 .f32) (x8 : Vec Ideal Cert.KernelProjIdeal.S4096x1024 .f32) :
    Cert.ReferenceProjIdeal.Read.val_main_v51 (F := Ideal) x0 x1 x2 x3 x4 x5 x6 x7 x8
      = fun i : Cert.KernelProjIdeal.S4096x1024.Idx => dx (dh x0 x1 x2 x3 x4 x5) x6 x7 x8 (i 0) (i 1) := by
  funext i
  obtain ⟨r, l, rfl⟩ := pair_of i
  exact ProjRef.dx_at x0 x1 x2 x3 x4 x5 x6 x7 x8 r l

theorem dg_eq (x0 : Vec Ideal Cert.KernelProjIdeal.S4096x768 .bf16) (x1 : Vec Ideal Cert.KernelProjIdeal.S4096x3072 .bf16) (x2 : Vec Ideal Cert.KernelProjIdeal.S4096x2048 .bf16)
    (x3 : Vec Ideal Cert.KernelProjIdeal.S768x1024 .bf16) (x4 : Vec Ideal Cert.KernelProjIdeal.S3072x1024 .bf16) (x5 : Vec Ideal Cert.KernelProjIdeal.S2048x1024 .bf16)
    (x6 : Vec Ideal Cert.KernelProjIdeal.S4096x1024 .f32) :
    Cert.ReferenceProjIdeal.Read.val_main_v34 (F := Ideal) x0 x1 x2 x3 x4 x5 x6
      = fun i : Cert.KernelProjIdeal.S1x1024.Idx => ∑ r : Fin 4096, dgTerm (dh x0 x1 x2 x3 x4 x5) x6 r (i 1) := by
  funext i
  obtain ⟨k, l, rfl⟩ := pair_of i
  obtain rfl : k = 0 := Subsingleton.elim _ _
  exact ProjRef.dg_at x0 x1 x2 x3 x4 x5 x6 l

theorem algebraic : Cert.algebraic_KernelProjIdeal_ReferenceProjIdeal (hKernelProjIdeal := Cert.KernelProjIdeal.Gen.facts) (hReferenceProjIdeal := Cert.ReferenceProjIdeal.Gen.facts) := by
  pair_intro
  · run_from Cert.KernelProjIdeal.Value.run_blocks m g
  · refine θ_run_mono (Cert.ReferenceProjIdeal.Value.run (F := Ideal) m' g') ?_
    intro r hr c
    refine ⟨(hr c).1.trans ?_, (hr c).2.1.trans ?_, (hr c).2.2⟩
    · rw [Cert.ReferenceProjIdeal.Read.val_main_v51_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      refine (dx_eq _ _ _ _ _ _ _ _ _).trans ((Proj.fin9 m c).trans ?_).symm
      unfold dhV
      rw [Cert.KernelProjIdeal.Gen.V_main_arg0, Cert.KernelProjIdeal.Gen.V_main_arg1, Cert.KernelProjIdeal.Gen.V_main_arg2, Cert.KernelProjIdeal.Gen.V_main_arg3, Cert.KernelProjIdeal.Gen.V_main_arg4, Cert.KernelProjIdeal.Gen.V_main_arg5, Cert.KernelProjIdeal.Gen.V_main_arg6, Cert.KernelProjIdeal.Gen.V_main_arg7, Cert.KernelProjIdeal.Gen.V_main_arg8]
    · rw [Cert.ReferenceProjIdeal.Read.val_main_v34_eq, (hagree c).1, (hagree c).2.1, (hagree c).2.2.1, (hagree c).2.2.2.1, (hagree c).2.2.2.2.1, (hagree c).2.2.2.2.2.1, (hagree c).2.2.2.2.2.2.1]
      refine (dg_eq _ _ _ _ _ _ _).trans ((Proj.fin10 m c).trans ?_).symm
      unfold dhV
      rw [Cert.KernelProjIdeal.Gen.V_main_arg0, Cert.KernelProjIdeal.Gen.V_main_arg1, Cert.KernelProjIdeal.Gen.V_main_arg2, Cert.KernelProjIdeal.Gen.V_main_arg3, Cert.KernelProjIdeal.Gen.V_main_arg4, Cert.KernelProjIdeal.Gen.V_main_arg5, Cert.KernelProjIdeal.Gen.V_main_arg6]

theorem reference_frame : Cert.quiescent_ReferenceProjIdeal (hReferenceProjIdeal := Cert.ReferenceProjIdeal.Gen.facts) := fun m ρ _ =>
  (θ_run Cert.ReferenceProjIdeal.defs _ _).mono
    (fun r h => ⟨fun c => (h c).2.2, sem_eq_zero_of_no_sems (by decide) r.2⟩)
    (Cert.ReferenceProjIdeal.Value.run (F := Ideal) m ρ)

end Cert.Own.ProjClaim

end
-- ==== Proof.AttnIdealBody.lean ====
/- The attention gradient's kernel body at one grid point: what it leaves in the three gradient blocks, and that it
   runs to its end from any contents of them. -/
module

public import proofs.«01_k».proof.Proof.Gen.KernelAttnIdeal.Frame
public import proofs.«01_k».proof.Proof.Gen.KernelAttnIdeal.Skeleton
public import Idealize.ShloMosaic.Lib.VecWindow
public import Idealize.ShloMosaic.Lib.Exec
public import Idealize.ShloMosaic.Lib.Tactic

@[expose] public section

set_option maxRecDepth 16384

noncomputable section

namespace Cert.Own.AttnIdealBody

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The 1024 rows of a 2048-row block that the masked step works on: the key tile's own rows. -/
abbrev own {e : EltTy} (x : Vec F S2048x128 e) (i : grid0.Coords) : Vec F S1024x128 e :=
  VecWindow.window x (k0_off1 i) S1024x128.size (k0_off1_inb i)

/-- The 1024 rows that trip `k` of the loop works on: a later query tile. -/
abbrev later {e : EltTy} (x : Vec F S2048x128 e) (i : grid0.Coords) (k : Fin (k0_t1_loop i).trips) : Vec F S1024x128 e :=
  VecWindow.window x (k0_off2 i k) S1024x128.size (k0_off2_inb i k)

/-- The three running gradients: of the queries (2048 rows), of the keys and of the values (1024 rows each). -/
abbrev Grads (F : FTy → Type) := Vec F S2048x128 .f32 × Vec F S1024x128 .f32 × Vec F S1024x128 .f32

/-- The six blocks the body reads: queries, keys, values, outputs, row logarithms, output gradients. -/
structure Blocks (F : FTy → Type) where
  q : Vec F S2048x128 .bf16
  k : Vec F S1024x128 .bf16
  v : Vec F S1024x128 .bf16
  o : Vec F S2048x128 .bf16
  lse : Vec F S2048x128 .f32
  dO : Vec F S2048x128 .bf16

/-- What one trip of the loop makes of the running gradients. -/
def trip (i : grid0.Coords) (B : Blocks F) (k : Fin (k0_t1_loop i).trips) (s : Grads F) : Grads F :=
  (VecWindow.put s.1 (k0_off2 i k) S1024x128.size
      (k0_pay2 B.k (k0_pay8 B.k B.v (later B.q i k) (later B.dO i k) (later B.o i k) (later B.lse i k)) (later s.1 i k)),
    k0_pay1 s.2.1 (k0_pay9 B.k B.v (later B.q i k) (later B.dO i k) (later B.o i k) (later B.lse i k)),
    k0_pay7 B.k (later B.q i k) (later B.dO i k) (later B.lse i k) s.2.2)

/-- The running gradients after the first `n` trips of the loop. -/
def after (i : grid0.Coords) (B : Blocks F) (s : Grads F) : ℕ → Grads F
  | 0 => s
  | n + 1 => if h : n < (k0_t1_loop i).trips then trip i B ⟨n, h⟩ (after i B s n) else after i B s n

theorem after_succ (i : grid0.Coords) (B : Blocks F) (s : Grads F) (k : Fin (k0_t1_loop i).trips) :
    after i B s (k.val + 1) = trip i B k (after i B s k.val) := dif_pos k.isLt

/-- What the masked step makes of the running gradient of the queries, those of the keys and values starting at zero. -/
def masked (i : grid0.Coords) (B : Blocks F) (s : Vec F S2048x128 .f32) : Grads F :=
  (VecWindow.put s (k0_off1 i) S1024x128.size
      (k0_pay24 B.k B.v (own B.dO i) (k0_pay17 (own B.dO i) (own B.o i)) (k0_pay18 B.k (own B.q i)) (k0_pay19 (own B.lse i)) (own s i)),
    k0_pay23 B.v (own B.q i) (own B.dO i) (k0_pay17 (own B.dO i) (own B.o i)) (k0_pay18 B.k (own B.q i)) (k0_pay19 (own B.lse i)) (k0_pay15 (F := F)),
    k0_pay21 (own B.dO i) (k0_pay18 B.k (own B.q i)) (k0_pay19 (own B.lse i)) (k0_pay16 (F := F)))

/-- What the body leaves, the query gradient's block holding `s` when the masked step begins. -/
def done (i : grid0.Coords) (B : Blocks F) (s : Vec F S2048x128 .f32) : Grads F :=
  after i B (masked i B s) (k0_t1_loop i).trips

/-- The body's condition: the key tile is the first of its row of tiles. -/
abbrev first (i : grid0.Coords) : Prop :=
  Scalar.cmpi .ne (Scalar.extui (Scalar.cmpi .eq (BitVec.ofNat 32 (i 2).val) 0#32)) 0#32 = 1#1

/-- The second loop makes no trip. -/
theorem no_trips (i : grid0.Coords) : (k0_t2_loop i).trips = 0 := Nat.le_zero.mp (k0_t2_abs i).2.1

section Loop

variable (c : Dev nD) (i : grid0.Coords) (arg3 : Memref sig .tc .vmem S2048x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S1024x128 .f32) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x128 .f32) (harg13 : arg13.IsWhole)

/-- The blocks as the loop finds them in the memrefs it reads. -/
abbrev found (K : Vec F S1024x128 .bf16) (V : Vec F S1024x128 .bf16) (f3 : BufTy.Contents (Elt F) arg3.view.ty) (f6 : BufTy.Contents (Elt F) arg6.view.ty)
    (f7 : BufTy.Contents (Elt F) arg7.view.ty) (f8 : BufTy.Contents (Elt F) arg8.view.ty) : Blocks F :=
  ⟨arg3.view.read (Elt F) f3, K, V, arg6.view.read (Elt F) f6, arg7.view.read (Elt F) f7, arg8.view.read (Elt F) f8⟩

/-- The loop by its invariant: before trip `n` the gradients are those of the first `n` trips. -/
@[sl_loop] def loop (E : Set ℕ) (K : Vec F S1024x128 .bf16) (V : Vec F S1024x128 .bf16) (v69 : BitVec 32)
    (f3 : BufTy.Contents (Elt F) arg3.view.ty) (f6 : BufTy.Contents (Elt F) arg6.view.ty)
    (f7 : BufTy.Contents (Elt F) arg7.view.ty) (f8 : BufTy.Contents (Elt F) arg8.view.ty)
    (x9 : Vec F S2048x128 .f32) (x12 x13 : Vec F S1024x128 .f32) :
    LoopInv (M := MT nD τ sig Unit (Elt F) ℕ (UR sig nD τ) ℕ) Idealize.ShloMosaic.frame (wpE (defs₀ (F := F)) Variants.none (c : Thread nD τ) none) E
      (k0_t1_loop i).lb (k0_t1_loop i).ub (k0_t1_loop i).st (k0_t1_ok i) () (k0_t1_body (F := F) i arg3 harg3 arg4 harg4 arg5 harg5 arg6 harg6 arg7 harg7 arg8 harg8 arg9 harg9 arg10 harg10 arg11 harg11 arg12 harg12 arg13 harg13 K V v69) where
  inv n _ := iprop((arg3.view.loc (c : Thread nD τ) ↦[arg3.view.set]{fullShare} f3) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ (∃ f, (arg9.view.loc (c : Thread nD τ) ↦[arg9.view.set]{fullShare} f) ∗ ⌜arg9.view.read (Elt F) f = (after i (found arg3 arg6 arg7 arg8 K V f3 f6 f7 f8) (x9, x12, x13) n).1⌝)
    ∗ (∃ f, (arg12.view.loc (c : Thread nD τ) ↦[arg12.view.set]{fullShare} f) ∗ ⌜arg12.view.read (Elt F) f = (after i (found arg3 arg6 arg7 arg8 K V f3 f6 f7 f8) (x9, x12, x13) n).2.1⌝)
    ∗ (∃ f, (arg13.view.loc (c : Thread nD τ) ↦[arg13.view.set]{fullShare} f) ∗ ⌜arg13.view.read (Elt F) f = (after i (found arg3 arg6 arg7 arg8 K V f3 f6 f7 f8) (x9, x12, x13) n).2.2⌝))
  step k acc := by
    iintro ⟨H3, H6, H7, H8, ⟨%f9, H9, %h9⟩, ⟨%f12, H12, %h12⟩, ⟨%f13, H13, %h13⟩⟩
    unfold k0_t1_body
    simp only [k0_part1_eq_skeleton]
    unfold k0_part1_skel
    sl_exec
    sl_step
    rw [after_succ]
    isplitl [H3]; · iexact H3
    isplitl [H6]; · iexact H6
    isplitl [H7]; · iexact H7
    isplitl [H8]; · iexact H8
    isplitl [H9]
    · iexists _; isplitl [H9]; · iexact H9
      ipureintro
      refine (View.read_writes_cons_put _ _ _ _ _ rfl).trans ?_
      unfold trip; dsimp only
      rw [← h9]; rfl
    isplitl [H12]
    · iexists _; isplitl [H12]; · iexact H12
      ipureintro
      refine (View.read_writes_full _ _ _ _ _).trans ?_
      unfold trip; dsimp only
      rw [← h12]
      exact congrArg₂ _ (View.readAt_full _ _ _) rfl
    iexists _; isplitl [H13]; · iexact H13
    ipureintro
    refine (View.read_writes_full _ _ _ _ _).trans ?_
    unfold trip; dsimp only
    rw [← h13]
    exact congrArg (k0_pay7 K _ _ _) (View.readAt_full _ _ _)

end Loop

theorem after_congr {i : grid0.Coords} {B B' : Blocks F} {s s' : Grads F} (h : s = masked i B s'.1) (hB : B = B') : after i B s (k0_t1_loop i).trips = done i B' s'.1 := by
  subst hB; rw [h]; rfl

section Run

variable (c : Dev nD) (i : grid0.Coords) (arg3 : Memref sig .tc .vmem S2048x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S1024x128 .f32) (harg10 : arg10.IsWhole) (arg11 : Memref sig .tc .vmem S1024x128 .bf16) (harg11 : arg11.IsWhole) (arg12 : Memref sig .tc .vmem S1024x128 .f32) (harg12 : arg12.IsWhole) (arg13 : Memref sig .tc .vmem S1024x128 .f32) (harg13 : arg13.IsWhole)

set_option maxHeartbeats 1600000 in
/-- The body's run: on whole staging memrefs holding the blocks `B`, the three results' and the two scratch buffers at anything, the
    query gradient's at `x9`, the body ends with the blocks as they were and the results at what `done` says. -/
theorem run (B : Blocks F) (x9 s : Vec F S2048x128 .f32) (hs : (first i ∧ s = k0_pay14 (F := F)) ∨ (¬ first i ∧ s = x9)) (E : Set ℕ) (K : PUnit → sProp 𝕄) :
    iprop(owns (c : Thread nD τ) arg3 fullShare B.q ∗ owns (c : Thread nD τ) arg4 fullShare B.k ∗ owns (c : Thread nD τ) arg5 fullShare B.v
        ∗ owns (c : Thread nD τ) arg6 fullShare B.o ∗ owns (c : Thread nD τ) arg7 fullShare B.lse ∗ owns (c : Thread nD τ) arg8 fullShare B.dO
        ∗ owns (c : Thread nD τ) arg9 fullShare x9 ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg3 fullShare B.q ∗ owns (c : Thread nD τ) arg4 fullShare B.k ∗ owns (c : Thread nD τ) arg5 fullShare B.v
          ∗ owns (c : Thread nD τ) arg6 fullShare B.o ∗ owns (c : Thread nD τ) arg7 fullShare B.lse ∗ owns (c : Thread nD τ) arg8 fullShare B.dO
          ∗ owns (c : Thread nD τ) arg9 fullShare (done i B s).1 ∗ owns (c : Thread nD τ) arg10 fullShare (done i B s).2.1
          ∗ owns (c : Thread nD τ) arg11 fullShare (k0_pay5 (done i B s).2.2)
          ∗ (∃ d, owns (c : Thread nD τ) arg12 fullShare d) ∗ (∃ d, owns (c : Thread nD τ) arg13 fullShare d)) -∗ K ⟨⟩))
      ⊢ wp frame (wpE (defs₀ (F := F)) Variants.none c none) E (cc0_attn_bwd (F := F) i arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part3_eq_skeleton, k0_part4_eq_skeleton]
  have htr : (k0_t2_loop i).trips = 0 := no_trips i
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩, Hk⟩
  rcases hs with ⟨hc, hs⟩ | ⟨hc, hs⟩
  · sl_exec (disch := first | sl_exact hc)
    sl_step
    iapply Hk
    obtain ⟨q, k, v, o, lse, dO⟩ := B
    dsimp only at h3 h4 h5 h6 h7 h8
    subst h3 h4 h5 h6 h7 h8
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; rfl
    isplitl [H7]; · iexists _; isplitr; swap; · iexact H7
                    ipureintro; rfl
    isplitl [H8]; · iexists _; isplitr; swap; · iexact H8
                    ipureintro; rfl
    obtain ⟨G, hG, hd⟩ : ∃ G : Grads F, (arg9.view.read (Elt F) fL0 = G.1 ∧ arg12.view.read (Elt F) fL1 = G.2.1 ∧ arg13.view.read (Elt F) fL2 = G.2.2)
        ∧ G = done i ⟨arg3.view.read (Elt F) f3, arg4.view.read (Elt F) f4, arg5.view.read (Elt F) f5, arg6.view.read (Elt F) f6, arg7.view.read (Elt F) f7, arg8.view.read (Elt F) f8⟩ s := by
      refine ⟨_, ⟨hL5, hL7, hL9⟩, ?_⟩
      refine after_congr (s' := (s, k0_pay15 (F := F), k0_pay16 (F := F))) (Prod.ext ?_ (Prod.ext ?_ ?_)) (congrArg₂ (fun K V => found arg3 arg6 arg7 arg8 K V f3 f6 f7 f8) (View.readAt_full _ _ _) (View.readAt_full _ _ _))
      · refine (View.read_writes_cons_put _ _ _ _ _ rfl).trans ?_
        have hz : arg9.view.read (Elt F) (arg9.view.writes (Elt F) arg9.view.junk (run.sl.H9_1 (F := F))) = s := hs ▸ View.read_writes_full _ _ _ _ _
        rw [← hz]; rfl
      · refine (View.read_writes_full _ _ _ _ _).trans ?_
        exact congrArg (k0_pay23 _ _ _ _ _ _) (View.readAt_writes_full _ _ _ _ _ _)
      · refine (View.read_writes_full _ _ _ _ _).trans ?_
        exact congrArg (k0_pay21 _ _ _) (View.readAt_writes_full _ _ _ _ _ _)
    subst hd
    isplitl [H9]
    · iexists _; isplitr; swap; · iexact H9
      ipureintro
      exact hG.1
    isplitl [H10]
    · iexists _; isplitr; swap; · iexact H10
      ipureintro
      exact (View.read_writes_full _ _ _ _ _).trans ((View.readAt_full _ _ _).trans (hG.2.1))
    isplitl [H11]
    · iexists _; isplitr; swap; · iexact H11
      ipureintro
      exact (View.read_writes_full _ _ _ _ _).trans (congrArg _ ((View.readAt_full _ _ _).trans (hG.2.2)))
    isplitl [H12]
    · iexists _; iexists _; isplitr; swap; · iexact H12
      ipureintro; rfl
    iexists _; iexists _; isplitr; swap; · iexact H13
    ipureintro; rfl
  · sl_exec (disch := first | sl_exact hc)
    sl_step
    iapply Hk
    obtain ⟨q, k, v, o, lse, dO⟩ := B
    dsimp only at h3 h4 h5 h6 h7 h8
    subst h3 h4 h5 h6 h7 h8
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; rfl
    isplitl [H7]; · iexists _; isplitr; swap; · iexact H7
                    ipureintro; rfl
    isplitl [H8]; · iexists _; isplitr; swap; · iexact H8
                    ipureintro; rfl
    obtain ⟨G, hG, hd⟩ : ∃ G : Grads F, (arg9.view.read (Elt F) fL0 = G.1 ∧ arg12.view.read (Elt F) fL1 = G.2.1 ∧ arg13.view.read (Elt F) fL2 = G.2.2)
        ∧ G = done i ⟨arg3.view.read (Elt F) f3, arg4.view.read (Elt F) f4, arg5.view.read (Elt F) f5, arg6.view.read (Elt F) f6, arg7.view.read (Elt F) f7, arg8.view.read (Elt F) f8⟩ s := by
      refine ⟨_, ⟨hL5, hL7, hL9⟩, ?_⟩
      refine after_congr (s' := (s, k0_pay15 (F := F), k0_pay16 (F := F))) (Prod.ext ?_ (Prod.ext ?_ ?_)) (congrArg₂ (fun K V => found arg3 arg6 arg7 arg8 K V f3 f6 f7 f8) (View.readAt_full _ _ _) (View.readAt_full _ _ _))
      · refine (View.read_writes_cons_put _ _ _ _ _ rfl).trans ?_
        subst h9 hs; rfl
      · refine (View.read_writes_full _ _ _ _ _).trans ?_
        exact congrArg (k0_pay23 _ _ _ _ _ _) (View.readAt_writes_full _ _ _ _ _ _)
      · refine (View.read_writes_full _ _ _ _ _).trans ?_
        exact congrArg (k0_pay21 _ _ _) (View.readAt_writes_full _ _ _ _ _ _)
    subst hd
    isplitl [H9]
    · iexists _; isplitr; swap; · iexact H9
      ipureintro
      exact hG.1
    isplitl [H10]
    · iexists _; isplitr; swap; · iexact H10
      ipureintro
      exact (View.read_writes_full _ _ _ _ _).trans ((View.readAt_full _ _ _).trans (hG.2.1))
    isplitl [H11]
    · iexists _; isplitr; swap; · iexact H11
      ipureintro
      exact (View.read_writes_full _ _ _ _ _).trans (congrArg _ ((View.readAt_full _ _ _).trans (hG.2.2)))
    isplitl [H12]
    · iexists _; iexists _; isplitr; swap; · iexact H12
      ipureintro; rfl
    iexists _; iexists _; isplitr; swap; · iexact H13
    ipureintro; rfl

end Run

end Cert.Own.AttnIdealBody

end
-- ==== Proof.AttnIdealFrame.lean ====
/- The attention gradient over the whole grid: the blocks every grid point finds and leaves, the run of the program
   to the arrays these make, and the frame. -/
module

public import proofs.«01_k».proof.Proof.AttnIdealBody

@[expose] public section

set_option maxRecDepth 16384

noncomputable section

namespace Cert.Own.AttnIdealBody

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six blocks the body reads at point `t`. -/
def blocks (c : Dev nD) (t : Fin cfg0.N) : Blocks F :=
  ⟨iblk m c 0 t, iblk m c 1 t, iblk m c 2 t, iblk m c 3 t, iblk m c 4 t, iblk m c 5 t⟩

/-- The point before `t`. -/
abbrev before1 (t : Fin cfg0.N) : Fin cfg0.N := ⟨t.val - 1, Nat.lt_of_le_of_lt (Nat.sub_le _ _) t.isLt⟩

/-- The query gradient's block when the masked step of point `t` begins: zero at the first key tile, and what the first
    key tile left at the second. -/
def start (c : Dev nD) (t : Fin cfg0.N) : Vec F S2048x128 .f32 :=
  if t.val % 2 = 0 then k0_pay14 (F := F) else (done (grid0.coords (before1 t)) (blocks m c (before1 t)) (k0_pay14 (F := F))).1

/-- What the body leaves at point `t`. -/
def outs (c : Dev nD) (t : Fin cfg0.N) : Grads F := done (grid0.coords t) (blocks m c t) (start m c t)

theorem first_iff : ∀ t : Fin cfg0.N, first (grid0.coords t) ↔ t.val % 2 = 0 := by decide +kernel

/-- The pipeline's proof data: the arrays as the region finds them, the inputs' blocks kept, the results' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t).1
    | ⟨7, _⟩ => (outs m c t).2.1
    | ⟨8, _⟩ => k0_pay5 (outs m c t).2.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outs m c t).1 := by dsimp only [dats]
theorem after0_7 (c : Dev nD) (t : Fin cfg0.N) : (dats m 0 c).after 7 t = (outs m c t).2.1 := by dsimp only [dats]
theorem after0_8 (c : Dev nD) (t : Fin cfg0.N) : (dats m 0 c).after 8 t = k0_pay5 (outs m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a second key tile the query gradient's block is found as the first key tile left it. -/
theorem before0_6 (c : Dev nD) (t : Fin cfg0.N) (h : ¬ t.val % 2 = 0) (d) : (dats m 0 c).before 6 t d = start m c t := by
  have hN : t.val < 32 := lt_of_lt_of_eq t.isLt (show cfg0.N = 32 from N_0)
  rw [Dat.before_out_kept _ 6 rfl t (by omega) (Bool.eq_false_iff.mpr fun h' => by have := (flush0_6 _).mp h'; dsimp only at this; omega)
    (fun _ => rfl) (fun _ _ => rfl), after0_6]
  unfold start outs
  rw [if_neg h]
  refine congrArg (fun s => (done _ _ s).1) ?_
  unfold start
  exact if_pos (by show (t.val - 1) % 2 = 0; omega)

/-- The condition of `run` at point `t`, whatever the query gradient's block holds at a first key tile. -/
theorem start_cases (c : Dev nD) (t : Fin cfg0.N) (d) :
    (first (grid0.coords t) ∧ start m c t = k0_pay14 (F := F)) ∨ (¬ first (grid0.coords t) ∧ start m c t = (dats m 0 c).before 6 t d) := by
  by_cases h : t.val % 2 = 0
  · exact .inl ⟨(first_iff t).mpr h, if_pos h⟩
  · exact .inr ⟨fun h' => h ((first_iff t).mp h'), (before0_6 m c t h d).symm⟩

theorem phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]; simp only [owns_whole]

set_option maxHeartbeats 1600000 in
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl, show (dats m 0 c).Φ t.castSucc = Pipeline.ΦA spec0 c from rfl, phi_eq,
    show (dats m 0 c).owesAt () t.succ = (dats m 0 c).owesAt () t.castSucc from rfl, after0_0, after0_1, after0_2, after0_3, after0_4, after0_5, after0_6, after0_7, after0_8]
  iintro ⟨⟨⟨HA, HB⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ (blocks m c t) ((dats m 0 c).before 6 t d6) (start m c t) (start_cases m c t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HA]; · iexact HA
  isplitl [HB]; · iexact HB
  iintro ⟨H0, H1, H2, H3, H4, H5, H6, H7, H8, HA, HB⟩
  isplitl [HA HB HΦ]
  · isplitl [HA HB]
    · isplitl [HA]; · iexact HA
      iexact HB
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every weakly fair execution of the program ends, with every array of the pipeline at what the proof data make of it and every
    semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Own.AttnIdealBody

end
-- ==== Proof.AttnSpec.lean ====
/- Causal attention's gradient over the reals, one head of one sequence: scores, weights, and the gradients of the queries, keys and
   values; and the facts that carry a computation on finite extended reals to the reals. -/
module

public import proofs.«01_k».proof.Proof.Basics
public import Idealize.ShloMosaic.PureOps.Ideal.Laws

@[expose] public section

noncomputable section

namespace Cert.Own.Attn

open Idealize.ShloMosaic

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

/-- The scale of the scores. -/
def σ : ℝ := 13698540 / 2 ^ 27

theorem scale_word : Ideal.ofBits .f32 0x3DD105EC#32 = ((σ : ℝ) : EReal) := by
  simp [Ideal.ofBits, Ideal.ieee, -EReal.coe_mul, σ]; norm_num
theorem zero_word : Ideal.ofBits .f32 0x00000000#32 = 0 := by
  simp [Ideal.ofBits, Ideal.ieee]
theorem one_word : Ideal.ofBits .f32 0x3F800000#32 = ((1 : ℝ) : EReal) := by
  simp [Ideal.ofBits, Ideal.ieee, -EReal.coe_mul]; norm_num
theorem bot_word : Ideal.ofBits .f32 0xFF800000#32 = ⊥ := by
  simp [Ideal.ofBits, Ideal.ieee]

/-- The greatest of finitely many extended reals, none `⊤` and one a real, is a real. -/
theorem fold_max_real {n : Nat} (f : Fin n → EReal) (a : Fin n) (x : ℝ) (ha : f a = x) (ht : ∀ c, f c ≠ ⊤) :
    (((Finset.univ.fold max ⊥ f : EReal).toReal : ℝ) : EReal) = Finset.univ.fold max ⊥ f := by
  refine EReal.coe_toReal ?_ ?_
  · refine ne_of_lt ((Finset.fold_max_lt _).mpr ⟨bot_lt_top, fun c _ => lt_top_iff_ne_top.mpr (ht c)⟩)
  · refine ne_of_gt (lt_of_lt_of_le (b := (x : EReal)) (EReal.bot_lt_coe x) ?_)
    exact (Finset.le_fold_max _).mpr (Or.inr ⟨a, Finset.mem_univ a, ha ▸ le_refl _⟩)

/-- A sum of zeros and products with finite factors. -/
theorem sum_real {n : Nat} (f : Fin n → EReal) (g : Fin n → ℝ) (h : ∀ i, f i = g i) : ∑ i, f i = ((∑ i, g i : ℝ) : EReal) := by
  rw [← coe_sum]; exact Finset.sum_congr rfl fun i _ => h i

/-- A number whose absolute value is below the infinity is real. -/
theorem real_of_abs_lt (x : Ideal .bf16) (h : FloatOps.cmpf (F := Ideal) .olt (FloatOps.hostAbsf (F := Ideal) (φ := .f32) x) (Scalar.ofBits .f32 0x7F800000#32) = 1#1) :
    x = ((EReal.toReal x : ℝ) : EReal) := by
  have top : Ideal.ofBits .f32 0x7F800000#32 = ⊤ := by simp [Ideal.ofBits, Ideal.ieee]
  have h : Ideal.cmp .olt (max (x : EReal) (-(x : EReal))) (Ideal.ofBits .f32 0x7F800000#32) = 1#1 := h
  rw [top] at h
  have hlt : max (x : EReal) (-(x : EReal)) < ⊤ := by
    by_contra hn
    have : Ideal.cmp .olt (max (x : EReal) (-(x : EReal))) ⊤ = 0#1 := by simp only [Ideal.cmp, hn, decide_false]; rfl
    exact absurd (h.symm.trans this) (by decide)
  refine (EReal.coe_toReal ?_ ?_).symm
  · rintro rfl; simp at hlt
  · rintro rfl; simp at hlt

theorem and_one {a b : BitVec 1} (h : a &&& b = 1#1) : a = 1#1 ∧ b = 1#1 := by
  revert a b; decide

section Head

/-- A head's rows: queries, keys, values and the gradient of the output. -/
structure Head where
  q : Fin 2048 → Fin 128 → ℝ
  k : Fin 2048 → Fin 128 → ℝ
  v : Fin 2048 → Fin 128 → ℝ
  d : Fin 2048 → Fin 128 → ℝ

variable (H : Head)

def score (r c : Fin 2048) : ℝ := (∑ l, H.q r l * H.k c l) * σ
/-- A row of scores, those after the row's own position left out. -/
def kept (r c : Fin 2048) : EReal := if c.val ≤ r.val then ((score H r c : ℝ) : EReal) else ⊥
def top (r : Fin 2048) : EReal := Finset.univ.fold max ⊥ (kept H r)
def M (r : Fin 2048) : ℝ := (top H r).toReal
def e (r c : Fin 2048) : ℝ := if c.val ≤ r.val then Real.exp (score H r c - M H r) else 0
def L (r : Fin 2048) : ℝ := ∑ c, e H r c
/-- The attention weight. -/
def p (r c : Fin 2048) : ℝ := e H r c / L H r
/-- The gradient of the weight. -/
def dp (r c : Fin 2048) : ℝ := ∑ l, H.d r l * H.v c l
def delta (r : Fin 2048) : ℝ := ∑ c, dp H r c * p H r c
/-- The gradient of the score before the scale. -/
def ds (r c : Fin 2048) : ℝ := p H r c * (dp H r c - delta H r) * σ
def dq (r : Fin 2048) (l : Fin 128) : ℝ := ∑ c, ds H r c * H.k c l
def dk (c : Fin 2048) (l : Fin 128) : ℝ := ∑ r, ds H r c * H.q r l
def dv (c : Fin 2048) (l : Fin 128) : ℝ := ∑ r, p H r c * H.d r l

theorem top_eq (r : Fin 2048) : top H r = ((M H r : ℝ) : EReal) :=
  (fold_max_real (kept H r) r (score H r r) (if_pos le_rfl) fun c => by
    unfold kept; split
    · exact EReal.coe_ne_top _
    · exact bot_ne_top).symm

theorem e_nonneg (r c : Fin 2048) : 0 ≤ e H r c := by
  unfold e; split
  · exact (Real.exp_pos _).le
  · exact le_rfl
theorem L_pos (r : Fin 2048) : 0 < L H r := by
  refine lt_of_lt_of_le ?_ (Finset.single_le_sum (fun c _ => e_nonneg H r c) (Finset.mem_univ r))
  unfold e; rw [if_pos le_rfl]; exact Real.exp_pos _
theorem L_ne (r : Fin 2048) : L H r ≠ 0 := (L_pos H r).ne'
theorem p_zero {r c : Fin 2048} (h : ¬ c.val ≤ r.val) : p H r c = 0 := by
  unfold p e; rw [if_neg h, zero_div]
theorem ds_zero {r c : Fin 2048} (h : ¬ c.val ≤ r.val) : ds H r c = 0 := by
  unfold ds; rw [p_zero H h, zero_mul, zero_mul]

/-- The exponential of the score less the largest one, as the extended reals have it. -/
theorem exp_kept (r c : Fin 2048) : Ideal.exp (kept H r c - ((M H r : ℝ) : EReal)) = ((e H r c : ℝ) : EReal) := by
  unfold kept e; split
  · rw [← EReal.coe_sub]; rfl
  · rw [EReal.bot_sub]; rfl

/-- The weight from the logarithm of the row's sum. -/
theorem exp_lse {r c : Fin 2048} (h : c.val ≤ r.val) : Real.exp (score H r c - (M H r + Real.log (L H r))) = p H r c := by
  unfold p e
  rw [if_pos h, ← sub_sub, Real.exp_sub, Real.exp_log (L_pos H r)]
theorem log_L (r : Fin 2048) : Ideal.log ((L H r : ℝ) : EReal) = ((Real.log (L H r) : ℝ) : EReal) := by
  rw [Ideal.log_coe, if_neg (not_le.mpr (L_pos H r))]

/-- The output times its gradient, summed over the columns, is the weighted sum of the weights' gradients. -/
theorem delta_eq (r : Fin 2048) : ∑ l, H.d r l * ∑ c, H.v c l * p H r c = delta H r := by
  unfold delta dp
  simp only [Finset.mul_sum, Finset.sum_mul]
  rw [Finset.sum_comm]
  exact Finset.sum_congr rfl fun c _ => Finset.sum_congr rfl fun l _ => by ring

/-- The gradient of a score, of a quotient of exponentials. -/
theorem ds_quot (r c : Fin 2048) :
    (dp H r c / L H r + -∑ a, dp H r a * (1 / (L H r * L H r)) * e H r a) * e H r c * σ = ds H r c := by
  have h : ∑ a, dp H r a * (1 / (L H r * L H r)) * e H r a = delta H r / L H r := by
    unfold delta p
    rw [Finset.sum_div]
    refine Finset.sum_congr rfl fun a _ => ?_
    field_simp [L_ne H r]
  rw [h]
  unfold ds p
  field_simp [L_ne H r]
  ring

end Head

/-- Head `h` of sequence `b` of an array of both sequences' rows. -/
def headOf (X : Fin 4096 → Fin 1024 → ℝ) (b : Fin 2) (h : Fin 8) (r : Fin 2048) (l : Fin 128) : ℝ :=
  X ⟨b.val * 2048 + r.val, by omega⟩ ⟨h.val * 128 + l.val, by omega⟩

/-- The sequence, the position in it, the head and the lane of a row and a column. -/
def seqOf (r : Fin 4096) : Fin 2 := ⟨r.val / 2048, by omega⟩
def posOf (r : Fin 4096) : Fin 2048 := ⟨r.val % 2048, by omega⟩
def headNo (l : Fin 1024) : Fin 8 := ⟨l.val / 128, by omega⟩
def laneOf (l : Fin 1024) : Fin 128 := ⟨l.val % 128, by omega⟩

theorem headOf_lane (X : Fin 4096 → Fin 1024 → ℝ) (b : Fin 2) (r : Fin 2048) (l : Fin 1024) :
    X ⟨b.val * 2048 + r.val, by omega⟩ l = headOf X b (headNo l) r (laneOf l) :=
  congrArg₂ X rfl (Fin.ext (by show l.val = l.val / 128 * 128 + l.val % 128; omega))

/-- The four arrays' heads. -/
def heads (X0 X1 X2 X3 : Fin 4096 → Fin 1024 → ℝ) (b : Fin 2) (h : Fin 8) : Head :=
  ⟨headOf X0 b h, headOf X1 b h, headOf X2 b h, headOf X3 b h⟩

theorem select_sle {p k : Nat} (hp : p < 4096) (hk : k < 4096) (a b : EReal) :
    Scalar.select (IntOp.cmpi .sle (BitVec.ofNat 32 p) (BitVec.ofNat 32 k)) a b = if p ≤ k then a else b := by
  have h : IntOp.cmpi .sle (BitVec.ofNat 32 p) (BitVec.ofNat 32 k) = 1#1 ↔ p ≤ k := by
    rw [IntOp.cmpi_sle, toInt_small hp, toInt_small hk]; omega
  unfold Scalar.select
  by_cases hc : p ≤ k
  · rw [if_pos hc, h.mpr hc]; rfl
  · rw [if_neg hc]
    have : ¬ IntOp.cmpi .sle (BitVec.ofNat 32 p) (BitVec.ofNat 32 k) = 1#1 := fun hh => hc (h.mp hh)
    simp [this]

end Cert.Own.Attn

end
-- ==== Proof.AttnPoint.lean ====
/- The attention gradient's kernel at one grid point, on blocks that hold a head's finite rows: what its payloads compute. -/
module

public import proofs.«01_k».proof.Proof.AttnIdealBody
public import proofs.«01_k».proof.Proof.AttnSpec
public import Idealize.ShloMosaic.Lib.Pipeline.ValueKit

@[expose] public section

set_option maxRecDepth 16384

noncomputable section

namespace Cert.Own.AttnPoint

open Idealize.ShloMosaic Idealize.ShloMosaic.TcCoe Idealize.SL.Sem
open Cert.KernelAttnIdeal Cert.KernelAttnIdeal.Gen
open Cert.Own Cert.Own.Attn Cert.Own.AttnIdealBody

/-- Row `p` of tile `j`, of the two tiles a sequence is cut into. -/
def tile (j : Fin 2) (p : Fin 1024) : Fin 2048 := ⟨1024 * j.val + p.val, by omega⟩

/-- The blocks of 1024 rows a step reads hold these rows of the head. -/
structure Holds (H : Head) (ρ κ : Fin 1024 → Fin 2048) (q k v o dO : Vec Ideal S1024x128 .bf16) (lse : Vec Ideal S1024x128 .f32) : Prop where
  q : ∀ a l, q (ix2 a l) = ((H.q (ρ a) l : ℝ) : EReal)
  k : ∀ a l, k (ix2 a l) = ((H.k (κ a) l : ℝ) : EReal)
  v : ∀ a l, v (ix2 a l) = ((H.v (κ a) l : ℝ) : EReal)
  o : ∀ a l, o (ix2 a l) = ((∑ c, H.v c l * p H (ρ a) c : ℝ) : EReal)
  dO : ∀ a l, dO (ix2 a l) = ((H.d (ρ a) l : ℝ) : EReal)
  lse : ∀ a l, lse (ix2 a l) = ((M H (ρ a) + Real.log (L H (ρ a)) : ℝ) : EReal)

variable {H : Head} {ρ κ : Fin 1024 → Fin 2048} {q k v o dO : Vec Ideal S1024x128 .bf16} {lse : Vec Ideal S1024x128 .f32}
  (h : Holds H ρ κ q k v o dO lse)
include h

theorem delta_at (a : Fin 1024) : k0_pay17 (F := Ideal) dO o (ix2 a 0) = ((delta H (ρ a) : ℝ) : EReal) := by
  pointwise [k0_pay17]
  rw [← delta_eq]
  exact sum_real _ _ fun l => by rw [h.dO, h.o, ← EReal.coe_mul]
theorem score_at (a b : Fin 1024) : k0_pay18 (F := Ideal) k q (ix2 a b) = ((score H (ρ a) (κ b) : ℝ) : EReal) := by
  pointwise [k0_pay18]
  rw [scale_word, sum_real _ (fun l => H.q (ρ a) l * H.k (κ b) l) fun l => by rw [h.q, h.k, ← EReal.coe_mul], ← EReal.coe_mul]
  rfl
theorem lse_at (a : Fin 1024) : k0_pay19 (F := Ideal) lse (ix2 a 0) = ((M H (ρ a) + Real.log (L H (ρ a)) : ℝ) : EReal) := by
  pointwise [k0_pay19]
  rw [h.lse]

/-- The weights of the masked step. -/
theorem masked_at (hm : ∀ a b : Fin 1024, (κ b).val ≤ (ρ a).val ↔ b.val ≤ a.val) (a b : Fin 1024) :
    k0_pay20 (F := Ideal) (k0_pay18 k q) (k0_pay19 lse) (ix2 a b) = ((p H (ρ a) (κ b) : ℝ) : EReal) := by
  pointwise [k0_pay20]
  rw [select_sle (by omega) (by omega), score_at h, lse_at h, ← EReal.coe_sub]
  split
  · next hc => rw [Ideal.exp_coe, exp_lse H ((hm a b).mpr hc)]
  · next hc => rw [p_zero H fun hh => hc ((hm a b).mp hh)]; rfl
/-- The weights of an unmasked trip. -/
theorem free_at (hm : ∀ a b : Fin 1024, (κ b).val ≤ (ρ a).val) (a b : Fin 1024) :
    k0_pay6 (F := Ideal) k q lse (ix2 a b) = ((p H (ρ a) (κ b) : ℝ) : EReal) := by
  have hs : k0_pay6 (F := Ideal) k q lse (ix2 a b) = Ideal.exp (k0_pay18 (F := Ideal) k q (ix2 a b) - k0_pay19 (F := Ideal) lse (ix2 a 0)) := by
    pointwise [k0_pay6, k0_pay18, k0_pay19]
  rw [hs, score_at h, lse_at h, ← EReal.coe_sub, Ideal.exp_coe, exp_lse H (hm a b)]

theorem masked_ds_at (hm : ∀ a b : Fin 1024, (κ b).val ≤ (ρ a).val ↔ b.val ≤ a.val) (a b : Fin 1024) :
    k0_pay22 (F := Ideal) v dO (k0_pay17 dO o) (k0_pay18 k q) (k0_pay19 lse) (ix2 a b) = ((ds H (ρ a) (κ b) : ℝ) : EReal) := by
  pointwise [k0_pay22]
  rw [masked_at h hm, delta_at h, scale_word, sum_real _ (fun l => H.d (ρ a) l * H.v (κ b) l) fun l => by rw [h.dO, h.v, ← EReal.coe_mul],
    ← EReal.coe_sub, ← EReal.coe_mul, ← EReal.coe_mul]
  rfl
theorem free_ds_at (hm : ∀ a b : Fin 1024, (κ b).val ≤ (ρ a).val) (a b : Fin 1024) :
    k0_pay8 (F := Ideal) k v q dO o lse (ix2 a b) = ((ds H (ρ a) (κ b) : ℝ) : EReal) := by
  have hs : k0_pay8 (F := Ideal) k v q dO o lse (ix2 a b)
      = k0_pay6 (F := Ideal) k q lse (ix2 a b) * ((∑ l, dO (ix2 a l) * v (ix2 b l)) - k0_pay17 (F := Ideal) dO o (ix2 a 0)) * Ideal.ofBits .f32 0x3DD105EC#32 := by
    pointwise [k0_pay8, k0_pay17]
  rw [hs, free_at h hm, delta_at h, scale_word, sum_real _ (fun l => H.d (ρ a) l * H.v (κ b) l) fun l => by rw [h.dO, h.v, ← EReal.coe_mul],
    ← EReal.coe_sub, ← EReal.coe_mul, ← EReal.coe_mul]
  rfl

theorem masked_dq_at (hm : ∀ a b : Fin 1024, (κ b).val ≤ (ρ a).val ↔ b.val ≤ a.val) (s : Vec Ideal S1024x128 .f32) (a : Fin 1024) (l : Fin 128) :
    k0_pay24 (F := Ideal) k v dO (k0_pay17 dO o) (k0_pay18 k q) (k0_pay19 lse) s (ix2 a l)
      = s (ix2 a l) + ((∑ b, ds H (ρ a) (κ b) * H.k (κ b) l : ℝ) : EReal) := by
  pointwise [k0_pay24]
  exact congrArg (_ + ·) (sum_real _ _ fun b => by rw [masked_ds_at h hm, h.k, ← EReal.coe_mul])
theorem masked_dk_at (hm : ∀ a b : Fin 1024, (κ b).val ≤ (ρ a).val ↔ b.val ≤ a.val) (s : Vec Ideal S1024x128 .f32) (b : Fin 1024) (l : Fin 128) :
    k0_pay23 (F := Ideal) v q dO (k0_pay17 dO o) (k0_pay18 k q) (k0_pay19 lse) s (ix2 b l)
      = s (ix2 b l) + ((∑ a, ds H (ρ a) (κ b) * H.q (ρ a) l : ℝ) : EReal) := by
  pointwise [k0_pay23]
  exact congrArg (_ + ·) (sum_real _ _ fun a => by rw [masked_ds_at h hm, h.q, ← EReal.coe_mul])
theorem masked_dv_at (hm : ∀ a b : Fin 1024, (κ b).val ≤ (ρ a).val ↔ b.val ≤ a.val) (s : Vec Ideal S1024x128 .f32) (b : Fin 1024) (l : Fin 128) :
    k0_pay21 (F := Ideal) dO (k0_pay18 k q) (k0_pay19 lse) s (ix2 b l)
      = s (ix2 b l) + ((∑ a, p H (ρ a) (κ b) * H.d (ρ a) l : ℝ) : EReal) := by
  pointwise [k0_pay21]
  exact congrArg (_ + ·) (sum_real _ _ fun a => by rw [masked_at h hm, h.dO, ← EReal.coe_mul])

theorem free_dq_at (hm : ∀ a b : Fin 1024, (κ b).val ≤ (ρ a).val) (s : Vec Ideal S1024x128 .f32) (a : Fin 1024) (l : Fin 128) :
    k0_pay2 (F := Ideal) k (k0_pay8 k v q dO o lse) s (ix2 a l)
      = s (ix2 a l) + ((∑ b, ds H (ρ a) (κ b) * H.k (κ b) l : ℝ) : EReal) := by
  pointwise [k0_pay2]
  exact congrArg (_ + ·) (sum_real _ _ fun b => by rw [free_ds_at h hm, h.k, ← EReal.coe_mul])
theorem free_dk_at (hm : ∀ a b : Fin 1024, (κ b).val ≤ (ρ a).val) (s : Vec Ideal S1024x128 .f32) (b : Fin 1024) (l : Fin 128) :
    k0_pay1 (F := Ideal) s (k0_pay9 k v q dO o lse) (ix2 b l)
      = s (ix2 b l) + ((∑ a, ds H (ρ a) (κ b) * H.q (ρ a) l : ℝ) : EReal) := by
  pointwise [k0_pay1, k0_pay9]
  exact congrArg (_ + ·) (sum_real _ _ fun a => by rw [free_ds_at h hm, h.q, ← EReal.coe_mul])
theorem free_dv_at (hm : ∀ a b : Fin 1024, (κ b).val ≤ (ρ a).val) (s : Vec Ideal S1024x128 .f32) (b : Fin 1024) (l : Fin 128) :
    k0_pay7 (F := Ideal) k q dO lse s (ix2 b l)
      = s (ix2 b l) + ((∑ a, p H (ρ a) (κ b) * H.d (ρ a) l : ℝ) : EReal) := by
  pointwise [k0_pay7]
  exact congrArg (_ + ·) (sum_real _ _ fun a => by rw [free_at h hm, h.dO, ← EReal.coe_mul])

end Cert.Own.AttnPoint

end
-- ==== Proof.AttnTile.lean ====
/- What the attention gradient's kernel leaves at a key tile, of a head's finite rows: the masked step and the loop's trip put together. -/
module

public import proofs.«01_k».proof.Proof.AttnPoint

@[expose] public section

set_option maxRecDepth 16384

noncomputable section

namespace Cert.Own.AttnPoint

open Idealize.ShloMosaic Idealize.ShloMosaic.TcCoe Idealize.SL.Sem
open Cert.KernelAttnIdeal Cert.KernelAttnIdeal.Gen
open Cert.Own Cert.Own.Attn Cert.Own.AttnIdealBody

/-- A sum over a sequence is the sum over its two tiles. -/
theorem sum_tiles (f : Fin 2048 → ℝ) : ∑ r, f r = ∑ a, f (tile 0 a) + ∑ a, f (tile 1 a) := by
  have h := Fin.sum_univ_add (a := 1024) (b := 1024) f
  refine h.trans (congrArg₂ _ ?_ ?_) <;> refine Finset.sum_congr rfl fun a _ => congrArg f (Fin.ext ?_)
  · show a.val = 1024 * 0 + a.val; omega
  · show 1024 + a.val = 1024 * 1 + a.val; omega

theorem trips_first : ∀ t : Fin cfg0.N, (k0_t1_loop (grid0.coords t)).trips = if t.val % 2 = 0 then 1 else 0 := by decide +kernel
theorem trip_zero (t : Fin cfg0.N) (ht : t.val % 2 = 0) (k : Fin (k0_t1_loop (grid0.coords t)).trips) : k.val = 0 := by
  have h : (k0_t1_loop (grid0.coords t)).trips = 1 := by rw [trips_first, if_pos ht]
  have := lt_of_lt_of_eq k.isLt h
  omega
theorem coord_tile : ∀ t : Fin cfg0.N, (grid0.coords t 2).val = t.val % 2 := by decide +kernel

/-- The blocks of one grid point hold a head's rows, the keys' and values' those of tile `j`. -/
structure Fits (H : Head) (j : Fin 2) (B : Blocks Ideal) : Prop where
  q : ∀ r l, B.q (ix2 r l) = ((H.q r l : ℝ) : EReal)
  k : ∀ a l, B.k (ix2 a l) = ((H.k (tile j a) l : ℝ) : EReal)
  v : ∀ a l, B.v (ix2 a l) = ((H.v (tile j a) l : ℝ) : EReal)
  o : ∀ r l, B.o (ix2 r l) = ((∑ c, H.v c l * p H r c : ℝ) : EReal)
  dO : ∀ r l, B.dO (ix2 r l) = ((H.d r l : ℝ) : EReal)
  lse : ∀ r l, B.lse (ix2 r l) = ((M H r + Real.log (L H r) : ℝ) : EReal)

variable {e : EltTy} (x : Vec Ideal S2048x128 e) (t : Fin cfg0.N)

theorem own_at (j : Fin 2) (hj : t.val % 2 = j.val) (a : Fin 1024) (l : Fin 128) :
    own x (grid0.coords t) (ix2 a l) = x (ix2 (tile j a) l) := by
  refine congrArg x ?_
  funext z; apply Fin.ext
  fin_cases z
  · show k0_off1 (grid0.coords t) 0 + 1 * a.val = 1024 * j.val + a.val
    rw [k0_off1_eq]; show 1024 * (grid0.coords t 2).val + 1 * a.val = _; rw [coord_tile, hj]; omega
  · show k0_off1 (grid0.coords t) 1 + 1 * l.val = l.val
    rw [k0_off1_eq]; show 0 + 1 * l.val = _; omega

theorem later_at (ht : t.val % 2 = 0) (k : Fin (k0_t1_loop (grid0.coords t)).trips) (a : Fin 1024) (l : Fin 128) :
    later x (grid0.coords t) k (ix2 a l) = x (ix2 (tile 1 a) l) := by
  have hk : k.val = 0 := trip_zero t ht k
  refine congrArg x ?_
  funext z; apply Fin.ext
  fin_cases z
  · show k0_off2 (grid0.coords t) k 0 + 1 * a.val = 1024 * 1 + a.val
    rw [k0_off2_eq]; show 1024 * (grid0.coords t 2).val + 1024 * k.val + 1024 + 1 * a.val = _; rw [coord_tile, ht, hk]; omega
  · show k0_off2 (grid0.coords t) k 1 + 1 * l.val = l.val
    rw [k0_off2_eq]; show 0 + 1 * l.val = _; omega

/-- Rows put at the offsets of tile `j`, read at that tile and at the other. -/
theorem put_at (off : Fin 2 → ℕ) (j : Fin 2) (h0 : off 0 = 1024 * j.val) (h1 : off 1 = 0) (w : Vec Ideal S1024x128 e) (i : Fin 2) (a : Fin 1024) (l : Fin 128) :
    VecWindow.put (s := S2048x128) x off S1024x128.size w (ix2 (tile i a) l) = if i = j then w (ix2 a l) else x (ix2 (tile i a) l) := by
  have ha := a.isLt
  have hl := l.isLt
  split
  · next h =>
    subst h
    have hin : ∀ z, off z ≤ ((ix2 (tile i a) l : S2048x128.Idx) z).val ∧ ((ix2 (tile i a) l : S2048x128.Idx) z).val < off z + S1024x128.size z := by
      intro z; fin_cases z
      · show off 0 ≤ 1024 * i.val + a.val ∧ 1024 * i.val + a.val < off 0 + 1024; omega
      · show off 1 ≤ l.val ∧ l.val < off 1 + 128; omega
    refine (dif_pos hin).trans (congrArg w ?_)
    funext z; apply Fin.ext; fin_cases z
    · show 1024 * i.val + a.val - off 0 = a.val; omega
    · show l.val - off 1 = l.val; omega
  · next h =>
    refine dif_neg fun hin => h ?_
    have hz : off 0 ≤ 1024 * i.val + a.val ∧ 1024 * i.val + a.val < off 0 + 1024 := hin 0
    apply Fin.ext; omega

variable {t} {H : Head} {j : Fin 2} {B : Blocks Ideal} (hB : Fits H j B) (hj : t.val % 2 = j.val)

theorem Fits.own (hB : Fits H j B) (hj : t.val % 2 = j.val) : Holds H (tile j) (tile j) (own B.q (grid0.coords t)) B.k B.v (own B.o (grid0.coords t)) (own B.dO (grid0.coords t)) (own B.lse (grid0.coords t)) where
  q a l := (own_at _ t j hj a l).trans (hB.q _ _)
  k := hB.k
  v := hB.v
  o a l := (own_at _ t j hj a l).trans (hB.o _ _)
  dO a l := (own_at _ t j hj a l).trans (hB.dO _ _)
  lse a l := (own_at _ t j hj a l).trans (hB.lse _ _)

theorem Fits.later (hB : Fits H 0 B) (ht : t.val % 2 = 0) (k : Fin (k0_t1_loop (grid0.coords t)).trips) :
    Holds H (tile 1) (tile 0) (later B.q (grid0.coords t) k) B.k B.v (later B.o (grid0.coords t) k) (later B.dO (grid0.coords t) k) (later B.lse (grid0.coords t) k) where
  q a l := (later_at _ t ht k a l).trans (hB.q _ _)
  k := hB.k
  v := hB.v
  o a l := (later_at _ t ht k a l).trans (hB.o _ _)
  dO a l := (later_at _ t ht k a l).trans (hB.dO _ _)
  lse a l := (later_at _ t ht k a l).trans (hB.lse _ _)

theorem causal_same (j : Fin 2) (a b : Fin 1024) : (tile j b).val ≤ (tile j a).val ↔ b.val ≤ a.val := by
  show 1024 * j.val + b.val ≤ 1024 * j.val + a.val ↔ _; omega
theorem causal_later (a b : Fin 1024) : (tile 0 b).val ≤ (tile 1 a).val := by
  show 1024 * 0 + b.val ≤ 1024 * 1 + a.val; omega
theorem causal_not (a b : Fin 1024) : ¬ (tile 1 b).val ≤ (tile 0 a).val := by
  show ¬ 1024 * 1 + b.val ≤ 1024 * 0 + a.val; omega

variable (s : Vec Ideal S2048x128 .f32)

theorem masked_q (i : Fin 2) (hB : Fits H j B) (hj : t.val % 2 = j.val) (a : Fin 1024) (l : Fin 128) :
    (masked (grid0.coords t) B s).1 (ix2 (tile i a) l)
      = if i = j then s (ix2 (tile j a) l) + ((∑ b, ds H (tile j a) (tile j b) * H.k (tile j b) l : ℝ) : EReal) else s (ix2 (tile i a) l) := by
  unfold masked
  refine (put_at s _ j ?_ ?_ _ i a l).trans ?_
  · rw [k0_off1_eq]; show 1024 * (grid0.coords t 2).val = _; rw [coord_tile, hj]
  · rw [k0_off1_eq]; rfl
  split
  · rw [masked_dq_at (hB.own hj) (causal_same j), own_at s t j hj]
  · rfl
theorem masked_k (hB : Fits H j B) (hj : t.val % 2 = j.val) (b : Fin 1024) (l : Fin 128) :
    (masked (grid0.coords t) B s).2.1 (ix2 b l) = ((∑ a, ds H (tile j a) (tile j b) * H.q (tile j a) l : ℝ) : EReal) := by
  refine (masked_dk_at (hB.own hj) (causal_same j) _ b l).trans ?_
  rw [show k0_pay15 (F := Ideal) (ix2 b l) = 0 from by pointwise [k0_pay15], zero_add]
theorem masked_v (hB : Fits H j B) (hj : t.val % 2 = j.val) (b : Fin 1024) (l : Fin 128) :
    (masked (grid0.coords t) B s).2.2 (ix2 b l) = ((∑ a, p H (tile j a) (tile j b) * H.d (tile j a) l : ℝ) : EReal) := by
  refine (masked_dv_at (hB.own hj) (causal_same j) _ b l).trans ?_
  rw [show k0_pay16 (F := Ideal) (ix2 b l) = 0 from by pointwise [k0_pay16], zero_add]

/-- At a second key tile the loop makes no trip. -/
theorem done_second (ht : ¬ t.val % 2 = 0) : done (grid0.coords t) B s = masked (grid0.coords t) B s := by
  unfold done; rw [trips_first, if_neg ht]; rfl
/-- At a first key tile the loop makes one. -/
theorem done_first (ht : t.val % 2 = 0) : ∃ k, done (grid0.coords t) B s = trip (grid0.coords t) B k (masked (grid0.coords t) B s) := by
  have h1 : (k0_t1_loop (grid0.coords t)).trips = 1 := by rw [trips_first, if_pos ht]
  refine ⟨⟨0, by omega⟩, ?_⟩
  unfold done
  exact (congrArg (after _ _ _) h1).trans (after_succ _ _ _ (⟨0, by omega⟩ : Fin (k0_t1_loop (grid0.coords t)).trips))

theorem first_q (hB : Fits H 0 B) (ht : t.val % 2 = 0) (i : Fin 2) (a : Fin 1024) (l : Fin 128) :
    (done (grid0.coords t) B s).1 (ix2 (tile i a) l) = s (ix2 (tile i a) l) + ((∑ b, ds H (tile i a) (tile 0 b) * H.k (tile 0 b) l : ℝ) : EReal) := by
  obtain ⟨k, hk⟩ := done_first (B := B) s ht
  have hk0 : k.val = 0 := trip_zero t ht k
  rw [hk]; unfold trip
  refine (put_at _ _ 1 ?_ ?_ _ i a l).trans ?_
  · rw [k0_off2_eq]; show 1024 * (grid0.coords t 2).val + 1024 * k.val + 1024 = _; rw [coord_tile, ht, hk0]; rfl
  · rw [k0_off2_eq]; rfl
  split
  · next h =>
    subst h
    rw [free_dq_at (hB.later ht k) causal_later, later_at _ t ht k, masked_q s 1 hB ht, if_neg (by decide)]
  · next h =>
    have hi : i = 0 := by apply Fin.ext; have := Fin.val_ne_of_ne h; have : i.val ≠ 1 := this; show i.val = 0; omega
    subst hi
    rw [masked_q s 0 hB ht, if_pos rfl]
theorem first_k (hB : Fits H 0 B) (ht : t.val % 2 = 0) (b : Fin 1024) (l : Fin 128) :
    (done (grid0.coords t) B s).2.1 (ix2 b l) = ((dk H (tile 0 b) l : ℝ) : EReal) := by
  obtain ⟨k, hk⟩ := done_first (B := B) s ht
  rw [hk]; unfold trip
  refine (free_dk_at (hB.later ht k) causal_later _ b l).trans ?_
  rw [masked_k s hB ht, ← EReal.coe_add, dk, sum_tiles]
theorem first_v (hB : Fits H 0 B) (ht : t.val % 2 = 0) (b : Fin 1024) (l : Fin 128) :
    (done (grid0.coords t) B s).2.2 (ix2 b l) = ((dv H (tile 0 b) l : ℝ) : EReal) := by
  obtain ⟨k, hk⟩ := done_first (B := B) s ht
  rw [hk]; unfold trip
  refine (free_dv_at (hB.later ht k) causal_later _ b l).trans ?_
  rw [masked_v s hB ht, ← EReal.coe_add, dv, sum_tiles]

theorem second_k (hB : Fits H 1 B) (ht : t.val % 2 = 1) (b : Fin 1024) (l : Fin 128) :
    (done (grid0.coords t) B s).2.1 (ix2 b l) = ((dk H (tile 1 b) l : ℝ) : EReal) := by
  rw [done_second s (by omega), masked_k s hB ht, dk, sum_tiles, Finset.sum_eq_zero (s := Finset.univ) (f := fun a => ds H (tile 0 a) (tile 1 b) * H.q (tile 0 a) l)
    fun a _ => by rw [ds_zero H (causal_not a b), zero_mul], zero_add]
theorem second_v (hB : Fits H 1 B) (ht : t.val % 2 = 1) (b : Fin 1024) (l : Fin 128) :
    (done (grid0.coords t) B s).2.2 (ix2 b l) = ((dv H (tile 1 b) l : ℝ) : EReal) := by
  rw [done_second s (by omega), masked_v s hB ht, dv, sum_tiles, Finset.sum_eq_zero (s := Finset.univ) (f := fun a => p H (tile 0 a) (tile 1 b) * H.d (tile 0 a) l)
    fun a _ => by rw [p_zero H (causal_not a b), zero_mul], zero_add]

/-- The queries' gradient after both key tiles. -/
theorem both_q {t' : Fin cfg0.N} {B' : Blocks Ideal} (hB' : Fits H 0 B') (ht' : t'.val % 2 = 0) (hB : Fits H 1 B) (ht : t.val % 2 = 1) (r : Fin 2048) (l : Fin 128) :
    (done (grid0.coords t) B (done (grid0.coords t') B' (k0_pay14 (F := Ideal))).1).1 (ix2 r l) = ((dq H r l : ℝ) : EReal) := by
  have hz : ∀ y, k0_pay14 (F := Ideal) y = 0 := fun y => by
    obtain ⟨a, b, rfl⟩ := pair_of y
    pointwise [k0_pay14]
  have hr : ∃ (i : Fin 2) (a : Fin 1024), r = tile i a :=
    ⟨⟨r.val / 1024, by omega⟩, ⟨r.val % 1024, by omega⟩, Fin.ext (by show r.val = 1024 * (r.val / 1024) + r.val % 1024; omega)⟩
  obtain ⟨i, a, rfl⟩ := hr
  rw [done_second _ (by omega), masked_q _ i hB ht]
  split
  · next h =>
    subst h
    rw [first_q _ hB' ht', hz, zero_add, ← EReal.coe_add, dq, sum_tiles]
  · next h =>
    have hi : i = 0 := by apply Fin.ext; have := Fin.val_ne_of_ne h; have : i.val ≠ 1 := this; show i.val = 0; omega
    subst hi
    rw [first_q _ hB' ht', hz, zero_add, dq, sum_tiles, Finset.sum_eq_zero (s := Finset.univ) (f := fun b => ds H (tile 0 a) (tile 1 b) * H.k (tile 1 b) l)
      fun b _ => by rw [ds_zero H (causal_not a b), zero_mul], add_zero]

end Cert.Own.AttnPoint

end
-- ==== Proof.AttnRef.lean ====
/- The reference of the attention gradient, index by index, on finite arguments. -/
module

public import proofs.«01_k».proof.Proof.Gen.ReferenceAttnIdeal.Read
public import Idealize.ShloMosaic.Lib.KernelVsHost
public import proofs.«01_k».proof.Proof.AttnSpec

@[expose] public section

set_option maxRecDepth 16384

noncomputable section

namespace Cert.Own.AttnRef

open Idealize.ShloMosaic Idealize.ShloMosaic.TcCoe Idealize.SL.Sem Idealize.ShloMosaic.StableHlo
open Cert.ReferenceAttnIdeal Cert.ReferenceAttnIdeal.Gen Cert.ReferenceAttnIdeal.Read
open Cert.Own Cert.Own.Attn

/-- The largest entry of a row, over the last axis. -/
theorem max_at (s : Vec Ideal S2x8x2048x2048 .f32) (b : Fin 2) (h : Fin 8) (r : Fin 2048) :
    (Host.reduce (FloatOps.maximumf (F := Ideal) (φ := .f32)) s (constant (F := Ideal) S_ .f32 0xFF800000#32) reducesTo_S2x8x2048x2048_S2x8x2048_d3 h_S_ : Vec Ideal S2x8x2048 .f32) (ix3 b h r)
      = Finset.univ.fold max ⊥ fun c : Fin 2048 => s (ix4 b h r c) := by
  refine (congrFun (hostReduce_maximumf_eq_multiReduction (F := Ideal) (φ := .f32) s 0xFF800000#32 _ _ (by decide) (.inl rfl) rfl) _).trans ?_
  refine (Ideal.multiReduction_maximumf_single (a := (3 : Fin S2x8x2048x2048.rank)) s _ _ _ _ _).trans ?_
  rw [show (FloatOps.ofBits .f32 0xFF800000#32 : Ideal .f32) = (⊥ : EReal) from bot_word]
  refine congrArg (Finset.fold max ⊥ · Finset.univ) (funext fun c => congrArg s ?_)
  funext a; apply Fin.ext
  match a with
  | ⟨0, _⟩ => rfl
  | ⟨1, _⟩ => rfl
  | ⟨2, _⟩ => rfl
  | ⟨3, _⟩ => rfl

theorem shifted_at (s : Vec Ideal S2x8x2048x2048 .f32) (y : Vec Ideal S2x8x2048 .f32) (b : Fin 2) (h : Fin 8) (r c : Fin 2048) :
    (Host.exp (F := Ideal) (φ := .f32) (subf s (broadcastInDim S2x8x2048x2048 ![0, 1, 2, 3] bcast_S2x8x2048x1_S2x8x2048x2048_0_1_2_3
      (broadcastInDim S2x8x2048x1 ![0, 1, 2] bcast_S2x8x2048_S2x8x2048x1_0_1_2 (maximumf (val_main_v24 (F := Ideal)) y))))
        : Vec Ideal S2x8x2048x2048 .f32) (ix4 b h r c)
      = Ideal.exp (s (ix4 b h r c) - y (ix3 b h r)) := by
  pointwise [val_main_v24, val_main_cst_3]
  rw [bot_word, max_eq_right bot_le]

variable (x0 x1 x2 x3 : Vec Ideal S4096x1024 .bf16) (X0 X1 X2 X3 : Fin 4096 → Fin 1024 → ℝ)
  (h0 : ∀ r l, x0 (ix2 r l) = ((X0 r l : ℝ) : EReal)) (h1 : ∀ r l, x1 (ix2 r l) = ((X1 r l : ℝ) : EReal))
  (h2 : ∀ r l, x2 (ix2 r l) = ((X2 r l : ℝ) : EReal)) (h3 : ∀ r l, x3 (ix2 r l) = ((X3 r l : ℝ) : EReal))
include h0 h1

theorem s_at (b : Fin 2) (h : Fin 8) (r c : Fin 2048) :
    val_main_v17_0 (F := Ideal) x0 x1 (ix4 b h r c) = kept (heads X0 X1 X2 X3 b h) r c := by
  pointwise [val_main_v17_0, val_main_v17_1, val_main_v16, val_main_v15, val_main_v14, val_main_v13, val_main_v12, val_main_v11, val_main_v10, val_main_v9, val_main_v8, val_main_v7, val_main_v6, val_main_v4, val_main_v3, val_main_v1, val_main_v0, val_main_cst, val_main_call0_v2, val_main_call0_v0, val_main_cst_0]
  rw [select_sle (by omega) (by omega), show (id (constant (F := Ideal) S_ .f32 0xFF800000#32) ix0 : EReal) = ⊥ from bot_word, scale_word,
    sum_real _ (fun l => headOf X0 b h r l * headOf X1 b h c l) fun l => by rw [h0, h1, ← EReal.coe_mul]; rfl, ← EReal.coe_mul]
  rfl
theorem top_at (b : Fin 2) (h : Fin 8) (r : Fin 2048) :
    val_main_v18 (F := Ideal) x0 x1 (ix3 b h r) = ((M (heads X0 X1 X2 X3 b h) r : ℝ) : EReal) := by
  unfold val_main_v18 val_main_cst_1
  rw [max_at, ← top_eq]
  exact congrArg (Finset.fold max ⊥ · Finset.univ) (funext fun c => s_at x0 x1 X0 X1 X2 X3 h0 h1 b h r c)
theorem e_at (b : Fin 2) (h : Fin 8) (r c : Fin 2048) :
    val_main_v38 (F := Ideal) x0 x1 (ix4 b h r c) = ((e (heads X0 X1 X2 X3 b h) r c : ℝ) : EReal) := by
  unfold val_main_v38 val_main_v37 val_main_v36 val_main_v35 val_main_v25
  rw [shifted_at, s_at x0 x1 X0 X1 X2 X3 h0 h1, top_at x0 x1 X0 X1 X2 X3 h0 h1, exp_kept]
theorem sum_at (b : Fin 2) (h : Fin 8) (r : Fin 2048) :
    ∑ c, val_main_v38 (F := Ideal) x0 x1 (ix4 b h r c) = ((L (heads X0 X1 X2 X3 b h) r : ℝ) : EReal) :=
  sum_real _ _ fun c => e_at x0 x1 X0 X1 X2 X3 h0 h1 b h r c
theorem w_at (b : Fin 2) (h : Fin 8) (r c : Fin 2048) :
    val_main_v42 (F := Ideal) x0 x1 (ix4 b h r c) = ((p (heads X0 X1 X2 X3 b h) r c : ℝ) : EReal) := by
  pointwise [val_main_v42, val_main_v41, val_main_v40, val_main_v39, val_main_cst_9]
  rw [sum_at x0 x1 X0 X1 X2 X3 h0 h1, e_at x0 x1 X0 X1 X2 X3 h0 h1, div_real _ (L_ne _ _)]
  rfl
omit h0 h1
include h2 h3
theorem dp_at (b : Fin 2) (h : Fin 8) (r c : Fin 2048) :
    val_main_v52 (F := Ideal) x2 x3 (ix4 b h r c) = ((dp (heads X0 X1 X2 X3 b h) r c : ℝ) : EReal) := by
  pointwise [val_main_v52, val_main_v51, val_main_v50, val_main_v49, val_main_v5, val_main_v2]
  exact sum_real _ (fun l => headOf X3 b h r l * headOf X2 b h c l) fun l => by rw [h2, h3, ← EReal.coe_mul]; rfl
include h0 h1
theorem ds_at (b : Fin 2) (h : Fin 8) (r c : Fin 2048) :
    val_main_v69 (F := Ideal) x0 x1 x2 x3 (ix4 b h r c) = ((ds (heads X0 X1 X2 X3 b h) r c : ℝ) : EReal) := by
  pointwise [val_main_v69, val_main_v68, val_main_v67, val_main_v66, val_main_v65, val_main_v64, val_main_v63, val_main_v62, val_main_v61,
    val_main_v60, val_main_v59, val_main_v58, val_main_v57, val_main_v56, val_main_v55, val_main_v45, val_main_v44, val_main_v43, val_main_v40,
    val_main_v39, val_main_cst_9, val_main_cst_10, val_main_cst_11, val_main_cst_12, val_main_cst_13, val_main_call1_v0, val_main_call1_cst,
    val_main_v17_1, val_main_v16, val_main_v15, val_main_v14, val_main_v13, val_main_v12, val_main_v11, val_main_v10, val_main_v9]
  set H := heads X0 X1 X2 X3 b h with hH
  have hL := L_ne H r
  rw [select_sle (by omega) (by omega), sum_at x0 x1 X0 X1 X2 X3 h0 h1, Fin.sum_univ_one, scale_word,
    dp_at x2 x3 X0 X1 X2 X3 h2 h3, e_at x0 x1 X0 X1 X2 X3 h0 h1, ← hH]
  rw [show Ideal.div 1 (((L H r : ℝ) : EReal) * ((L H r : ℝ) : EReal)) = ((1 / (L H r * L H r) : ℝ) : EReal) by
    rw [← EReal.coe_mul, ← EReal.coe_one]; exact div_real 1 (mul_ne_zero hL hL)]
  rw [sum_real _ (fun a => dp H r a * (1 / (L H r * L H r)) * e H r a) fun a => by
    rw [dp_at x2 x3 X0 X1 X2 X3 h2 h3, e_at x0 x1 X0 X1 X2 X3 h0 h1, ← hH, ← EReal.coe_mul, ← EReal.coe_mul]]
  rw [div_real _ hL, ← EReal.coe_neg, ← EReal.coe_add, ← EReal.coe_mul]
  split
  · rw [← EReal.coe_mul, ds_quot]
  · next hc => rw [ds_zero H hc, EReal.coe_zero]
theorem o_at (r : Fin 4096) (l : Fin 1024) : val_main_v48 (F := Ideal) x0 x1 x2 (ix2 r l)
    = ((∑ c, headOf X2 (seqOf r) (headNo l) c (laneOf l) * p (heads X0 X1 X2 X3 (seqOf r) (headNo l)) (posOf r) c : ℝ) : EReal) := by
  pointwise [val_main_v48, val_main_v47, val_main_v46, val_main_v5, val_main_v2]
  refine sum_real _ _ fun c => ?_
  rw [w_at x0 x1 X0 X1 X2 X3 h0 h1, h2, ← EReal.coe_mul]
  rw [← headOf_lane]; rfl
theorem dq_at (r : Fin 4096) (l : Fin 1024) : val_main_v76 (F := Ideal) x0 x1 x2 x3 (ix2 r l)
    = ((dq (heads X0 X1 X2 X3 (seqOf r) (headNo l)) (posOf r) (laneOf l) : ℝ) : EReal) := by
  pointwise [val_main_v76, val_main_v73, val_main_v72, val_main_v4, val_main_v1]
  refine sum_real _ _ fun c => ?_
  rw [ds_at x0 x1 x2 x3 X0 X1 X2 X3 h0 h1 h2 h3, h1, ← EReal.coe_mul]
  show _ = ((_ * headOf X1 (seqOf r) (headNo l) c (laneOf l) : ℝ) : EReal)
  rw [← headOf_lane]; rfl
theorem dk_at (r : Fin 4096) (l : Fin 1024) : val_main_v75 (F := Ideal) x0 x1 x2 x3 (ix2 r l)
    = ((dk (heads X0 X1 X2 X3 (seqOf r) (headNo l)) (posOf r) (laneOf l) : ℝ) : EReal) := by
  pointwise [val_main_v75, val_main_v71, val_main_v70, val_main_v3, val_main_v0]
  refine sum_real _ _ fun c => ?_
  rw [ds_at x0 x1 x2 x3 X0 X1 X2 X3 h0 h1 h2 h3, h0, ← EReal.coe_mul]
  show _ = ((_ * headOf X0 (seqOf r) (headNo l) c (laneOf l) : ℝ) : EReal)
  rw [← headOf_lane]; rfl
theorem dv_at (r : Fin 4096) (l : Fin 1024) : val_main_v77 (F := Ideal) x0 x1 x3 (ix2 r l)
    = ((dv (heads X0 X1 X2 X3 (seqOf r) (headNo l)) (posOf r) (laneOf l) : ℝ) : EReal) := by
  pointwise [val_main_v77, val_main_v74, val_main_v54, val_main_v53, val_main_v51, val_main_v50, val_main_v49]
  refine sum_real _ _ fun c => ?_
  rw [w_at x0 x1 X0 X1 X2 X3 h0 h1, h3, ← EReal.coe_mul, mul_comm]
  show _ = ((_ * headOf X3 (seqOf r) (headNo l) c (laneOf l) : ℝ) : EReal)
  rw [← headOf_lane]; rfl

end Cert.Own.AttnRef

end
-- ==== Proof.AttnHost.lean ====
/- The output and the row logarithms that the attention gradient's kernel is given, of finite arguments. -/
module

public import proofs.«01_k».proof.Proof.AttnTile
public import proofs.«01_k».proof.Proof.AttnIdealFrame
public import proofs.«01_k».proof.Proof.AttnRef

@[expose] public section

set_option maxRecDepth 16384

noncomputable section

namespace Cert.Own.AttnHost

open Idealize.ShloMosaic Idealize.ShloMosaic.TcCoe Idealize.SL.Sem Idealize.ShloMosaic.StableHlo
open Cert.KernelAttnIdeal Cert.KernelAttnIdeal.Gen
open Cert.ReferenceAttnIdeal.Read (val_main_v17_0 val_main_v18)
open Cert.Own Cert.Own.Attn

/-- Exponentials of scores less a row's largest. -/
def exps (s : Vec Ideal S2x8x2048x2048 .f32) (y : Vec Ideal S2x8x2048 .f32) : Vec Ideal S2x8x2048x2048 .f32 :=
  Host.exp (F := Ideal) (φ := .f32) (subf s (broadcastInDim S2x8x2048x2048 ![0, 1, 2, 3] bcast_S2x8x2048x1_S2x8x2048x2048_0_1_2_3
    (broadcastInDim S2x8x2048x1 ![0, 1, 2] bcast_S2x8x2048_S2x8x2048x1_0_1_2 y)))
/-- Their sums over a row. -/
def sums (e : Vec Ideal S2x8x2048x2048 .f32) : Vec Ideal S2x8x2048x1 .f32 :=
  broadcastInDim S2x8x2048x1 ![0, 1, 2] bcast_S2x8x2048_S2x8x2048x1_0_1_2
    (Host.reduceAdd (F := Ideal) (φ := .f32) e (constant (F := Ideal) S_ .f32 0x00000000#32) reducesTo_S2x8x2048x2048_S2x8x2048_d3 h_S_)
/-- The weighted rows. -/
def outOf (x2 : Vec Ideal S4096x1024 .bf16) (e : Vec Ideal S2x8x2048x2048 .f32) : Vec Ideal S4096x1024 .bf16 :=
  truncf (F := Ideal) (φ := .f32) .bf16 (shapeCast S4096x1024 (transpose S2x2048x8x128 [0, 3, 1, 2]
    (Host.dotGeneral (F := Ideal) dot_S2x2048x8x128_S2x8x2048x2048_S2x8x128x2048_1_3_3_2_02_01 none
      (shapeCast S2x2048x8x128 (extf (F := Ideal) (φ := .bf16) .f32 x2 bitsLt_bf16_f32) shapeCasts_S4096x1024_S2x2048x8x128)
      (Host.divf (F := Ideal) (φ := .f32) e (broadcastInDim S2x8x2048x2048 ![0, 1, 2, 3] bcast_S2x8x2048x1_S2x8x2048x2048_0_1_2_3 (sums e))))
    transposes_S2x8x128x2048_S2x2048x8x128_0_3_1_2) shapeCasts_S2x2048x8x128_S4096x1024) bitsLt_bf16_f32
/-- The row logarithms, one copy for every lane of a head. -/
def lseOf (y : Vec Ideal S2x8x2048 .f32) (e : Vec Ideal S2x8x2048x2048 .f32) : Vec Ideal S4096x1024 .f32 :=
  shapeCast S4096x1024 (broadcastInDim S2x2048x8x128 ![0, 1, 2, 3] bcast_S2x2048x8x1_S2x2048x8x128_0_1_2_3
    (transpose S2x2048x8x1 [0, 2, 1, 3] (addf (F := Ideal) (φ := .f32) (broadcastInDim S2x8x2048x1 ![0, 1, 2] bcast_S2x8x2048_S2x8x2048x1_0_1_2 y)
      (Host.log (F := Ideal) (φ := .f32) (sums e))) transposes_S2x8x2048x1_S2x2048x8x1_0_2_1_3)) shapeCasts_S2x2048x8x128_S4096x1024

section Entry

variable (m : (ℓ : Loc nD τ sig) → Buf (Elt Ideal) ℓ) (c : Dev nD)

theorem out_eq : V m c main_v30 = outOf (m ((c : Thread nD τ).loc main_arg2))
    (exps (val_main_v17_0 (F := Ideal) (m ((c : Thread nD τ).loc main_arg0)) (m ((c : Thread nD τ).loc main_arg1)))
      (val_main_v18 (F := Ideal) (m ((c : Thread nD τ).loc main_arg0)) (m ((c : Thread nD τ).loc main_arg1)))) := by
  simp only [V, hostOps0, hostOps0_1, hostOps0_2, List.flatten_cons, List.flatten_nil, List.append_nil, List.cons_append, List.nil_append]
  entry_read
  rfl
theorem lse_eq : V m c main_v35 = lseOf (val_main_v18 (F := Ideal) (m ((c : Thread nD τ).loc main_arg0)) (m ((c : Thread nD τ).loc main_arg1)))
    (exps (val_main_v17_0 (F := Ideal) (m ((c : Thread nD τ).loc main_arg0)) (m ((c : Thread nD τ).loc main_arg1)))
      (val_main_v18 (F := Ideal) (m ((c : Thread nD τ).loc main_arg0)) (m ((c : Thread nD τ).loc main_arg1)))) := by
  simp only [V, hostOps0, hostOps0_1, hostOps0_2, List.flatten_cons, List.flatten_nil, List.append_nil, List.cons_append, List.nil_append]
  entry_read
  rfl

end Entry

section Read

variable (s : Vec Ideal S2x8x2048x2048 .f32) (y : Vec Ideal S2x8x2048 .f32) (x2 : Vec Ideal S4096x1024 .bf16)
  (e : Vec Ideal S2x8x2048x2048 .f32) (b : Fin 2) (h : Fin 8) (r c : Fin 2048) (l : Fin 128)

theorem exps_at : exps s y (ix4 b h r c) = Ideal.exp (s (ix4 b h r c) - y (ix3 b h r)) := by
  pointwise [exps]
theorem sums_at : sums e (ix4 b h r 0) = ∑ a, e (ix4 b h r a) := by
  pointwise [sums]
theorem outOf_at (R : Fin 4096) (l : Fin 1024) : outOf x2 e (ix2 R l)
    = ∑ a, x2 (ix2 ⟨(seqOf R).val * 2048 + a.val, by have := (seqOf R).isLt; omega⟩ l) * Ideal.div (e (ix4 (seqOf R) (headNo l) (posOf R) a)) (∑ a, e (ix4 (seqOf R) (headNo l) (posOf R) a)) := by
  pointwise [outOf, sums]
  rfl
theorem lseOf_at (R : Fin 4096) (l : Fin 1024) : lseOf y e (ix2 R l)
    = y (ix3 (seqOf R) (headNo l) (posOf R)) + Ideal.log (∑ a, e (ix4 (seqOf R) (headNo l) (posOf R) a)) := by
  pointwise [lseOf, sums]
  rfl

end Read

section Finite

variable (m : (ℓ : Loc nD τ sig) → Buf (Elt Ideal) ℓ) (c : Dev nD)
variable (x0 x1 x2 : Vec Ideal S4096x1024 .bf16) (X0 X1 X2 X3 : Fin 4096 → Fin 1024 → ℝ)
  (h0 : ∀ r l, x0 (ix2 r l) = ((X0 r l : ℝ) : EReal)) (h1 : ∀ r l, x1 (ix2 r l) = ((X1 r l : ℝ) : EReal))
  (h2 : ∀ r l, x2 (ix2 r l) = ((X2 r l : ℝ) : EReal))
include h0 h1

theorem exps_real (b : Fin 2) (h : Fin 8) (r c : Fin 2048) :
    exps (val_main_v17_0 (F := Ideal) x0 x1) (val_main_v18 (F := Ideal) x0 x1) (ix4 b h r c) = ((e (heads X0 X1 X2 X3 b h) r c : ℝ) : EReal) := by
  rw [exps_at, AttnRef.s_at x0 x1 X0 X1 X2 X3 h0 h1, AttnRef.top_at x0 x1 X0 X1 X2 X3 h0 h1, exp_kept]
theorem sum_real' (b : Fin 2) (h : Fin 8) (r : Fin 2048) :
    ∑ c, exps (val_main_v17_0 (F := Ideal) x0 x1) (val_main_v18 (F := Ideal) x0 x1) (ix4 b h r c) = ((L (heads X0 X1 X2 X3 b h) r : ℝ) : EReal) :=
  sum_real _ _ fun c => exps_real x0 x1 X0 X1 X2 X3 h0 h1 b h r c
/-- The row logarithm of a head. -/
theorem lse_real (R : Fin 4096) (l : Fin 1024) :
    lseOf (val_main_v18 (F := Ideal) x0 x1) (exps (val_main_v17_0 (F := Ideal) x0 x1) (val_main_v18 (F := Ideal) x0 x1)) (ix2 R l)
      = ((M (heads X0 X1 X2 X3 (seqOf R) (headNo l)) (posOf R) + Real.log (L (heads X0 X1 X2 X3 (seqOf R) (headNo l)) (posOf R)) : ℝ) : EReal) := by
  rw [lseOf_at, sum_real' x0 x1 X0 X1 X2 X3 h0 h1, AttnRef.top_at x0 x1 X0 X1 X2 X3 h0 h1, log_L, ← EReal.coe_add]
include h2
/-- The output of a head. -/
theorem out_real (R : Fin 4096) (l : Fin 1024) :
    outOf x2 (exps (val_main_v17_0 (F := Ideal) x0 x1) (val_main_v18 (F := Ideal) x0 x1)) (ix2 R l)
      = ((∑ c, headOf X2 (seqOf R) (headNo l) c (laneOf l) * p (heads X0 X1 X2 X3 (seqOf R) (headNo l)) (posOf R) c : ℝ) : EReal) := by
  rw [outOf_at]
  refine sum_real _ _ fun a => ?_
  rw [sum_real' x0 x1 X0 X1 X2 X3 h0 h1, exps_real x0 x1 X0 X1 X2 X3 h0 h1, div_real _ (L_ne _ _), h2, ← EReal.coe_mul, headOf_lane X2]
  rfl

end Finite

end Cert.Own.AttnHost

end
-- ==== Proof.AttnArray.lean ====
/- The attention gradient's kernel over its whole grid, of finite arguments: the three arrays it leaves, index by index. -/
module

public import proofs.«01_k».proof.Proof.AttnHost

@[expose] public section

set_option maxRecDepth 16384

noncomputable section

namespace Cert.Own.AttnArray

open Idealize.ShloMosaic Idealize.ShloMosaic.TcCoe Idealize.SL.Sem
open Idealize.ShloMosaic.Pipeline (Dat)
open Cert.KernelAttnIdeal Cert.KernelAttnIdeal.Gen
open Cert.Own Cert.Own.Attn Cert.Own.AttnIdealBody Cert.Own.AttnPoint

theorem index0 : ∀ t : Fin cfg0.N, win0_0.index t = ![t.val / 16, t.val / 2 % 8] := by decide +kernel
theorem index1 : ∀ t : Fin cfg0.N, win0_1.index t = ![2 * (t.val / 16) + t.val % 2, t.val / 2 % 8] := by decide +kernel
theorem index2 : ∀ t : Fin cfg0.N, win0_2.index t = ![2 * (t.val / 16) + t.val % 2, t.val / 2 % 8] := by decide +kernel
theorem index3 : ∀ t : Fin cfg0.N, win0_3.index t = ![t.val / 16, t.val / 2 % 8] := by decide +kernel
theorem index4 : ∀ t : Fin cfg0.N, win0_4.index t = ![t.val / 16, t.val / 2 % 8] := by decide +kernel
theorem index5 : ∀ t : Fin cfg0.N, win0_5.index t = ![t.val / 16, t.val / 2 % 8] := by decide +kernel
theorem index6 : ∀ t : Fin cfg0.N, win0_6.index t = ![t.val / 16, t.val / 2 % 8] := by decide +kernel
theorem index7 : ∀ t : Fin cfg0.N, win0_7.index t = ![2 * (t.val / 16) + t.val % 2, t.val / 2 % 8] := by decide +kernel
theorem index8 : ∀ t : Fin cfg0.N, win0_8.index t = ![2 * (t.val / 16) + t.val % 2, t.val / 2 % 8] := by decide +kernel

/-- The sequence, the head and the key tile of a grid point. -/
def seqAt (t : Fin cfg0.N) : Fin 2 := ⟨t.val / 16, by have : t.val < 32 := t.isLt; omega⟩
def headAt (t : Fin cfg0.N) : Fin 8 := ⟨t.val / 2 % 8, by omega⟩
def tileAt (t : Fin cfg0.N) : Fin 2 := ⟨t.val % 2, by omega⟩

/-- Row `r` of sequence `b`, lane `l` of head `h`. -/
def rowOf (b : Fin 2) (r : Fin 2048) : Fin 4096 := ⟨b.val * 2048 + r.val, by omega⟩
def colOf (h : Fin 8) (l : Fin 128) : Fin 1024 := ⟨h.val * 128 + l.val, by omega⟩
theorem seqOf_row (b : Fin 2) (r : Fin 2048) : seqOf (rowOf b r) = b := Fin.ext (by show (b.val * 2048 + r.val) / 2048 = b.val; omega)
theorem posOf_row (b : Fin 2) (r : Fin 2048) : posOf (rowOf b r) = r := Fin.ext (by show (b.val * 2048 + r.val) % 2048 = r.val; omega)
theorem headNo_col (h : Fin 8) (l : Fin 128) : headNo (colOf h l) = h := Fin.ext (by show (h.val * 128 + l.val) / 128 = h.val; omega)
theorem laneOf_col (h : Fin 8) (l : Fin 128) : laneOf (colOf h l) = l := Fin.ext (by show (h.val * 128 + l.val) % 128 = l.val; omega)

variable (m : (ℓ : Loc nD τ sig) → Buf (Elt Ideal) ℓ) (c : Dev nD)

theorem blk0 (t : Fin cfg0.N) (r : Fin 2048) (l : Fin 128) :
    (iblk m c 0 t : Vec Ideal S2048x128 .bf16) (ix2 r l) = (V m c main_arg0 : Vec Ideal S4096x1024 .bf16) (ix2 (rowOf (seqAt t) r) (colOf (headAt t) l)) := by
  unfold rowOf colOf seqAt headAt; blk_point [iblk, index0 t]
theorem blk1 (t : Fin cfg0.N) (a : Fin 1024) (l : Fin 128) :
    (iblk m c 1 t : Vec Ideal S1024x128 .bf16) (ix2 a l) = (V m c main_arg1 : Vec Ideal S4096x1024 .bf16) (ix2 (rowOf (seqAt t) (tile (tileAt t) a)) (colOf (headAt t) l)) := by
  unfold rowOf colOf seqAt headAt tileAt tile; blk_point [iblk, index1 t]
theorem blk2 (t : Fin cfg0.N) (a : Fin 1024) (l : Fin 128) :
    (iblk m c 2 t : Vec Ideal S1024x128 .bf16) (ix2 a l) = (V m c main_arg2 : Vec Ideal S4096x1024 .bf16) (ix2 (rowOf (seqAt t) (tile (tileAt t) a)) (colOf (headAt t) l)) := by
  unfold rowOf colOf seqAt headAt tileAt tile; blk_point [iblk, index2 t]
theorem blk5 (t : Fin cfg0.N) (r : Fin 2048) (l : Fin 128) :
    (iblk m c 5 t : Vec Ideal S2048x128 .bf16) (ix2 r l) = (V m c main_arg3 : Vec Ideal S4096x1024 .bf16) (ix2 (rowOf (seqAt t) r) (colOf (headAt t) l)) := by
  unfold rowOf colOf seqAt headAt; blk_point [iblk, index5 t]
theorem emb3 (t : Fin cfg0.N) (r : Fin 2048) (l : Fin 128) :
    ((win0_3.blk t).view.emb (ix2 r l) : S4096x1024.Idx) = ix2 (rowOf (seqAt t) r) (colOf (headAt t) l) := by
  funext a; apply Fin.ext
  match a with
  | ⟨0, _⟩ =>
    show win0_3.index t 0 * 2048 + 1 * r.val = t.val / 16 * 2048 + r.val
    rw [index3 t]; show t.val / 16 * 2048 + 1 * r.val = t.val / 16 * 2048 + r.val; omega
  | ⟨1, _⟩ =>
    show win0_3.index t 1 * 128 + 1 * l.val = t.val / 2 % 8 * 128 + l.val
    rw [index3 t]; show t.val / 2 % 8 * 128 + 1 * l.val = t.val / 2 % 8 * 128 + l.val; omega
theorem emb4 (t : Fin cfg0.N) (r : Fin 2048) (l : Fin 128) :
    ((win0_4.blk t).view.emb (ix2 r l) : S4096x1024.Idx) = ix2 (rowOf (seqAt t) r) (colOf (headAt t) l) := by
  funext a; apply Fin.ext
  match a with
  | ⟨0, _⟩ =>
    show win0_4.index t 0 * 2048 + 1 * r.val = t.val / 16 * 2048 + r.val
    rw [index4 t]; show t.val / 16 * 2048 + 1 * r.val = t.val / 16 * 2048 + r.val; omega
  | ⟨1, _⟩ =>
    show win0_4.index t 1 * 128 + 1 * l.val = t.val / 2 % 8 * 128 + l.val
    rw [index4 t]; show t.val / 2 % 8 * 128 + 1 * l.val = t.val / 2 % 8 * 128 + l.val; omega
theorem read3 (x : Vec Ideal S4096x1024 .bf16) (t : Fin cfg0.N) (r : Fin 2048) (l : Fin 128) :
    ((win0_3.blk t).view.read (Elt Ideal) x : Vec Ideal S2048x128 .bf16) (ix2 r l) = x (ix2 (rowOf (seqAt t) r) (colOf (headAt t) l)) :=
  congrArg x (emb3 t r l)
theorem blk3 (t : Fin cfg0.N) (r : Fin 2048) (l : Fin 128) :
    (iblk m c 3 t : Vec Ideal S2048x128 .bf16) (ix2 r l) = (V m c main_v30 : Vec Ideal S4096x1024 .bf16) (ix2 (rowOf (seqAt t) r) (colOf (headAt t) l)) := by
  unfold iblk
  exact read3 (V m c main_v30) t r l
theorem read4 (x : Vec Ideal S4096x1024 .f32) (t : Fin cfg0.N) (r : Fin 2048) (l : Fin 128) :
    ((win0_4.blk t).view.read (Elt Ideal) x : Vec Ideal S2048x128 .f32) (ix2 r l) = x (ix2 (rowOf (seqAt t) r) (colOf (headAt t) l)) :=
  congrArg x (emb4 t r l)
theorem blk4 (t : Fin cfg0.N) (r : Fin 2048) (l : Fin 128) :
    (iblk m c 4 t : Vec Ideal S2048x128 .f32) (ix2 r l) = (V m c main_v35 : Vec Ideal S4096x1024 .f32) (ix2 (rowOf (seqAt t) r) (colOf (headAt t) l)) := by
  unfold iblk
  exact read4 (V m c main_v35) t r l

/-- The four arguments are finite: these real arrays. -/
structure Finite (X0 X1 X2 X3 : Fin 4096 → Fin 1024 → ℝ) : Prop where
  a0 : ∀ r l, (m ((c : Thread nD τ).loc main_arg0) : Vec Ideal S4096x1024 .bf16) (ix2 r l) = ((X0 r l : ℝ) : EReal)
  a1 : ∀ r l, (m ((c : Thread nD τ).loc main_arg1) : Vec Ideal S4096x1024 .bf16) (ix2 r l) = ((X1 r l : ℝ) : EReal)
  a2 : ∀ r l, (m ((c : Thread nD τ).loc main_arg2) : Vec Ideal S4096x1024 .bf16) (ix2 r l) = ((X2 r l : ℝ) : EReal)
  a3 : ∀ r l, (m ((c : Thread nD τ).loc main_arg3) : Vec Ideal S4096x1024 .bf16) (ix2 r l) = ((X3 r l : ℝ) : EReal)

variable {X0 X1 X2 X3 : Fin 4096 → Fin 1024 → ℝ} (hX : Finite m c X0 X1 X2 X3)
include hX

/-- Every grid point's blocks are its head's rows. -/
theorem fits (t : Fin cfg0.N) : Fits (heads X0 X1 X2 X3 (seqAt t) (headAt t)) (tileAt t) (blocks m c t) where
  q r l := by
    refine (blk0 m c t r l).trans ?_
    rw [V_main_arg0]; exact hX.a0 _ _
  k a l := by
    refine (blk1 m c t a l).trans ?_
    rw [V_main_arg1]; exact hX.a1 _ _
  v a l := by
    refine (blk2 m c t a l).trans ?_
    rw [V_main_arg2]; exact hX.a2 _ _
  o r l := by
    refine (blk3 m c t r l).trans ?_
    rw [AttnHost.out_eq]
    refine (AttnHost.out_real _ _ _ X0 X1 X2 X3 hX.a0 hX.a1 hX.a2 _ _).trans ?_
    rw [seqOf_row, posOf_row, headNo_col, laneOf_col]; rfl
  dO r l := by
    refine (blk5 m c t r l).trans ?_
    rw [V_main_arg3]; exact hX.a3 _ _
  lse r l := by
    refine (blk4 m c t r l).trans ?_
    rw [AttnHost.lse_eq]
    refine (AttnHost.lse_real _ _ X0 X1 X2 X3 hX.a0 hX.a1 _ _).trans ?_
    rw [seqOf_row, posOf_row, headNo_col]

theorem fits_of (t : Fin cfg0.N) (j : Fin 2) (hj : t.val % 2 = j.val) : Fits (heads X0 X1 X2 X3 (seqAt t) (headAt t)) j (blocks m c t) := by
  have h := fits m c hX t
  rwa [show tileAt t = j from Fin.ext hj] at h

theorem outs_k (t : Fin cfg0.N) (a : Fin 1024) (l : Fin 128) :
    (outs m c t).2.1 (ix2 a l) = ((dk (heads X0 X1 X2 X3 (seqAt t) (headAt t)) (tile (tileAt t) a) l : ℝ) : EReal) := by
  unfold outs
  by_cases h : t.val % 2 = 0
  · rw [first_k _ (fits_of m c hX t 0 h) h, show tileAt t = 0 from Fin.ext h]
  · have h1 : t.val % 2 = 1 := by omega
    rw [second_k _ (fits_of m c hX t 1 h1) h1, show tileAt t = 1 from Fin.ext h1]
theorem outs_v (t : Fin cfg0.N) (a : Fin 1024) (l : Fin 128) :
    (outs m c t).2.2 (ix2 a l) = ((dv (heads X0 X1 X2 X3 (seqAt t) (headAt t)) (tile (tileAt t) a) l : ℝ) : EReal) := by
  unfold outs
  by_cases h : t.val % 2 = 0
  · rw [first_v _ (fits_of m c hX t 0 h) h, show tileAt t = 0 from Fin.ext h]
  · have h1 : t.val % 2 = 1 := by omega
    rw [second_v _ (fits_of m c hX t 1 h1) h1, show tileAt t = 1 from Fin.ext h1]
theorem outs_q (t : Fin cfg0.N) (h1 : t.val % 2 = 1) (r : Fin 2048) (l : Fin 128) :
    (outs m c t).1 (ix2 r l) = ((dq (heads X0 X1 X2 X3 (seqAt t) (headAt t)) r l : ℝ) : EReal) := by
  have hb : (before1 t).val % 2 = 0 := by show (t.val - 1) % 2 = 0; omega
  have hf := fits_of m c hX (before1 t) 0 hb
  rw [show seqAt (before1 t) = seqAt t from Fin.ext (by show (t.val - 1) / 16 = t.val / 16; omega),
    show headAt (before1 t) = headAt t from Fin.ext (by show (t.val - 1) / 2 % 8 = t.val / 2 % 8; omega)] at hf
  unfold outs start
  rw [if_neg (by omega)]
  exact both_q hf hb (fits_of m c hX t 1 h1) h1 r l

/-- The three gradients as arrays. -/
def whole (g : Head → Fin 2048 → Fin 128 → ℝ) (X0 X1 X2 X3 : Fin 4096 → Fin 1024 → ℝ) (r : Fin 4096) (l : Fin 1024) : EReal :=
  ((g (heads X0 X1 X2 X3 (seqOf r) (headNo l)) (posOf r) (laneOf l) : ℝ) : EReal)
omit hX in
theorem whole_at (g : Head → Fin 2048 → Fin 128 → ℝ) (b : Fin 2) (h : Fin 8) (r : Fin 2048) (l : Fin 128) :
    whole g X0 X1 X2 X3 (rowOf b r) (colOf h l) = ((g (heads X0 X1 X2 X3 b h) r l : ℝ) : EReal) := by
  unfold whole
  rw [seqOf_row, posOf_row, headNo_col, laneOf_col]

theorem fin6 : (dats m 0 c).arrAt 6 cfg0.N = fun i : S4096x1024.Idx => whole dq X0 X1 X2 X3 (i 0) (i 1) := by
  refine (dats m 0 c).arrAt_eq_of_covers 6 _ (by decide +kernel) fun t hf y => ?_
  blk_simp
  rw [after0_6]
  obtain ⟨p, q, hy⟩ : ∃ (p : Fin 2048) (q : Fin 128), y = ix2 p q := pair_of y
  subst hy
  rw [outs_q m c hX t ((flush0_6 t).mp hf), ← whole_at]
  refine congrArg₂ (whole _ _ _ _ _) (Fin.ext ?_) (Fin.ext ?_)
  · show t.val / 16 * 2048 + p.val = win0_6.index t 0 * 2048 + 1 * p.val
    rw [index6 t]; show t.val / 16 * 2048 + p.val = t.val / 16 * 2048 + 1 * p.val; omega
  · show t.val / 2 % 8 * 128 + q.val = win0_6.index t 1 * 128 + 1 * q.val
    rw [index6 t]; show t.val / 2 % 8 * 128 + q.val = t.val / 2 % 8 * 128 + 1 * q.val; omega
theorem fin7 : (dats m 0 c).arrAt 7 cfg0.N = fun i : S4096x1024.Idx => whole dk X0 X1 X2 X3 (i 0) (i 1) := by
  refine (dats m 0 c).arrAt_eq_of_covers 7 _ (by decide +kernel) fun t hf y => ?_
  blk_simp
  rw [after0_7]
  obtain ⟨p, q, hy⟩ : ∃ (p : Fin 1024) (q : Fin 128), y = ix2 p q := pair_of y
  subst hy
  rw [outs_k m c hX t, ← whole_at]
  refine congrArg₂ (whole _ _ _ _ _) (Fin.ext ?_) (Fin.ext ?_)
  · show t.val / 16 * 2048 + (1024 * (t.val % 2) + p.val) = win0_7.index t 0 * 1024 + 1 * p.val
    rw [index7 t]; show t.val / 16 * 2048 + (1024 * (t.val % 2) + p.val) = (2 * (t.val / 16) + t.val % 2) * 1024 + 1 * p.val; omega
  · show t.val / 2 % 8 * 128 + q.val = win0_7.index t 1 * 128 + 1 * q.val
    rw [index7 t]; show t.val / 2 % 8 * 128 + q.val = t.val / 2 % 8 * 128 + 1 * q.val; omega
theorem fin8 : (dats m 0 c).arrAt 8 cfg0.N = fun i : S4096x1024.Idx => whole dv X0 X1 X2 X3 (i 0) (i 1) := by
  refine (dats m 0 c).arrAt_eq_of_covers 8 _ (by decide +kernel) fun t hf y => ?_
  blk_simp
  rw [after0_8]
  obtain ⟨p, q, hy⟩ : ∃ (p : Fin 1024) (q : Fin 128), y = ix2 p q := pair_of y
  subst hy
  refine (show k0_pay5 (F := Ideal) (outs m c t).2.2 (ix2 p q) = (outs m c t).2.2 (ix2 p q) by generalize (outs m c t).2.2 = x; pointwise [k0_pay5]).trans ?_
  rw [outs_v m c hX t, ← whole_at]
  refine congrArg₂ (whole _ _ _ _ _) (Fin.ext ?_) (Fin.ext ?_)
  · show t.val / 16 * 2048 + (1024 * (t.val % 2) + p.val) = win0_8.index t 0 * 1024 + 1 * p.val
    rw [index8 t]; show t.val / 16 * 2048 + (1024 * (t.val % 2) + p.val) = (2 * (t.val / 16) + t.val % 2) * 1024 + 1 * p.val; omega
  · show t.val / 2 % 8 * 128 + q.val = win0_8.index t 1 * 128 + 1 * q.val
    rw [index8 t]; show t.val / 2 % 8 * 128 + q.val = t.val / 2 % 8 * 128 + 1 * q.val; omega

end Cert.Own.AttnArray

end
-- ==== Proof.AttnClaim.lean ====
/- The claims about the attention gradient: the runs of the two programs, and their results equal on finite arguments. -/
module

public import proofs.«01_k».proof.Defs
public import proofs.«01_k».proof.Proof.Gen.Pre_finite_arguments
public import proofs.«01_k».proof.Proof.Gen.KernelAttn.Frame
public import proofs.«01_k».proof.Proof.Gen.KernelAttnIdeal.Skeleton
public import proofs.«01_k».proof.Proof.Gen.ReferenceAttnIdeal.Run
public import proofs.«01_k».proof.Proof.AttnIdealFrame
public import proofs.«01_k».proof.Proof.AttnArray
public import Idealize.ShloMosaic.Lib.Claim

@[expose] public section

set_option maxRecDepth 100000

noncomputable section

namespace Cert.Own.AttnClaim

open Idealize.ShloMosaic Idealize.ShloMosaic.TcCoe Idealize.SL.Sem
open Cert.Own Cert.Own.Attn Cert.Own.AttnArray

/-! ## The frame of the program over machine floats, from the one run -/

section Frame
attribute [local instance] Cert.KernelAttn.Gen.facts

theorem body_same : Cert.KernelAttn.cc0_attn_bwd (F := Bits) = Cert.KernelAttnIdeal.cc0_attn_bwd (F := Bits) := rfl

theorem table_same : Cert.KernelAttn.defs₀ (F := Bits) = Cert.KernelAttnIdeal.defs₀ (F := Bits) :=
  congrArg Defs.onTc (funext fun l => funext fun a => match l, a with
    | 0, (t, s) => by
      show Cert.KernelAttn.cc0_attn_bwd (F := Bits) _ _ _ _ _ _ _ _ _ _ _ _ _ _ _ _ _ _ _ _ _ _ _ = _
      rw [body_same]
      rfl)

theorem defs_same : Cert.KernelAttn.defs (F := Bits) = Cert.KernelAttnIdeal.defs (F := Bits) :=
  congrArg (Pipeline.defs (Cert.KernelAttnIdeal.pcfgs (F := Bits))) table_same

set_option maxHeartbeats 4000000 in
theorem main_same : Cert.KernelAttn.main (F := Bits) = Cert.KernelAttnIdeal.main (F := Bits) := rfl

theorem frame_kernel : Cert.quiescent_KernelAttn (hKernelAttn := Cert.KernelAttn.Gen.facts) := fun m ρ _ => by
  rw [defs_same, main_same]
  exact Cert.Own.AttnIdealBody.frame (F := Bits) m ρ

end Frame

abbrev Arr := Vec Ideal Cert.KernelAttnIdeal.S4096x1024 .bf16

/-! ## Finite arguments are real numbers -/

theorem finite_of_fn [inst : Cert.Pre_finite_arguments.Facts] (x0 x1 x2 x3 : Arr) (h : Cert.Pre_finite_arguments.fn (F := Ideal) x0 x1 x2 x3 = fun _ => 1#1) (i : Cert.KernelAttnIdeal.S4096x1024.Idx) :
    x0 i = ((EReal.toReal (x0 i) : ℝ) : EReal) ∧ x1 i = ((EReal.toReal (x1 i) : ℝ) : EReal) ∧ x2 i = ((EReal.toReal (x2 i) : ℝ) : EReal) ∧ x3 i = ((EReal.toReal (x3 i) : ℝ) : EReal) := by
  have e := congrFun h i
  obtain ⟨e, e3⟩ := and_one e
  obtain ⟨e, e2⟩ := and_one e
  obtain ⟨e0, e1⟩ := and_one e
  exact ⟨real_of_abs_lt _ e0, real_of_abs_lt _ e1, real_of_abs_lt _ e2, real_of_abs_lt _ e3⟩

/-- The real numbers an array holds. -/
def reals (x : Arr) (r : Fin 4096) (l : Fin 1024) : ℝ := EReal.toReal (x (ix2 r l))

/-! ## The reference's results, index by index -/

theorem dq_eq (x0 x1 x2 x3 : Arr) (X0 X1 X2 X3 : Fin 4096 → Fin 1024 → ℝ)
    (h0 : ∀ r l, x0 (ix2 r l) = ((X0 r l : ℝ) : EReal)) (h1 : ∀ r l, x1 (ix2 r l) = ((X1 r l : ℝ) : EReal))
    (h2 : ∀ r l, x2 (ix2 r l) = ((X2 r l : ℝ) : EReal)) (h3 : ∀ r l, x3 (ix2 r l) = ((X3 r l : ℝ) : EReal)) :
    Cert.ReferenceAttnIdeal.Read.val_main_v76 (F := Ideal) x0 x1 x2 x3
      = fun i : Cert.KernelAttnIdeal.S4096x1024.Idx => whole dq X0 X1 X2 X3 (i 0) (i 1) := by
  funext i
  obtain ⟨r, l, rfl⟩ := pair_of i
  exact AttnRef.dq_at x0 x1 x2 x3 X0 X1 X2 X3 h0 h1 h2 h3 r l

theorem dk_eq (x0 x1 x2 x3 : Arr) (X0 X1 X2 X3 : Fin 4096 → Fin 1024 → ℝ)
    (h0 : ∀ r l, x0 (ix2 r l) = ((X0 r l : ℝ) : EReal)) (h1 : ∀ r l, x1 (ix2 r l) = ((X1 r l : ℝ) : EReal))
    (h2 : ∀ r l, x2 (ix2 r l) = ((X2 r l : ℝ) : EReal)) (h3 : ∀ r l, x3 (ix2 r l) = ((X3 r l : ℝ) : EReal)) :
    Cert.ReferenceAttnIdeal.Read.val_main_v75 (F := Ideal) x0 x1 x2 x3
      = fun i : Cert.KernelAttnIdeal.S4096x1024.Idx => whole dk X0 X1 X2 X3 (i 0) (i 1) := by
  funext i
  obtain ⟨r, l, rfl⟩ := pair_of i
  exact AttnRef.dk_at x0 x1 x2 x3 X0 X1 X2 X3 h0 h1 h2 h3 r l

theorem dv_eq (x0 x1 x2 x3 : Arr) (X0 X1 X2 X3 : Fin 4096 → Fin 1024 → ℝ)
    (h0 : ∀ r l, x0 (ix2 r l) = ((X0 r l : ℝ) : EReal)) (h1 : ∀ r l, x1 (ix2 r l) = ((X1 r l : ℝ) : EReal))
    (h2 : ∀ r l, x2 (ix2 r l) = ((X2 r l : ℝ) : EReal)) (h3 : ∀ r l, x3 (ix2 r l) = ((X3 r l : ℝ) : EReal)) :
    Cert.ReferenceAttnIdeal.Read.val_main_v77 (F := Ideal) x0 x1 x3
      = fun i : Cert.KernelAttnIdeal.S4096x1024.Idx => whole dv X0 X1 X2 X3 (i 0) (i 1) := by
  funext i
  obtain ⟨r, l, rfl⟩ := pair_of i
  exact AttnRef.dv_at x0 x1 x2 x3 X0 X1 X2 X3 h0 h1 h2 h3 r l

/-! ## The kernel's run, its results named -/

section Run
open Cert.KernelAttnIdeal Cert.KernelAttnIdeal.Gen Cert.Own.AttnIdealBody

theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v36_0) = (dats m 0 c).arrAt 6 cfg0.N
      ∧ r.2.mem ((c.tc : Thread nD τ).loc main_v36_1) = (dats m 0 c).arrAt 7 cfg0.N
      ∧ r.2.mem ((c.tc : Thread nD τ).loc main_v36_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 6, (h.1 c).1 7, (h.1 c).1 8,
    ((h.1 c).1 0).trans (((dats m 0 c).arrAt_in 0 rfl _).trans (V_main_arg0 m c)),
    ((h.1 c).1 1).trans (((dats m 0 c).arrAt_in 1 rfl _).trans (V_main_arg1 m c)),
    ((h.1 c).1 2).trans (((dats m 0 c).arrAt_in 2 rfl _).trans (V_main_arg2 m c)),
    ((h.1 c).1 5).trans (((dats m 0 c).arrAt_in 5 rfl _).trans (V_main_arg3 m c))⟩) (run_main m g)

theorem finite_of_pre (m : (ℓ : Loc nD τ sig) → Buf (Elt Ideal) ℓ)
    (h : Cert.Pre_KernelAttnIdeal_finite_arguments (hPre_finite_arguments := Cert.Pre_finite_arguments.Gen.facts) m) (c : Dev nD) :
    Finite m c (reals (m ((c.tc : Thread nD τ).loc main_arg0))) (reals (m ((c.tc : Thread nD τ).loc main_arg1)))
      (reals (m ((c.tc : Thread nD τ).loc main_arg2))) (reals (m ((c.tc : Thread nD τ).loc main_arg3))) where
  a0 r l := (finite_of_fn (inst := Cert.Pre_finite_arguments.Gen.facts) _ _ _ _ (h c) (ix2 r l)).1
  a1 r l := (finite_of_fn (inst := Cert.Pre_finite_arguments.Gen.facts) _ _ _ _ (h c) (ix2 r l)).2.1
  a2 r l := (finite_of_fn (inst := Cert.Pre_finite_arguments.Gen.facts) _ _ _ _ (h c) (ix2 r l)).2.2.1
  a3 r l := (finite_of_fn (inst := Cert.Pre_finite_arguments.Gen.facts) _ _ _ _ (h c) (ix2 r l)).2.2.2

end Run

theorem algebraic : Cert.algebraic_KernelAttnIdeal_ReferenceAttnIdeal_pre_finite_arguments (hKernelAttnIdeal := Cert.KernelAttnIdeal.Gen.facts) (hReferenceAttnIdeal := Cert.ReferenceAttnIdeal.Gen.facts)
    (hPre_finite_arguments := Cert.Pre_finite_arguments.Gen.facts) := by
  intro m g m' g' hpre hagree
  refine ⟨fun c => (Cert.Own.AttnIdealBody.dats m 0 c).arrAt 6 Cert.KernelAttnIdeal.cfg0.N, fun c => (Cert.Own.AttnIdealBody.dats m 0 c).arrAt 7 Cert.KernelAttnIdeal.cfg0.N,
    fun c => (Cert.Own.AttnIdealBody.dats m 0 c).arrAt 8 Cert.KernelAttnIdeal.cfg0.N, kernel_run m g, ?_⟩
  refine θ_run_mono (Cert.ReferenceAttnIdeal.Value.run (F := Ideal) m' g') ?_
  intro r hr c
  have hX := finite_of_pre m hpre c
  refine ⟨(hr c).1.trans ?_, (hr c).2.1.trans ?_, (hr c).2.2.1.trans ?_, (hr c).2.2.2⟩
  · rw [Cert.ReferenceAttnIdeal.Read.val_main_v76_eq, (hagree c).1, (hagree c).2.1, (hagree c).2.2.1, (hagree c).2.2.2]
    exact (dq_eq _ _ _ _ _ _ _ _ hX.a0 hX.a1 hX.a2 hX.a3).trans (fin6 m c hX).symm
  · rw [Cert.ReferenceAttnIdeal.Read.val_main_v75_eq, (hagree c).1, (hagree c).2.1, (hagree c).2.2.1, (hagree c).2.2.2]
    exact (dk_eq _ _ _ _ _ _ _ _ hX.a0 hX.a1 hX.a2 hX.a3).trans (fin7 m c hX).symm
  · rw [Cert.ReferenceAttnIdeal.Read.val_main_v77_eq, (hagree c).1, (hagree c).2.1, (hagree c).2.2.2]
    exact (dv_eq _ _ _ _ _ _ _ _ hX.a0 hX.a1 hX.a2 hX.a3).trans (fin8 m c hX).symm

theorem reference_frame : Cert.quiescent_ReferenceAttnIdeal (hReferenceAttnIdeal := Cert.ReferenceAttnIdeal.Gen.facts) := fun m ρ _ =>
  (θ_run Cert.ReferenceAttnIdeal.defs _ _).mono
    (fun r h => ⟨fun c => (h c).2.2.2, sem_eq_zero_of_no_sems (by decide) r.2⟩)
    (Cert.ReferenceAttnIdeal.Value.run (F := Ideal) m ρ)

end Cert.Own.AttnClaim

end
-- ==== Proof.GradSteps.lean ====
/- The feed-forward gradient's kernel body at one grid point, written as the steps it repeats: the sixteen-row steps, the
   256-row products they follow, and the products over the block's own rows. -/
module

public import proofs.«01_k».proof.Proof.Gen.KernelGradIdeal.Frame
public import proofs.«01_k».proof.Proof.Gen.KernelGradIdeal.Skeleton
public import Idealize.ShloMosaic.Lib.VecWindow
public import Idealize.ShloMosaic.Lib.Exec
public import Idealize.ShloMosaic.Lib.Tactic

@[expose] public section

set_option maxRecDepth 65536

noncomputable section

namespace Cert.Own.Grad

open Cert.KernelGradIdeal Cert.KernelGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem inb16 (n : ℕ) (h : n < 64) : ∀ a, (![16 * n, 0] : Fin 2 → Nat) a + S16x256.size a ≤ S1024x256.size a := by
  intro a
  match a with
  | ⟨0, _⟩ => show 16 * n + 16 ≤ 1024; omega
  | ⟨1, _⟩ => show 0 + 256 ≤ 256; omega

theorem packed16 (n : ℕ) (h : n < 64) : (Rect.unit (s := S1024x256) ![16 * n, 0] S16x256.size (inb16 n h)).PackedRows (EltTy.packing .bf16) := by
  revert h; revert n
  have : ∀ n : Fin 64, (Rect.unit (s := S1024x256) ![16 * n.val, 0] S16x256.size (inb16 n.val n.isLt)).PackedRows (EltTy.packing .bf16) := by decide +kernel
  exact fun n h => this ⟨n, h⟩

theorem inb256 (q : Fin 4) : ∀ a, (![256 * q.val, 0] : Fin 2 → Nat) a + S256x256.size a ≤ S1024x256.size a := by
  intro a
  match a with
  | ⟨0, _⟩ => show 256 * q.val + 256 ≤ 1024; omega
  | ⟨1, _⟩ => show 0 + 256 ≤ 256; omega

section Program

variable (i : grid0.Coords) (arg2 : Memref sig .tc .vmem S1024x1024 .f32) (harg2 : arg2.IsWhole) (arg3 : Memref sig .tc .vmem S1024x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S4096x1024 .bf16) (harg12 : arg12.IsWhole) (arg13 : Memref sig .tc .vmem S4096x1024 .bf16) (harg13 : arg13.IsWhole) (arg14 : Memref sig .tc .vmem S1024x256 .f32) (harg14 : arg14.IsWhole) (arg15 : Memref sig .tc .vmem S1024x256 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole)

/-- A step of sixteen rows, its rows read. -/
def stepEnd (n : ℕ) (h : n < 64) (ds : Vec F S16x256 .f32) (b' a1 a2 : FVec F S16x256 .f32) : Prog (TpuEff nD τ sig (Elt F) Λ₀ .tc) PUnit := do
  let _ : Vec F S16x256 .bf16 ← Prog.lift (.load arg15 (Rect.unit (s := S1024x256) ![16 * n, 0] S16x256.size (inb16 n h)).toLoadRect (View.loadsAt_vmem h_S16x256))
  Prog.lift (.store arg15 (Rect.unit (s := S1024x256) ![16 * n, 0] S16x256.size (inb16 n h)) (k0_pay17 b' a2) Finset.univ (View.stores_vmem h_S16x256 (harg15.storeExact_slice rfl _ (packed16 n h)) (fun _ => rfl)) (.inl rfl))
  let _ : Vec F S16x256 .bf16 ← Prog.lift (.load arg7 (Rect.unit (s := S1024x256) ![16 * n, 0] S16x256.size (inb16 n h)).toLoadRect (View.loadsAt_vmem h_S16x256))
  Prog.lift (.store arg7 (Rect.unit (s := S1024x256) ![16 * n, 0] S16x256.size (inb16 n h)) (k0_pay18 ds b' a1 a2) Finset.univ (View.stores_vmem h_S16x256 (harg7.storeExact_slice rfl _ (packed16 n h)) (fun _ => rfl)) (.inl rfl))
  let _ : Vec F S16x256 .bf16 ← Prog.lift (.load arg8 (Rect.unit (s := S1024x256) ![16 * n, 0] S16x256.size (inb16 n h)).toLoadRect (View.loadsAt_vmem h_S16x256))
  Prog.lift (.store arg8 (Rect.unit (s := S1024x256) ![16 * n, 0] S16x256.size (inb16 n h)) (k0_pay19 ds a2) Finset.univ (View.stores_vmem h_S16x256 (harg8.storeExact_slice rfl _ (packed16 n h)) (fun _ => rfl)) (.inl rfl))

/-- One step of sixteen rows. -/
def step (n : ℕ) (h : n < 64) : Prog (TpuEff nD τ sig (Elt F) Λ₀ .tc) PUnit := do
  let ds : Vec F S16x256 .f32 ← Prog.lift (.load arg14 (Rect.unit (s := S1024x256) ![16 * n, 0] S16x256.size (inb16 n h)).toLoadRect (View.loadsAt_vmem h_S16x256))
  let a : Vec F S16x256 .bf16 ← Prog.lift (.load arg4 (Rect.unit (s := S1024x256) ![16 * n, 0] S16x256.size (inb16 n h)).toLoadRect (View.loadsAt_vmem h_S16x256))
  let b : Vec F S16x256 .bf16 ← Prog.lift (.load arg5 (Rect.unit (s := S1024x256) ![16 * n, 0] S16x256.size (inb16 n h)).toLoadRect (View.loadsAt_vmem h_S16x256))
  stepEnd arg7 harg7 arg8 harg8 arg15 harg15 n h ds (k0_pay14 b) (k0_pay15 a) (k0_pay16 a)

/-- The `k` steps from the `n`-th on. -/
def steps (n : ℕ) : (k : ℕ) → n + k ≤ 64 → Prog (TpuEff nD τ sig (Elt F) Λ₀ .tc) PUnit
  | 0, _ => pure ⟨⟩
  | k + 1, h => do
    step arg4 arg5 arg7 harg7 arg8 harg8 arg14 arg15 harg15 n (by omega)
    steps (n + 1) k (by omega)

/-- The product that gives the 256 rows of block `q` their incoming gradient. -/
def prods (q : Fin 4) : Prog (TpuEff nD τ sig (Elt F) Λ₀ .tc) PUnit := do
  let dy : Vec F S256x1024 .bf16 ← Prog.lift (.load arg12 (Rect.unit (s := S4096x1024) (k0_off2 i (BitVec.ofNat 32 (256 * q.val))) S256x1024.size (k0_off2_inb i q)).toLoadRect (View.loadsAt_vmem h_S256x1024))
  let wd : Vec F S256x1024 .bf16 ← Prog.lift (.load arg6 (Rect.unit (s := S256x1024) ![0, 0] S256x1024.size inb_S256x1024_S256x1024_0_0).toLoadRect (View.loadsAt_vmem h_S256x1024))
  let _ : Vec F S256x256 .f32 ← Prog.lift (.load arg14 (Rect.unit (s := S1024x256) ![256 * q.val, 0] S256x256.size (inb256 q)).toLoadRect (View.loadsAt_vmem h_S256x256))
  Prog.lift (.store arg14 (Rect.unit (s := S1024x256) ![256 * q.val, 0] S256x256.size (inb256 q)) (k0_pay12 dy wd) Finset.univ (View.stores_vmem_bits_univ h_S256x256 rfl) (.inl rfl))

/-- The first row of hidden columns keeps the block's gradient and input rows. -/
def keep : Prog (TpuEff nD τ sig (Elt F) Λ₀ .tc) PUnit := do
  if k0_h1 : k0_cond1 i = 1#1 then do
    let v2062 : Vec F S1024x1024 .f32 ← Prog.lift (.load arg2 (Rect.unit (s := S1024x1024) ![0, 0] S1024x1024.size inb_S1024x1024_S1024x1024_0_0).toLoadRect (View.loadsAt_vmem h_S1024x1024))
    let v2067 : Vec F S1024x1024 .bf16 ← Prog.lift (.load arg12 (Rect.unit (s := S4096x1024) (k0_off1 i) S1024x1024.size (k0_off1_inb i k0_h1)).toLoadRect (View.loadsAt_vmem h_S1024x1024))
    Prog.lift (.store arg12 (Rect.unit (s := S4096x1024) (k0_off1 i) S1024x1024.size (k0_off1_inb i k0_h1)) (k0_pay7 v2062) Finset.univ (View.stores_vmem h_S1024x1024 (harg12.storeExact_slice rfl _ (k0_off1_packedbf16 i k0_h1)) (fun _ => rfl)) (.inl rfl))
    let v2070 : Vec F S1024x1024 .bf16 ← Prog.lift (.load arg3 (Rect.unit (s := S1024x1024) ![0, 0] S1024x1024.size inb_S1024x1024_S1024x1024_0_0).toLoadRect (View.loadsAt_vmem h_S1024x1024))
    let v2072 : Vec F S1024x1024 .bf16 ← Prog.lift (.load arg13 (Rect.unit (s := S4096x1024) (k0_off1 i) S1024x1024.size (k0_off1_inb i k0_h1)).toLoadRect (View.loadsAt_vmem h_S1024x1024))
    Prog.lift (.store arg13 (Rect.unit (s := S4096x1024) (k0_off1 i) S1024x1024.size (k0_off1_inb i k0_h1)) (k0_pay8 v2070) Finset.univ (View.stores_vmem h_S1024x1024 (harg13.storeExact_slice rfl _ (k0_off1_packedbf16 i k0_h1)) (fun _ => rfl)) (.inl rfl))
    pure ⟨⟩
  else do
    pure ⟨⟩

/-- The first row block starts the sums at zero. -/
def clear : Prog (TpuEff nD τ sig (Elt F) Λ₀ .tc) PUnit := do
  let arg1 : BitVec 32 := BitVec.ofNat 32 (i 1).val
  let v5 : BitVec 1 := Scalar.cmpi .eq arg1 0#32
  let v6 : BitVec 32 := Scalar.extui v5
  let v7 : BitVec 1 := Scalar.cmpi .ne v6 0#32
  if k0_h2 : v7 = 1#1 then do
    let v2063 : Vec F S256x1024 .f32 ← Prog.lift (.load arg16 (Rect.unit (s := S256x1024) ![0, 0] S256x1024.size inb_S256x1024_S256x1024_0_0).toLoadRect (View.loadsAt_vmem h_S256x1024))
    Prog.lift (.store arg16 (Rect.unit (s := S256x1024) ![0, 0] S256x1024.size inb_S256x1024_S256x1024_0_0) (k0_pay9 (F := F)) Finset.univ (View.stores_vmem_bits_univ h_S256x1024 rfl) (.inl rfl))
    let v2067 : Vec F S256x1024 .f32 ← Prog.lift (.load arg17 (Rect.unit (s := S256x1024) ![0, 0] S256x1024.size inb_S256x1024_S256x1024_0_0).toLoadRect (View.loadsAt_vmem h_S256x1024))
    Prog.lift (.store arg17 (Rect.unit (s := S256x1024) ![0, 0] S256x1024.size inb_S256x1024_S256x1024_0_0) (k0_pay10 (F := F)) Finset.univ (View.stores_vmem_bits_univ h_S256x1024 rfl) (.inl rfl))
    let v2071 : Vec F S256x1024 .f32 ← Prog.lift (.load arg18 (Rect.unit (s := S256x1024) ![0, 0] S256x1024.size inb_S256x1024_S256x1024_0_0).toLoadRect (View.loadsAt_vmem h_S256x1024))
    Prog.lift (.store arg18 (Rect.unit (s := S256x1024) ![0, 0] S256x1024.size inb_S256x1024_S256x1024_0_0) (k0_pay11 (F := F)) Finset.univ (View.stores_vmem_bits_univ h_S256x1024 rfl) (.inl rfl))
    pure ⟨⟩
  else do
    pure ⟨⟩

/-- The products over the block's own rows, added to the running sums. -/
def gather : Prog (TpuEff nD τ sig (Elt F) Λ₀ .tc) PUnit := do
  let v2033 : Vec F S1024x1024 .bf16 ← Prog.lift (.load arg12 (Rect.unit (s := S4096x1024) (k0_off3 i) S1024x1024.size (k0_off3_inb i)).toLoadRect (View.loadsAt_vmem h_S1024x1024))
  let v2035 : Vec F S1024x1024 .bf16 ← Prog.lift (.load arg13 (Rect.unit (s := S4096x1024) (k0_off3 i) S1024x1024.size (k0_off3_inb i)).toLoadRect (View.loadsAt_vmem h_S1024x1024))
  let v2036 : Vec F S256x1024 .f32 ← Prog.lift (.load arg18 (Rect.unit (s := S256x1024) ![0, 0] S256x1024.size inb_S256x1024_S256x1024_0_0).toLoadRect (View.loadsAt_vmem h_S256x1024))
  let v2037 : Vec F S1024x256 .bf16 ← Prog.lift (.load arg15 (Rect.unit (s := S1024x256) ![0, 0] S1024x256.size inb_S1024x256_S1024x256_0_0).toLoadRect (View.loadsAt_vmem h_S1024x256))
  let v2040 : Vec F S256x1024 .f32 ← Prog.lift (.load arg18 (Rect.unit (s := S256x1024) ![0, 0] S256x1024.size inb_S256x1024_S256x1024_0_0).toLoadRect (View.loadsAt_vmem h_S256x1024))
  Prog.lift (.store arg18 (Rect.unit (s := S256x1024) ![0, 0] S256x1024.size inb_S256x1024_S256x1024_0_0) (k0_pay1 v2033 v2036 v2037) Finset.univ (View.stores_vmem_bits_univ h_S256x1024 rfl) (.inl rfl))
  let v2043 : Vec F S256x1024 .f32 ← Prog.lift (.load arg16 (Rect.unit (s := S256x1024) ![0, 0] S256x1024.size inb_S256x1024_S256x1024_0_0).toLoadRect (View.loadsAt_vmem h_S256x1024))
  let v2044 : Vec F S1024x256 .bf16 ← Prog.lift (.load arg7 (Rect.unit (s := S1024x256) ![0, 0] S1024x256.size inb_S1024x256_S1024x256_0_0).toLoadRect (View.loadsAt_vmem h_S1024x256))
  let v2048 : Vec F S256x1024 .f32 ← Prog.lift (.load arg16 (Rect.unit (s := S256x1024) ![0, 0] S256x1024.size inb_S256x1024_S256x1024_0_0).toLoadRect (View.loadsAt_vmem h_S256x1024))
  Prog.lift (.store arg16 (Rect.unit (s := S256x1024) ![0, 0] S256x1024.size inb_S256x1024_S256x1024_0_0) (k0_pay2 v2035 v2043 v2044) Finset.univ (View.stores_vmem_bits_univ h_S256x1024 rfl) (.inl rfl))
  let v2051 : Vec F S256x1024 .f32 ← Prog.lift (.load arg17 (Rect.unit (s := S256x1024) ![0, 0] S256x1024.size inb_S256x1024_S256x1024_0_0).toLoadRect (View.loadsAt_vmem h_S256x1024))
  let v2052 : Vec F S1024x256 .bf16 ← Prog.lift (.load arg8 (Rect.unit (s := S1024x256) ![0, 0] S1024x256.size inb_S1024x256_S1024x256_0_0).toLoadRect (View.loadsAt_vmem h_S1024x256))
  let v2056 : Vec F S256x1024 .f32 ← Prog.lift (.load arg17 (Rect.unit (s := S256x1024) ![0, 0] S256x1024.size inb_S256x1024_S256x1024_0_0).toLoadRect (View.loadsAt_vmem h_S256x1024))
  Prog.lift (.store arg17 (Rect.unit (s := S256x1024) ![0, 0] S256x1024.size inb_S256x1024_S256x1024_0_0) (k0_pay3 v2035 v2051 v2052) Finset.univ (View.stores_vmem_bits_univ h_S256x1024 rfl) (.inl rfl))

/-- The last row block hands the sums out. -/
def leave : Prog (TpuEff nD τ sig (Elt F) Λ₀ .tc) PUnit := do
  if k0_h3 : k0_cond3 i = 1#1 then do
    let v2062 : Vec F S256x1024 .f32 ← Prog.lift (.load arg16 (Rect.unit (s := S256x1024) ![0, 0] S256x1024.size inb_S256x1024_S256x1024_0_0).toLoadRect (View.loadsAt_vmem h_S256x1024))
    let v2064 : Vec F S256x1024 .bf16 ← Prog.lift (.load arg9 (Rect.unit (s := S256x1024) ![0, 0] S256x1024.size inb_S256x1024_S256x1024_0_0).toLoadRect (View.loadsAt_vmem h_S256x1024))
    Prog.lift (.store arg9 (Rect.unit (s := S256x1024) ![0, 0] S256x1024.size inb_S256x1024_S256x1024_0_0) (k0_pay4 v2062) Finset.univ (View.stores_vmem h_S256x1024 (harg9.storeExact_slice rfl _ packedbf16_S256x1024_S256x1024_0_0) (fun _ => rfl)) (.inl rfl))
    let v2065 : Vec F S256x1024 .f32 ← Prog.lift (.load arg17 (Rect.unit (s := S256x1024) ![0, 0] S256x1024.size inb_S256x1024_S256x1024_0_0).toLoadRect (View.loadsAt_vmem h_S256x1024))
    let v2067 : Vec F S256x1024 .bf16 ← Prog.lift (.load arg10 (Rect.unit (s := S256x1024) ![0, 0] S256x1024.size inb_S256x1024_S256x1024_0_0).toLoadRect (View.loadsAt_vmem h_S256x1024))
    Prog.lift (.store arg10 (Rect.unit (s := S256x1024) ![0, 0] S256x1024.size inb_S256x1024_S256x1024_0_0) (k0_pay5 v2065) Finset.univ (View.stores_vmem h_S256x1024 (harg10.storeExact_slice rfl _ packedbf16_S256x1024_S256x1024_0_0) (fun _ => rfl)) (.inl rfl))
    let v2068 : Vec F S256x1024 .f32 ← Prog.lift (.load arg18 (Rect.unit (s := S256x1024) ![0, 0] S256x1024.size inb_S256x1024_S256x1024_0_0).toLoadRect (View.loadsAt_vmem h_S256x1024))
    let v2070 : Vec F S256x1024 .bf16 ← Prog.lift (.load arg11 (Rect.unit (s := S256x1024) ![0, 0] S256x1024.size inb_S256x1024_S256x1024_0_0).toLoadRect (View.loadsAt_vmem h_S256x1024))
    Prog.lift (.store arg11 (Rect.unit (s := S256x1024) ![0, 0] S256x1024.size inb_S256x1024_S256x1024_0_0) (k0_pay6 v2068) Finset.univ (View.stores_vmem h_S256x1024 (harg11.storeExact_slice rfl _ packedbf16_S256x1024_S256x1024_0_0) (fun _ => rfl)) (.inl rfl))
    pure ⟨⟩
  else do
    pure ⟨⟩
  pure ⟨⟩

/-- The body after its first step's rows are read. -/
def rest (ds : Vec F S16x256 .f32) (b' a1 a2 : FVec F S16x256 .f32) : Prog (TpuEff nD τ sig (Elt F) Λ₀ .tc) PUnit := do
  stepEnd arg7 harg7 arg8 harg8 arg15 harg15 0 (by omega) ds b' a1 a2
  steps arg4 arg5 arg7 harg7 arg8 harg8 arg14 arg15 harg15 1 15 (by omega)
  prods i arg6 arg12 arg14 1
  steps arg4 arg5 arg7 harg7 arg8 harg8 arg14 arg15 harg15 16 16 (by omega)
  prods i arg6 arg12 arg14 2
  steps arg4 arg5 arg7 harg7 arg8 harg8 arg14 arg15 harg15 32 16 (by omega)
  prods i arg6 arg12 arg14 3
  steps arg4 arg5 arg7 harg7 arg8 harg8 arg14 arg15 harg15 48 16 (by omega)
  gather i arg7 arg8 arg12 arg13 arg15 arg16 arg17 arg18
  leave i arg9 harg9 arg10 harg10 arg11 harg11 arg16 arg17 arg18

set_option maxHeartbeats 8000000 in
theorem rest_eq : cc0_ffn_grads (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun r => rest i arg4 arg5 arg6 arg7 harg7 arg8 harg8 arg9 harg9 arg10 harg10 arg11 harg11 arg12 arg13 arg14 arg15 harg15 arg16 arg17 arg18 r.2.2.1 r.2.2.2.1 r.2.2.2.2.1 r.2.2.2.2.2) := by
  unfold cc0_ffn_grads k0_part56
  rw [Prog.bind_assoc]
  refine congrArg (Bind.bind _) (funext fun r => ?_)
  obtain ⟨a1, v1, v18, v24, v31, v32⟩ := r
  rfl

/-- The body's first part: it keeps, clears, forms the first product and reads the first step's rows. -/
theorem part1_eq : k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
    keep i arg2 arg3 arg12 harg12 arg13 harg13
    clear i arg16 arg17 arg18
    prods i arg6 arg12 arg14 0
    let ds : Vec F S16x256 .f32 ← Prog.lift (.load arg14 (Rect.unit (s := S1024x256) ![0, 0] S16x256.size inb_S1024x256_S16x256_0_0).toLoadRect (View.loadsAt_vmem h_S16x256))
    let a : Vec F S16x256 .bf16 ← Prog.lift (.load arg4 (Rect.unit (s := S1024x256) ![0, 0] S16x256.size inb_S1024x256_S16x256_0_0).toLoadRect (View.loadsAt_vmem h_S16x256))
    let b : Vec F S16x256 .bf16 ← Prog.lift (.load arg5 (Rect.unit (s := S1024x256) ![0, 0] S16x256.size inb_S1024x256_S16x256_0_0).toLoadRect (View.loadsAt_vmem h_S16x256))
    pure ⟨BitVec.ofNat 32 (i 1).val, Scalar.muli (BitVec.ofNat 32 (i 1).val) 1024#32, ds, k0_pay14 b, k0_pay15 a, k0_pay16 a⟩) := by
  rw [k0_part1_eq_skeleton]
  unfold k0_part1_skel keep clear
  by_cases h1 : k0_cond1 i = 1#1 <;> by_cases h2 : Scalar.cmpi .ne (Scalar.extui (Scalar.cmpi .eq (BitVec.ofNat 32 (i 1).val) 0#32)) 0#32 = 1#1
  · simp only [dif_pos h1, dif_pos h2]; rfl
  · simp only [dif_pos h1, dif_neg h2]; rfl
  · simp only [dif_neg h1, dif_pos h2]; rfl
  · simp only [dif_neg h1, dif_neg h2]; rfl

/-- The body as its steps. -/
def body : Prog (TpuEff nD τ sig (Elt F) Λ₀ .tc) PUnit := do
  keep i arg2 arg3 arg12 harg12 arg13 harg13
  clear i arg16 arg17 arg18
  prods i arg6 arg12 arg14 0
  steps arg4 arg5 arg7 harg7 arg8 harg8 arg14 arg15 harg15 0 16 (by omega)
  prods i arg6 arg12 arg14 1
  steps arg4 arg5 arg7 harg7 arg8 harg8 arg14 arg15 harg15 16 16 (by omega)
  prods i arg6 arg12 arg14 2
  steps arg4 arg5 arg7 harg7 arg8 harg8 arg14 arg15 harg15 32 16 (by omega)
  prods i arg6 arg12 arg14 3
  steps arg4 arg5 arg7 harg7 arg8 harg8 arg14 arg15 harg15 48 16 (by omega)
  gather i arg7 arg8 arg12 arg13 arg15 arg16 arg17 arg18
  leave i arg9 harg9 arg10 harg10 arg11 harg11 arg16 arg17 arg18

theorem body_eq : cc0_ffn_grads (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    = body i arg2 arg3 arg4 arg5 arg6 arg7 harg7 arg8 harg8 arg9 harg9 arg10 harg10 arg11 harg11 arg12 harg12 arg13 harg13 arg14 arg15 harg15 arg16 arg17 arg18 := by
  rw [rest_eq, part1_eq]
  unfold body
  simp only [Prog.bind_assoc]
  refine congrArg (Bind.bind _) (funext fun _ => congrArg (Bind.bind _) (funext fun _ => ?_))
  rfl

end Program

end Cert.Own.Grad

end
-- ==== Proof.GradRun.lean ====
/- The runs of the pieces of the feed-forward gradient's kernel body, each by what it makes of the blocks it touches. -/
module

public import proofs.«01_k».proof.Proof.GradSteps
public import Idealize.ShloMosaic.Lib.ValueIdxCore

@[expose] public section

set_option maxRecDepth 16384

noncomputable section

namespace Cert.Own.Grad

open Cert.KernelGradIdeal Cert.KernelGradIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Sixteen rows of a block, from row `16 n` on. -/
abbrev win16 {e : EltTy} (x : Vec F S1024x256 e) (n : ℕ) (h : n < 64) : Vec F S16x256 e :=
  VecWindow.window x ![16 * n, 0] S16x256.size (inb16 n h)

/-- The block with sixteen rows put from row `16 n` on. -/
abbrev put16 {e : EltTy} (x : Vec F S1024x256 e) (n : ℕ) (w : Vec F S16x256 e) : Vec F S1024x256 e :=
  VecWindow.put x ![16 * n, 0] S16x256.size w

/-- The body's second condition: the first row block. -/
abbrev first (i : grid0.Coords) : Prop :=
  Scalar.cmpi .ne (Scalar.extui (Scalar.cmpi .eq (BitVec.ofNat 32 (i 1).val) 0#32)) 0#32 = 1#1

/-- The rows kept for later rows of hidden columns. -/
def kept (i : grid0.Coords) (x : Vec F S4096x1024 .bf16) (w : Vec F S1024x1024 .bf16) : Vec F S4096x1024 .bf16 :=
  if k0_cond1 i = 1#1 then VecWindow.put x (k0_off1 i) S1024x1024.size w else x

/-- A running sum as the products find it. -/
def begun (i : grid0.Coords) (x z : Vec F S256x1024 .f32) : Vec F S256x1024 .f32 := if first i then z else x

/-- A result's block as the body leaves it. -/
def left (i : grid0.Coords) (x w : Vec F S256x1024 .bf16) : Vec F S256x1024 .bf16 := if k0_cond3 i = 1#1 then w else x

/-- The rows of sub-block `q` among the kept rows. -/
abbrev rows256 (i : grid0.Coords) (x : Vec F S4096x1024 .bf16) (q : Fin 4) : Vec F S256x1024 .bf16 :=
  VecWindow.window x (k0_off2 i (BitVec.ofNat 32 (256 * q.val))) S256x1024.size (k0_off2_inb i q)

/-- The block's rows among the kept rows. -/
abbrev rows1024 (i : grid0.Coords) (x : Vec F S4096x1024 .bf16) : Vec F S1024x1024 .bf16 :=
  VecWindow.window x (k0_off3 i) S1024x1024.size (k0_off3_inb i)

/-- A block with 256 rows put from row `256 q` on. -/
abbrev put256 (x : Vec F S1024x256 .f32) (q : Fin 4) (w : Vec F S256x256 .f32) : Vec F S1024x256 .f32 :=
  VecWindow.put x ![256 * q.val, 0] S256x256.size w

/-- A block of 1024 rows from its sixteen-row parts. -/
def rows16 {e : EltTy} (f : (n : ℕ) → n < 64 → Vec F S16x256 e) : Vec F S1024x256 e := fun y =>
  have h : (y 0).val < 1024 := (y 0).isLt
  f ((y 0).val / 16) (by omega) (ix2 ⟨(y 0).val % 16, Nat.mod_lt _ (by decide)⟩ (y 1))

/-- A block whose first `16 n` rows are those of `X`. -/
def upto {e : EltTy} (n : ℕ) (X x : Vec F S1024x256 e) : Vec F S1024x256 e := fun y => if (y 0).val < 16 * n then X y else x y

theorem upto_zero {e : EltTy} (X x : Vec F S1024x256 e) : upto 0 X x = x := funext fun y => if_neg (by omega)

theorem upto_all {e : EltTy} (X x : Vec F S1024x256 e) : upto 64 X x = X := funext fun y => if_pos (y 0).isLt

theorem put16_upto {e : EltTy} (f : (n : ℕ) → n < 64 → Vec F S16x256 e) (x : Vec F S1024x256 e) (n : ℕ) (h : n < 64) :
    put16 (upto n (rows16 f) x) n (f n h) = upto (n + 1) (rows16 f) x := by
  funext y
  have h0 : (y 0).val < 1024 := (y 0).isLt
  have h1 : (y 1).val < 256 := (y 1).isLt
  unfold put16 VecWindow.put upto
  by_cases hy : 16 * n ≤ (y 0).val ∧ (y 0).val < 16 * n + 16
  · rw [dif_pos (by
      intro a
      match a with
      | ⟨0, _⟩ => exact hy
      | ⟨1, _⟩ => exact ⟨Nat.zero_le _, by show (y 1).val < 0 + 256; omega⟩), if_pos (by omega)]
    unfold rows16
    have hn : (y 0).val / 16 = n := by omega
    subst hn
    refine congrArg (f _ _) (funext fun a => Fin.ext ?_)
    match a with
    | ⟨0, _⟩ => show (y 0).val - 16 * ((y 0).val / 16) = (y 0).val % 16; omega
    | ⟨1, _⟩ => show (y 1).val - 0 = (y 1).val; omega
  · rw [dif_neg fun h' => hy (h' 0)]
    by_cases hl : (y 0).val < 16 * n
    · rw [if_pos hl, if_pos (by omega)]
    · rw [if_neg hl, if_neg (by omega)]

/-- The gated value of sixteen rows of a block. -/
def gatedRows (a b : Vec F S1024x256 .bf16) (n : ℕ) (h : n < 64) : Vec F S16x256 .bf16 :=
  k0_pay17 (k0_pay14 (win16 b n h)) (k0_pay16 (win16 a n h))

/-- The gate's gradient of sixteen rows of a block. -/
def gateRows (D : Vec F S1024x256 .f32) (a b : Vec F S1024x256 .bf16) (n : ℕ) (h : n < 64) : Vec F S16x256 .bf16 :=
  k0_pay18 (win16 D n h) (k0_pay14 (win16 b n h)) (k0_pay15 (win16 a n h)) (k0_pay16 (win16 a n h))

/-- The linear half's gradient of sixteen rows of a block. -/
def linRows (D : Vec F S1024x256 .f32) (a : Vec F S1024x256 .bf16) (n : ℕ) (h : n < 64) : Vec F S16x256 .bf16 :=
  k0_pay19 (win16 D n h) (k0_pay16 (win16 a n h))

/-- The gated value of a block. -/
def gated (a b : Vec F S1024x256 .bf16) : Vec F S1024x256 .bf16 := rows16 (gatedRows a b)

/-- The gate's gradient of a block, the incoming gradient at `D`. -/
def gateGrad (D : Vec F S1024x256 .f32) (a b : Vec F S1024x256 .bf16) : Vec F S1024x256 .bf16 := rows16 (gateRows D a b)

/-- The linear half's gradient of a block, the incoming gradient at `D`. -/
def linGrad (D : Vec F S1024x256 .f32) (a : Vec F S1024x256 .bf16) : Vec F S1024x256 .bf16 := rows16 (linRows D a)

/-- The incoming gradient of a block from its four products. -/
def incoming (P : Fin 4 → Vec F S256x256 .f32) : Vec F S1024x256 .f32 := fun y =>
  have h : (y 0).val < 1024 := (y 0).isLt
  P ⟨(y 0).val / 256, by omega⟩ (ix2 ⟨(y 0).val % 256, Nat.mod_lt _ (by decide)⟩ (y 1))

/-- The four products of a block's incoming gradient. -/
def products (i : grid0.Coords) (x2 : Vec F S1024x1024 .f32) (x6 : Vec F S256x1024 .bf16) (x12 : Vec F S4096x1024 .bf16) (q : Fin 4) : Vec F S256x256 .f32 :=
  k0_pay12 (rows256 i (kept i x12 (k0_pay7 x2)) q) x6

theorem win16_put256 (P : Fin 4 → Vec F S256x256 .f32) (x : Vec F S1024x256 .f32) (q : Fin 4) (n : ℕ) (h : n < 64) (hl : 16 * q.val ≤ n) (hu : n < 16 * q.val + 16) :
    win16 (put256 x q (P q)) n h = win16 (incoming P) n h := by
  funext y
  have h0 : (y 0).val < 16 := (y 0).isLt
  have h1 : (y 1).val < 256 := (y 1).isLt
  show put256 x q (P q) ((Rect.unit (s := S1024x256) ![16 * n, 0] S16x256.size (inb16 n h)).emb y) = incoming P ((Rect.unit (s := S1024x256) ![16 * n, 0] S16x256.size (inb16 n h)).emb y)
  have e0 : ((Rect.unit (s := S1024x256) ![16 * n, 0] S16x256.size (inb16 n h)).emb y 0).val = 16 * n + 1 * (y 0).val := rfl
  have e1 : ((Rect.unit (s := S1024x256) ![16 * n, 0] S16x256.size (inb16 n h)).emb y 1).val = 0 + 1 * (y 1).val := rfl
  generalize (Rect.unit (s := S1024x256) ![16 * n, 0] S16x256.size (inb16 n h)).emb y = z at e0 e1 ⊢
  unfold put256 VecWindow.put incoming
  rw [dif_pos (by
    intro a
    match a with
    | ⟨0, _⟩ => exact ⟨by show 256 * q.val ≤ (z 0).val; omega, by show (z 0).val < 256 * q.val + 256; omega⟩
    | ⟨1, _⟩ => exact ⟨Nat.zero_le _, by show (z 1).val < 0 + 256; omega⟩)]
  have hq : (z 0).val / 256 = q.val := by omega
  have : ∀ (r : Fin 4) (w : S256x256.Idx), r = q → (∀ a, (w a).val = ((Rect.unitLocal (s := S1024x256) (off := ![256 * q.val, 0]) (size := S256x256.size) z (by
    intro a
    match a with
    | ⟨0, _⟩ => exact ⟨by show 256 * q.val ≤ (z 0).val; omega, by show (z 0).val < 256 * q.val + 256; omega⟩
    | ⟨1, _⟩ => exact ⟨Nat.zero_le _, by show (z 1).val < 0 + 256; omega⟩)) a).val) → P q (Rect.unitLocal (s := S1024x256) (off := ![256 * q.val, 0]) (size := S256x256.size) z (by
    intro a
    match a with
    | ⟨0, _⟩ => exact ⟨by show 256 * q.val ≤ (z 0).val; omega, by show (z 0).val < 256 * q.val + 256; omega⟩
    | ⟨1, _⟩ => exact ⟨Nat.zero_le _, by show (z 1).val < 0 + 256; omega⟩)) = P r w := by
    intro r w hr hw
    subst hr
    exact congrArg (P _) (funext fun a => Fin.ext (hw a).symm)
  refine this _ _ (Fin.ext hq) fun a => ?_
  match a with
  | ⟨0, _⟩ => show (z 0).val % 256 = (z 0).val - 256 * q.val; omega
  | ⟨1, _⟩ => show (z 1).val = (z 1).val - 0; omega

section Run

variable (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S4096x1024 .bf16) (harg12 : arg12.IsWhole) (arg13 : Memref sig .tc .vmem S4096x1024 .bf16) (harg13 : arg13.IsWhole) (arg14 : Memref sig .tc .vmem S1024x256 .f32) (harg14 : arg14.IsWhole) (arg15 : Memref sig .tc .vmem S1024x256 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole)

theorem step_run (n : ℕ) (h : n < 64) (x14 : Vec F S1024x256 .f32) (x4 x5 x15 x7 x8 : Vec F S1024x256 .bf16) (E : Set ℕ) (K : PUnit → sProp 𝕄) :
    iprop(owns (c : Thread nD τ) arg14 fullShare x14 ∗ owns (c : Thread nD τ) arg4 fullShare x4 ∗ owns (c : Thread nD τ) arg5 fullShare x5
        ∗ owns (c : Thread nD τ) arg15 fullShare x15 ∗ owns (c : Thread nD τ) arg7 fullShare x7 ∗ owns (c : Thread nD τ) arg8 fullShare x8
        ∗ (iprop(owns (c : Thread nD τ) arg14 fullShare x14 ∗ owns (c : Thread nD τ) arg4 fullShare x4 ∗ owns (c : Thread nD τ) arg5 fullShare x5
          ∗ owns (c : Thread nD τ) arg15 fullShare (put16 x15 n (k0_pay17 (k0_pay14 (win16 x5 n h)) (k0_pay16 (win16 x4 n h))))
          ∗ owns (c : Thread nD τ) arg7 fullShare (put16 x7 n (k0_pay18 (win16 x14 n h) (k0_pay14 (win16 x5 n h)) (k0_pay15 (win16 x4 n h)) (k0_pay16 (win16 x4 n h))))
          ∗ owns (c : Thread nD τ) arg8 fullShare (put16 x8 n (k0_pay19 (win16 x14 n h) (k0_pay16 (win16 x4 n h))))) -∗ K ⟨⟩))
      ⊢ wp frame (wpE (defs₀ (F := F)) Variants.none c none) E (step arg4 arg5 arg7 harg7 arg8 harg8 arg14 arg15 harg15 n h) K := by
  unfold step stepEnd owns
  iintro ⟨⟨%f14, %h14, H14⟩, ⟨%f4, %h4, H4⟩, ⟨%f5, %h5, H5⟩, ⟨%f15, %h15, H15⟩, ⟨%f7, %h7, H7⟩, ⟨%f8, %h8, H8⟩, Hk⟩
  sl_exec
  sl_step
  iapply Hk
  subst h14 h4 h5 h15 h7 h8
  isplitl [H14]; · iexists _; isplitr; swap; · iexact H14
                   ipureintro; rfl
  isplitl [H4]; · iexists _; isplitr; swap; · iexact H4
                  ipureintro; rfl
  isplitl [H5]; · iexists _; isplitr; swap; · iexact H5
                  ipureintro; rfl
  isplitl [H15]
  · iexists _; isplitr; swap; · iexact H15
    ipureintro
    exact (View.read_writes_cons_put _ _ _ _ _ rfl)
  isplitl [H7]
  · iexists _; isplitr; swap; · iexact H7
    ipureintro
    exact (View.read_writes_cons_put _ _ _ _ _ rfl)
  iexists _; isplitr; swap; · iexact H8
  ipureintro
  exact (View.read_writes_cons_put _ _ _ _ _ rfl)

/-- The first row of hidden columns keeps its rows. -/
theorem keep_run (x2 : Vec F S1024x1024 .f32) (x3 : Vec F S1024x1024 .bf16) (x12 x13 : Vec F S4096x1024 .bf16) (E : Set ℕ) (K : PUnit → sProp 𝕄) :
    iprop(owns (c : Thread nD τ) arg2 fullShare x2 ∗ owns (c : Thread nD τ) arg3 fullShare x3 ∗ owns (c : Thread nD τ) arg12 fullShare x12 ∗ owns (c : Thread nD τ) arg13 fullShare x13
        ∗ (iprop(owns (c : Thread nD τ) arg2 fullShare x2 ∗ owns (c : Thread nD τ) arg3 fullShare x3 ∗ owns (c : Thread nD τ) arg12 fullShare (kept i x12 (k0_pay7 x2)) ∗ owns (c : Thread nD τ) arg13 fullShare (kept i x13 (k0_pay8 x3))) -∗ K ⟨⟩))
      ⊢ wp frame (wpE (defs₀ (F := F)) Variants.none c none) E (keep i arg2 arg3 arg12 harg12 arg13 harg13) K := by
  unfold keep kept owns
  iintro ⟨⟨%f2, %h2, H2⟩, ⟨%f3, %h3, H3⟩, ⟨%f12, %h12, H12⟩, ⟨%f13, %h13, H13⟩, Hk⟩
  subst h2 h3 h12 h13
  by_cases hc : k0_cond1 i = 1#1
  · sl_exec (disch := first | sl_exact hc)
    sl_step
    iapply Hk
    isplitl [H2]
    · iexists _; isplitr; swap; · iexact H2
      ipureintro; rfl
    isplitl [H3]
    · iexists _; isplitr; swap; · iexact H3
      ipureintro; rfl
    isplitl [H12]
    · iexists _; isplitr; swap; · iexact H12
      ipureintro; rw [if_pos hc]; refine (View.read_writes_cons_put _ _ _ _ _ rfl).trans ?_; exact congrArg (fun w => VecWindow.put (arg12.view.read (Elt F) f12) (k0_off1 i) S1024x1024.size (k0_pay7 w)) (View.readAt_full _ _ _)
    iexists _; isplitr; swap; · iexact H13
    ipureintro; rw [if_pos hc]; refine (View.read_writes_cons_put _ _ _ _ _ rfl).trans ?_; exact congrArg (fun w => VecWindow.put (arg13.view.read (Elt F) f13) (k0_off1 i) S1024x1024.size (k0_pay8 w)) (View.readAt_full _ _ _)
  · sl_exec (disch := first | sl_exact hc)
    sl_step
    iapply Hk
    isplitl [H2]
    · iexists _; isplitr; swap; · iexact H2
      ipureintro; rfl
    isplitl [H3]
    · iexists _; isplitr; swap; · iexact H3
      ipureintro; rfl
    isplitl [H12]
    · iexists _; isplitr; swap; · iexact H12
      ipureintro; rw [if_neg hc]
    iexists _; isplitr; swap; · iexact H13
    ipureintro; rw [if_neg hc]

/-- The first row block starts the sums at zero. -/
theorem clear_run (x16 x17 x18 : Vec F S256x1024 .f32) (E : Set ℕ) (K : PUnit → sProp 𝕄) :
    iprop(owns (c : Thread nD τ) arg16 fullShare x16 ∗ owns (c : Thread nD τ) arg17 fullShare x17 ∗ owns (c : Thread nD τ) arg18 fullShare x18
        ∗ (iprop(owns (c : Thread nD τ) arg16 fullShare (begun i x16 (k0_pay9 (F := F))) ∗ owns (c : Thread nD τ) arg17 fullShare (begun i x17 (k0_pay10 (F := F))) ∗ owns (c : Thread nD τ) arg18 fullShare (begun i x18 (k0_pay11 (F := F)))) -∗ K ⟨⟩))
      ⊢ wp frame (wpE (defs₀ (F := F)) Variants.none c none) E (clear i arg16 arg17 arg18) K := by
  unfold clear begun owns
  iintro ⟨⟨%f16, %h16, H16⟩, ⟨%f17, %h17, H17⟩, ⟨%f18, %h18, H18⟩, Hk⟩
  subst h16 h17 h18
  by_cases hc : first i
  · sl_exec (disch := first | sl_exact hc)
    sl_step
    iapply Hk
    isplitl [H16]
    · iexists _; isplitr; swap; · iexact H16
      ipureintro; rw [if_pos hc]; exact View.read_writes_full _ _ _ _ _
    isplitl [H17]
    · iexists _; isplitr; swap; · iexact H17
      ipureintro; rw [if_pos hc]; exact View.read_writes_full _ _ _ _ _
    iexists _; isplitr; swap; · iexact H18
    ipureintro; rw [if_pos hc]; exact View.read_writes_full _ _ _ _ _
  · sl_exec (disch := first | sl_exact hc)
    sl_step
    iapply Hk
    isplitl [H16]
    · iexists _; isplitr; swap; · iexact H16
      ipureintro; rw [if_neg hc]
    isplitl [H17]
    · iexists _; isplitr; swap; · iexact H17
      ipureintro; rw [if_neg hc]
    iexists _; isplitr; swap; · iexact H18
    ipureintro; rw [if_neg hc]

/-- A product of 256 rows. -/
theorem prods_run (q : Fin 4) (x6 : Vec F S256x1024 .bf16) (x12 : Vec F S4096x1024 .bf16) (x14 : Vec F S1024x256 .f32) (E : Set ℕ) (K : PUnit → sProp 𝕄) :
    iprop(owns (c : Thread nD τ) arg6 fullShare x6 ∗ owns (c : Thread nD τ) arg12 fullShare x12 ∗ owns (c : Thread nD τ) arg14 fullShare x14
        ∗ (iprop(owns (c : Thread nD τ) arg6 fullShare x6 ∗ owns (c : Thread nD τ) arg12 fullShare x12 ∗ owns (c : Thread nD τ) arg14 fullShare (put256 x14 q (k0_pay12 (rows256 i x12 q) x6))) -∗ K ⟨⟩))
      ⊢ wp frame (wpE (defs₀ (F := F)) Variants.none c none) E (prods i arg6 arg12 arg14 q) K := by
  unfold prods owns
  iintro ⟨⟨%f6, %h6, H6⟩, ⟨%f12, %h12, H12⟩, ⟨%f14, %h14, H14⟩, Hk⟩
  subst h6 h12 h14
  sl_exec
  sl_step
  iapply Hk
  isplitl [H6]
  · iexists _; isplitr; swap; · iexact H6
    ipureintro; rfl
  isplitl [H12]
  · iexists _; isplitr; swap; · iexact H12
    ipureintro; rfl
  iexists _; isplitr; swap; · iexact H14
  ipureintro; refine (View.read_writes_cons_put _ _ _ _ _ rfl).trans ?_; exact congrArg (fun w => put256 _ q (k0_pay12 _ w)) (View.readAt_full _ _ _)

/-- The products over the block's rows join the sums. -/
theorem gather_run (x12 x13 : Vec F S4096x1024 .bf16) (x7 x8 x15 : Vec F S1024x256 .bf16) (x16 x17 x18 : Vec F S256x1024 .f32) (E : Set ℕ) (K : PUnit → sProp 𝕄) :
    iprop(owns (c : Thread nD τ) arg7 fullShare x7 ∗ owns (c : Thread nD τ) arg8 fullShare x8 ∗ owns (c : Thread nD τ) arg12 fullShare x12 ∗ owns (c : Thread nD τ) arg13 fullShare x13 ∗ owns (c : Thread nD τ) arg15 fullShare x15 ∗ owns (c : Thread nD τ) arg16 fullShare x16 ∗ owns (c : Thread nD τ) arg17 fullShare x17 ∗ owns (c : Thread nD τ) arg18 fullShare x18
        ∗ (iprop(owns (c : Thread nD τ) arg7 fullShare x7 ∗ owns (c : Thread nD τ) arg8 fullShare x8 ∗ owns (c : Thread nD τ) arg12 fullShare x12 ∗ owns (c : Thread nD τ) arg13 fullShare x13 ∗ owns (c : Thread nD τ) arg15 fullShare x15 ∗ owns (c : Thread nD τ) arg16 fullShare (k0_pay2 (rows1024 i x13) x16 x7) ∗ owns (c : Thread nD τ) arg17 fullShare (k0_pay3 (rows1024 i x13) x17 x8) ∗ owns (c : Thread nD τ) arg18 fullShare (k0_pay1 (rows1024 i x12) x18 x15)) -∗ K ⟨⟩))
      ⊢ wp frame (wpE (defs₀ (F := F)) Variants.none c none) E (gather i arg7 arg8 arg12 arg13 arg15 arg16 arg17 arg18) K := by
  unfold gather owns
  iintro ⟨⟨%f7, %h7, H7⟩, ⟨%f8, %h8, H8⟩, ⟨%f12, %h12, H12⟩, ⟨%f13, %h13, H13⟩, ⟨%f15, %h15, H15⟩, ⟨%f16, %h16, H16⟩, ⟨%f17, %h17, H17⟩, ⟨%f18, %h18, H18⟩, Hk⟩
  subst h7 h8 h12 h13 h15 h16 h17 h18
  sl_exec
  sl_step
  iapply Hk
  isplitl [H7]
  · iexists _; isplitr; swap; · iexact H7
    ipureintro; rfl
  isplitl [H8]
  · iexists _; isplitr; swap; · iexact H8
    ipureintro; rfl
  isplitl [H12]
  · iexists _; isplitr; swap; · iexact H12
    ipureintro; rfl
  isplitl [H13]
  · iexists _; isplitr; swap; · iexact H13
    ipureintro; rfl
  isplitl [H15]
  · iexists _; isplitr; swap; · iexact H15
    ipureintro; rfl
  isplitl [H16]
  · iexists _; isplitr; swap; · iexact H16
    ipureintro; refine (View.read_writes_full _ _ _ _ _).trans ?_; exact congrArg₂ (k0_pay2 _) (View.readAt_full _ _ _) (View.readAt_full _ _ _)
  isplitl [H17]
  · iexists _; isplitr; swap; · iexact H17
    ipureintro; refine (View.read_writes_full _ _ _ _ _).trans ?_; exact congrArg₂ (k0_pay3 _) (View.readAt_full _ _ _) (View.readAt_full _ _ _)
  iexists _; isplitr; swap; · iexact H18
  ipureintro; refine (View.read_writes_full _ _ _ _ _).trans ?_; exact congrArg₂ (k0_pay1 _) (View.readAt_full _ _ _) (View.readAt_full _ _ _)

/-- The last row block hands the sums out. -/
theorem leave_run (x9 x10 x11 : Vec F S256x1024 .bf16) (x16 x17 x18 : Vec F S256x1024 .f32) (E : Set ℕ) (K : PUnit → sProp 𝕄) :
    iprop(owns (c : Thread nD τ) arg9 fullShare x9 ∗ owns (c : Thread nD τ) arg10 fullShare x10 ∗ owns (c : Thread nD τ) arg11 fullShare x11 ∗ owns (c : Thread nD τ) arg16 fullShare x16 ∗ owns (c : Thread nD τ) arg17 fullShare x17 ∗ owns (c : Thread nD τ) arg18 fullShare x18
        ∗ (iprop(owns (c : Thread nD τ) arg9 fullShare (left i x9 (k0_pay4 x16)) ∗ owns (c : Thread nD τ) arg10 fullShare (left i x10 (k0_pay5 x17)) ∗ owns (c : Thread nD τ) arg11 fullShare (left i x11 (k0_pay6 x18)) ∗ owns (c : Thread nD τ) arg16 fullShare x16 ∗ owns (c : Thread nD τ) arg17 fullShare x17 ∗ owns (c : Thread nD τ) arg18 fullShare x18) -∗ K ⟨⟩))
      ⊢ wp frame (wpE (defs₀ (F := F)) Variants.none c none) E (leave i arg9 harg9 arg10 harg10 arg11 harg11 arg16 arg17 arg18) K := by
  unfold leave left owns
  iintro ⟨⟨%f9, %h9, H9⟩, ⟨%f10, %h10, H10⟩, ⟨%f11, %h11, H11⟩, ⟨%f16, %h16, H16⟩, ⟨%f17, %h17, H17⟩, ⟨%f18, %h18, H18⟩, Hk⟩
  subst h9 h10 h11 h16 h17 h18
  by_cases hc : k0_cond3 i = 1#1
  · sl_exec (disch := first | sl_exact hc)
    sl_step
    iapply Hk
    isplitl [H9]
    · iexists _; isplitr; swap; · iexact H9
      ipureintro; rw [if_pos hc]; refine (View.read_writes_full _ _ _ _ _).trans ?_; exact congrArg _ (View.readAt_full _ _ _)
    isplitl [H10]
    · iexists _; isplitr; swap; · iexact H10
      ipureintro; rw [if_pos hc]; refine (View.read_writes_full _ _ _ _ _).trans ?_; exact congrArg _ (View.readAt_full _ _ _)
    isplitl [H11]
    · iexists _; isplitr; swap; · iexact H11
      ipureintro; rw [if_pos hc]; refine (View.read_writes_full _ _ _ _ _).trans ?_; exact congrArg _ (View.readAt_full _ _ _)
    isplitl [H16]
    · iexists _; isplitr; swap; · iexact H16
      ipureintro; rfl
    isplitl [H17]
    · iexists _; isplitr; swap; · iexact H17
      ipureintro; rfl
    iexists _; isplitr; swap; · iexact H18
    ipureintro; rfl
  · sl_exec (disch := first | sl_exact hc)
    sl_step
    iapply Hk
    isplitl [H9]
    · iexists _; isplitr; swap; · iexact H9
      ipureintro; rw [if_neg hc]
    isplitl [H10]
    · iexists _; isplitr; swap; · iexact H10
      ipureintro; rw [if_neg hc]
    isplitl [H11]
    · iexists _; isplitr; swap; · iexact H11
      ipureintro; rw [if_neg hc]
    isplitl [H16]
    · iexists _; isplitr; swap; · iexact H16
      ipureintro; rfl
    isplitl [H17]
    · iexists _; isplitr; swap; · iexact H17
      ipureintro; rfl
    iexists _; isplitr; swap; · iexact H18
    ipureintro; rfl

/-- The steps fill the three blocks they write, sixteen rows at a time. -/
theorem steps_run (D x14 : Vec F S1024x256 .f32) (x4 x5 x15 x7 x8 : Vec F S1024x256 .bf16) (E : Set ℕ) (K : PUnit → sProp 𝕄) (k : ℕ) :
    ∀ (n : ℕ) (h : n + k ≤ 64) (_ : ∀ (l : ℕ) (hl : l < 64), n ≤ l → l < n + k → win16 x14 l hl = win16 D l hl),
    iprop(owns (c : Thread nD τ) arg14 fullShare x14 ∗ owns (c : Thread nD τ) arg4 fullShare x4 ∗ owns (c : Thread nD τ) arg5 fullShare x5 ∗ owns (c : Thread nD τ) arg15 fullShare (upto n (gated x4 x5) x15) ∗ owns (c : Thread nD τ) arg7 fullShare (upto n (gateGrad D x4 x5) x7) ∗ owns (c : Thread nD τ) arg8 fullShare (upto n (linGrad D x4) x8)
        ∗ (iprop(owns (c : Thread nD τ) arg14 fullShare x14 ∗ owns (c : Thread nD τ) arg4 fullShare x4 ∗ owns (c : Thread nD τ) arg5 fullShare x5 ∗ owns (c : Thread nD τ) arg15 fullShare (upto (n + k) (gated x4 x5) x15) ∗ owns (c : Thread nD τ) arg7 fullShare (upto (n + k) (gateGrad D x4 x5) x7) ∗ owns (c : Thread nD τ) arg8 fullShare (upto (n + k) (linGrad D x4) x8)) -∗ K ⟨⟩))
      ⊢ wp frame (wpE (defs₀ (F := F)) Variants.none c none) E (steps arg4 arg5 arg7 harg7 arg8 harg8 arg14 arg15 harg15 n k h) K := by
  induction k with
  | zero =>
    intro n h _
    unfold steps
    iintro ⟨H14, H4, H5, H15, H7, H8, Hk⟩
    sl_step
    iapply Hk
    isplitl [H14]; · iexact H14
    isplitl [H4]; · iexact H4
    isplitl [H5]; · iexact H5
    isplitl [H15]; · iexact H15
    isplitl [H7]; · iexact H7
    iexact H8
  | succ k ih =>
    intro n h hD
    unfold steps
    rw [wp_bind]
    iintro ⟨H14, H4, H5, H15, H7, H8, Hk⟩
    iapply (step_run c arg4 arg5 arg7 harg7 arg8 harg8 arg14 arg15 harg15 n _ x14 x4 x5 _ _ _ E _)
    isplitl [H14]; · iexact H14
    isplitl [H4]; · iexact H4
    isplitl [H5]; · iexact H5
    isplitl [H15]; · iexact H15
    isplitl [H7]; · iexact H7
    isplitl [H8]; · iexact H8
    iintro ⟨H14, H4, H5, H15, H7, H8⟩
    have hn : n < 64 := by omega
    rw [hD n hn (Nat.le_refl n) (by omega)]
    have e15 : put16 (upto n (gated x4 x5) x15) n (k0_pay17 (k0_pay14 (win16 x5 n hn)) (k0_pay16 (win16 x4 n hn))) = upto (n + 1) (gated x4 x5) x15 :=
      put16_upto (gatedRows x4 x5) x15 n hn
    have e7 : put16 (upto n (gateGrad D x4 x5) x7) n (k0_pay18 (win16 D n hn) (k0_pay14 (win16 x5 n hn)) (k0_pay15 (win16 x4 n hn)) (k0_pay16 (win16 x4 n hn))) = upto (n + 1) (gateGrad D x4 x5) x7 :=
      put16_upto (gateRows D x4 x5) x7 n hn
    have e8 : put16 (upto n (linGrad D x4) x8) n (k0_pay19 (win16 D n hn) (k0_pay16 (win16 x4 n hn))) = upto (n + 1) (linGrad D x4) x8 :=
      put16_upto (linRows D x4) x8 n hn
    rw [e15, e7, e8]
    iapply (ih (n + 1) _ fun l hl h1 h2 => hD l hl (by omega) (by omega))
    isplitl [H14]; · iexact H14
    isplitl [H4]; · iexact H4
    isplitl [H5]; · iexact H5
    isplitl [H15]; · iexact H15
    isplitl [H7]; · iexact H7
    isplitl [H8]; · iexact H8
    rw [show n + 1 + k = n + (k + 1) by omega]
    iexact Hk

/-- The body's run: what it leaves in every block, whatever the two results written row by row and the two scratch blocks it fills held. -/
theorem body_run (x2 : Vec F S1024x1024 .f32) (x3 : Vec F S1024x1024 .bf16) (x4 x5 : Vec F S1024x256 .bf16) (x6 x9 x10 x11 : Vec F S256x1024 .bf16)
    (x12 x13 : Vec F S4096x1024 .bf16) (x16 x17 x18 : Vec F S256x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ owns (c : Thread nD τ) arg16 fullShare x16 ∗ owns (c : Thread nD τ) arg17 fullShare x17 ∗ owns (c : Thread nD τ) arg18 fullShare x18
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (gateGrad (incoming (products i x2 x6 x12)) x4 x5) ∗ owns (c : Thread nD τ) arg8 fullShare (linGrad (incoming (products i x2 x6 x12)) x4) ∗ owns (c : Thread nD τ) arg9 fullShare (left i x9 (k0_pay4 (k0_pay2 (rows1024 i (kept i x13 (k0_pay8 x3))) (begun i x16 (k0_pay9 (F := F))) (gateGrad (incoming (products i x2 x6 x12)) x4 x5)))) ∗ owns (c : Thread nD τ) arg10 fullShare (left i x10 (k0_pay5 (k0_pay3 (rows1024 i (kept i x13 (k0_pay8 x3))) (begun i x17 (k0_pay10 (F := F))) (linGrad (incoming (products i x2 x6 x12)) x4)))) ∗ owns (c : Thread nD τ) arg11 fullShare (left i x11 (k0_pay6 (k0_pay1 (rows1024 i (kept i x12 (k0_pay7 x2))) (begun i x18 (k0_pay11 (F := F))) (gated x4 x5)))) ∗ owns (c : Thread nD τ) arg12 fullShare (kept i x12 (k0_pay7 x2)) ∗ owns (c : Thread nD τ) arg13 fullShare (kept i x13 (k0_pay8 x3)) ∗ (∃ d, owns (c : Thread nD τ) arg14 fullShare d) ∗ (∃ d, owns (c : Thread nD τ) arg15 fullShare d) ∗ owns (c : Thread nD τ) arg16 fullShare (k0_pay2 (rows1024 i (kept i x13 (k0_pay8 x3))) (begun i x16 (k0_pay9 (F := F))) (gateGrad (incoming (products i x2 x6 x12)) x4 x5)) ∗ owns (c : Thread nD τ) arg17 fullShare (k0_pay3 (rows1024 i (kept i x13 (k0_pay8 x3))) (begun i x17 (k0_pay10 (F := F))) (linGrad (incoming (products i x2 x6 x12)) x4)) ∗ owns (c : Thread nD τ) arg18 fullShare (k0_pay1 (rows1024 i (kept i x12 (k0_pay7 x2))) (begun i x18 (k0_pay11 (F := F))) (gated x4 x5))) -∗ K ⟨⟩))
      ⊢ wp frame (wpE (defs₀ (F := F)) Variants.none c none) E (body i arg2 arg3 arg4 arg5 arg6 arg7 harg7 arg8 harg8 arg9 harg9 arg10 harg10 arg11 harg11 arg12 harg12 arg13 harg13 arg14 arg15 harg15 arg16 arg17 arg18) K := by
  unfold body
  simp only [wp_bind]
  iintro ⟨H2, H3, H4, H5, H6, ⟨%d7, H7⟩, ⟨%d8, H8⟩, H9, H10, H11, H12, H13, ⟨%d14, H14⟩, ⟨%d15, H15⟩, H16, H17, H18, Hk⟩
  iapply (keep_run c i arg2 arg3 arg12 harg12 arg13 harg13 x2 x3 x12 x13 E _)
  isplitl [H2]; · iexact H2
  isplitl [H3]; · iexact H3
  isplitl [H12]; · iexact H12
  isplitl [H13]; · iexact H13
  iintro ⟨H2, H3, H12, H13⟩
  iapply (clear_run c i arg16 arg17 arg18 x16 x17 x18 E _)
  isplitl [H16]; · iexact H16
  isplitl [H17]; · iexact H17
  isplitl [H18]; · iexact H18
  iintro ⟨H16, H17, H18⟩
  iapply (prods_run c i arg6 arg12 arg14 0 x6 _ _ E _)
  isplitl [H6]; · iexact H6
  isplitl [H12]; · iexact H12
  isplitl [H14]; · iexact H14
  iintro ⟨H6, H12, H14⟩
  iapply (steps_run c arg4 arg5 arg7 harg7 arg8 harg8 arg14 arg15 harg15 (incoming (products i x2 x6 x12)) _ x4 x5 d15 d7 d8 E _ 16 0 _ fun l hl h1 h2 => win16_put256 (products i x2 x6 x12) _ 0 l hl (by show 16 * 0 ≤ l; omega) (by show l < 16 * 0 + 16; omega))
  isplitl [H14]; · iexact H14
  isplitl [H4]; · iexact H4
  isplitl [H5]; · iexact H5
  isplitl [H15]; · rw [upto_zero]; iexact H15
  isplitl [H7]; · rw [upto_zero]; iexact H7
  isplitl [H8]; · rw [upto_zero]; iexact H8
  iintro ⟨H14, H4, H5, H15, H7, H8⟩
  iapply (prods_run c i arg6 arg12 arg14 1 x6 _ _ E _)
  isplitl [H6]; · iexact H6
  isplitl [H12]; · iexact H12
  isplitl [H14]; · iexact H14
  iintro ⟨H6, H12, H14⟩
  iapply (steps_run c arg4 arg5 arg7 harg7 arg8 harg8 arg14 arg15 harg15 (incoming (products i x2 x6 x12)) _ x4 x5 d15 d7 d8 E _ 16 16 _ fun l hl h1 h2 => win16_put256 (products i x2 x6 x12) _ 1 l hl (by show 16 * 1 ≤ l; omega) (by show l < 16 * 1 + 16; omega))
  isplitl [H14]; · iexact H14
  isplitl [H4]; · iexact H4
  isplitl [H5]; · iexact H5
  isplitl [H15]; · iexact H15
  isplitl [H7]; · iexact H7
  isplitl [H8]; · iexact H8
  iintro ⟨H14, H4, H5, H15, H7, H8⟩
  iapply (prods_run c i arg6 arg12 arg14 2 x6 _ _ E _)
  isplitl [H6]; · iexact H6
  isplitl [H12]; · iexact H12
  isplitl [H14]; · iexact H14
  iintro ⟨H6, H12, H14⟩
  iapply (steps_run c arg4 arg5 arg7 harg7 arg8 harg8 arg14 arg15 harg15 (incoming (products i x2 x6 x12)) _ x4 x5 d15 d7 d8 E _ 16 32 _ fun l hl h1 h2 => win16_put256 (products i x2 x6 x12) _ 2 l hl (by show 16 * 2 ≤ l; omega) (by show l < 16 * 2 + 16; omega))
  isplitl [H14]; · iexact H14
  isplitl [H4]; · iexact H4
  isplitl [H5]; · iexact H5
  isplitl [H15]; · iexact H15
  isplitl [H7]; · iexact H7
  isplitl [H8]; · iexact H8
  iintro ⟨H14, H4, H5, H15, H7, H8⟩
  iapply (prods_run c i arg6 arg12 arg14 3 x6 _ _ E _)
  isplitl [H6]; · iexact H6
  isplitl [H12]; · iexact H12
  isplitl [H14]; · iexact H14
  iintro ⟨H6, H12, H14⟩
  iapply (steps_run c arg4 arg5 arg7 harg7 arg8 harg8 arg14 arg15 harg15 (incoming (products i x2 x6 x12)) _ x4 x5 d15 d7 d8 E _ 16 48 _ fun l hl h1 h2 => win16_put256 (products i x2 x6 x12) _ 3 l hl (by show 16 * 3 ≤ l; omega) (by show l < 16 * 3 + 16; omega))
  isplitl [H14]; · iexact H14
  isplitl [H4]; · iexact H4
  isplitl [H5]; · iexact H5
  isplitl [H15]; · iexact H15
  isplitl [H7]; · iexact H7
  isplitl [H8]; · iexact H8
  iintro ⟨H14, H4, H5, H15, H7, H8⟩
  rw [show 48 + 16 = 64 from rfl, upto_all, upto_all, upto_all]
  iapply (gather_run c i arg7 arg8 arg12 arg13 arg15 arg16 arg17 arg18 _ _ _ _ _ _ _ _ E _)
  isplitl [H7]; · iexact H7
  isplitl [H8]; · iexact H8
  isplitl [H12]; · iexact H12
  isplitl [H13]; · iexact H13
  isplitl [H15]; · iexact H15
  isplitl [H16]; · iexact H16
  isplitl [H17]; · iexact H17
  isplitl [H18]; · iexact H18
  iintro ⟨H7, H8, H12, H13, H15, H16, H17, H18⟩
  iapply (leave_run c i arg9 harg9 arg10 harg10 arg11 harg11 arg16 arg17 arg18 x9 x10 x11 _ _ _ E _)
  isplitl [H9]; · iexact H9
  isplitl [H10]; · iexact H10
  isplitl [H11]; · iexact H11
  isplitl [H16]; · iexact H16
  isplitl [H17]; · iexact H17
  isplitl [H18]; · iexact H18
  iintro ⟨H9, H10, H11, H16, H17, H18⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexact H17
  iexact H18

end Run

end Cert.Own.Grad

end
-- ==== Proof.GradFrame.lean ====
/- The feed-forward gradient over the whole grid: what the buffers kept between points hold, what every point leaves,
   the run of the program to the arrays these make, and the frames. -/
module

public import proofs.«01_k».proof.Proof.GradRun

@[expose] public section

set_option maxRecDepth 16384

noncomputable section

namespace Cert.Own.Grad

open Cert.KernelGradIdeal Cert.KernelGradIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-! ## The points of the grid -/

theorem cond1_iff : ∀ t : Fin cfg0.N, k0_cond1 (grid0.coords t) = 1#1 ↔ t.val < 4 := by decide +kernel
theorem first_iff : ∀ t : Fin cfg0.N, first (grid0.coords t) ↔ t.val % 4 = 0 := by decide +kernel
theorem cond3_iff : ∀ t : Fin cfg0.N, k0_cond3 (grid0.coords t) = 1#1 ↔ t.val % 4 = 3 := by decide +kernel
theorem off1_eq : ∀ t : Fin cfg0.N, k0_off1 (grid0.coords t) = ![1024 * (t.val % 4), 0] := by decide +kernel
theorem off2_eq : ∀ (t : Fin cfg0.N) (q : Fin 4), k0_off2 (grid0.coords t) (BitVec.ofNat 32 (256 * q.val)) = ![1024 * (t.val % 4) + 256 * q.val, 0] := by decide +kernel
theorem off3_eq : ∀ t : Fin cfg0.N, k0_off3 (grid0.coords t) = ![1024 * (t.val % 4), 0] := by decide +kernel

/-- The row block of a point. -/
abbrev row (t : Fin cfg0.N) : Fin 4 := ⟨t.val % 4, Nat.mod_lt _ (by decide)⟩

/-- The point that keeps row block `r`. -/
abbrev keeper (r : Fin 4) : Fin cfg0.N := ⟨r.val, lt_of_lt_of_eq (Nat.lt_of_lt_of_le r.isLt (by decide)) (show 44 = cfg0.N from N_0.symm)⟩

/-! ## The kept rows -/

/-- Row block `r` of the kept rows. -/
def tile (x : Vec F S4096x1024 .bf16) (r : Fin 4) : Vec F S1024x1024 .bf16 := fun y =>
  have h : (y 0).val < 1024 := (y 0).isLt
  x (ix2 ⟨1024 * r.val + (y 0).val, by omega⟩ (y 1))

/-- Quarter `q` of a row block. -/
def quarter (w : Vec F S1024x1024 .bf16) (q : Fin 4) : Vec F S256x1024 .bf16 := fun y =>
  have h : (y 0).val < 256 := (y 0).isLt
  w (ix2 ⟨256 * q.val + (y 0).val, by omega⟩ (y 1))

/-- Two places of an array are the same when their coordinates are. -/
theorem ext2 {n0 n1 : ℕ} {a b : (⟨2, ![n0, n1]⟩ : Shape).Idx} (h0 : (a 0).val = (b 0).val) (h1 : (a 1).val = (b 1).val) : a = b := by
  rw [eq_ix2 a, eq_ix2 b, Fin.ext h0, Fin.ext h1]

theorem rows1024_eq (t : Fin cfg0.N) (x : Vec F S4096x1024 .bf16) : rows1024 (grid0.coords t) x = tile x (row t) := by
  funext y
  refine congrArg x (ext2 ?_ ?_)
  · show (k0_off3 (grid0.coords t)) 0 + 1 * (y 0).val = 1024 * (t.val % 4) + (y 0).val
    rw [off3_eq]; show 1024 * (t.val % 4) + 1 * (y 0).val = _; omega
  · show (k0_off3 (grid0.coords t)) 1 + 1 * (y 1).val = (y 1).val
    rw [off3_eq]; show 0 + 1 * (y 1).val = _; omega

theorem rows256_eq (t : Fin cfg0.N) (x : Vec F S4096x1024 .bf16) (q : Fin 4) : rows256 (grid0.coords t) x q = quarter (tile x (row t)) q := by
  funext y
  refine congrArg x (ext2 ?_ ?_)
  · show (k0_off2 (grid0.coords t) (BitVec.ofNat 32 (256 * q.val))) 0 + 1 * (y 0).val = 1024 * (t.val % 4) + (256 * q.val + (y 0).val)
    rw [off2_eq]; show 1024 * (t.val % 4) + 256 * q.val + 1 * (y 0).val = _; omega
  · show (k0_off2 (grid0.coords t) (BitVec.ofNat 32 (256 * q.val))) 1 + 1 * (y 1).val = (y 1).val
    rw [off2_eq]; show 0 + 1 * (y 1).val = _; omega

/-- The kept rows agree with `W` on the row blocks the points before `n` have kept. -/
def Held (W : Fin 4 → Vec F S1024x1024 .bf16) (n : ℕ) (x : Vec F S4096x1024 .bf16) : Prop := ∀ r : Fin 4, r.val < n → tile x r = W r

theorem tile_put (t : Fin cfg0.N) (h : t.val < 4) (x : Vec F S4096x1024 .bf16) (w : Vec F S1024x1024 .bf16) (r : Fin 4) :
    tile (kept (grid0.coords t) x w) r = if r = row t then w else tile x r := by
  unfold kept
  rw [if_pos ((cond1_iff t).mpr h), off1_eq]
  funext y
  have h0 : (y 0).val < 1024 := (y 0).isLt
  have h1 : (y 1).val < 1024 := (y 1).isLt
  have hm : t.val % 4 = t.val := Nat.mod_eq_of_lt h
  unfold tile VecWindow.put
  by_cases hr : r = row t
  · subst hr
    rw [if_pos rfl, dif_pos (by
      intro a
      match a with
      | ⟨0, _⟩ => exact ⟨by show 1024 * (t.val % 4) ≤ 1024 * (t.val % 4) + (y 0).val; omega, by show 1024 * (t.val % 4) + (y 0).val < 1024 * (t.val % 4) + 1024; omega⟩
      | ⟨1, _⟩ => exact ⟨Nat.zero_le _, by show (y 1).val < 0 + 1024; omega⟩)]
    refine congrArg w (funext fun a => Fin.ext ?_)
    match a with
    | ⟨0, _⟩ => show 1024 * (t.val % 4) + (y 0).val - 1024 * (t.val % 4) = (y 0).val; omega
    | ⟨1, _⟩ => show (y 1).val - 0 = (y 1).val; omega
  · rw [if_neg hr, dif_neg fun h' => ?_]
    have h2 : 1024 * (t.val % 4) ≤ 1024 * r.val + (y 0).val ∧ 1024 * r.val + (y 0).val < 1024 * (t.val % 4) + 1024 := h' 0
    exact hr (Fin.ext (by show r.val = t.val % 4; omega))

theorem held_step {W : Fin 4 → Vec F S1024x1024 .bf16} {w : Vec F S1024x1024 .bf16} (t : Fin cfg0.N) (hw : t.val < 4 → w = W (row t)) {x : Vec F S4096x1024 .bf16}
    (hx : Held W t.val x) : Held W (t.val + 1) (kept (grid0.coords t) x w) := by
  intro r hr
  by_cases h : t.val < 4
  · rw [tile_put t h]
    by_cases e : r = row t
    · rw [if_pos e, e, hw h]
    · rw [if_neg e]
      exact hx r (by have : r.val ≠ t.val % 4 := fun e' => e (Fin.ext e'); omega)
  · unfold kept
    rw [if_neg fun e => h ((cond1_iff t).mp e)]
    exact hx r (by omega)

theorem held_row {W : Fin 4 → Vec F S1024x1024 .bf16} {x : Vec F S4096x1024 .bf16} (t : Fin cfg0.N) (hx : Held W (t.val + 1) x) : tile x (row t) = W (row t) :=
  hx (row t) (Nat.lt_succ_of_le (Nat.mod_le _ _))

/-! ## The running sums -/

/-- A running sum after point `n`: each group of four points begins at `z` and every point takes one step. -/
def acc (f : Fin cfg0.N → Vec F S256x1024 .f32 → Vec F S256x1024 .f32) (z : Vec F S256x1024 .f32) : (n : ℕ) → n < cfg0.N → Vec F S256x1024 .f32
  | 0, h => f ⟨0, h⟩ z
  | n + 1, h => f ⟨n + 1, h⟩ (if (n + 1) % 4 = 0 then z else acc f z n (Nat.lt_of_succ_lt h))

/-- A running sum's buffer before point `n` holds the sum after the point before, unless point `n` begins a group. -/
def Reached (f : Fin cfg0.N → Vec F S256x1024 .f32 → Vec F S256x1024 .f32) (z : Vec F S256x1024 .f32) (n : ℕ) (x : Vec F S256x1024 .f32) : Prop :=
  ∀ (k : ℕ) (h : k < cfg0.N), n = k + 1 → (k + 1) % 4 ≠ 0 → x = acc f z k h

theorem acc_step {f : Fin cfg0.N → Vec F S256x1024 .f32 → Vec F S256x1024 .f32} {z : Vec F S256x1024 .f32} (t : Fin cfg0.N) {x : Vec F S256x1024 .f32}
    (hx : Reached f z t.val x) : f t (begun (grid0.coords t) x z) = acc f z t.val t.isLt := by
  obtain ⟨n, h⟩ := t
  unfold begun
  cases n with
  | zero => rw [if_pos ((first_iff _).mpr rfl)]; rfl
  | succ n =>
    show _ = f ⟨n + 1, h⟩ (if (n + 1) % 4 = 0 then z else acc f z n (Nat.lt_of_succ_lt h))
    refine congrArg (f _) ?_
    by_cases e : (n + 1) % 4 = 0
    · rw [if_pos e, if_pos ((first_iff _).mpr e)]
    · rw [if_neg e, if_neg fun e' => e ((first_iff _).mp e')]
      exact hx n _ rfl e

theorem reached_succ (f : Fin cfg0.N → Vec F S256x1024 .f32 → Vec F S256x1024 .f32) (z : Vec F S256x1024 .f32) (t : Fin cfg0.N) :
    Reached f z (t.val + 1) (acc f z t.val t.isLt) := by
  intro k h e _
  cases e
  rfl

/-! ## What every point leaves -/

variable (m : (ℓ : Loc nD τ sig) → Buf (Elt F) ℓ) (ρ : Dev nD → PrngReg)

/-- The kept half of the incoming gradient of row block `r`. -/
def outRows (c : Dev nD) (r : Fin 4) : Vec F S1024x1024 .bf16 := k0_pay7 (iblk m c 0 (keeper r))

/-- The kept input rows of row block `r`. -/
def inRows (c : Dev nD) (r : Fin 4) : Vec F S1024x1024 .bf16 := k0_pay8 (iblk m c 1 (keeper r))

/-- The gradient of a point's hidden block. -/
def hidden (c : Dev nD) (t : Fin cfg0.N) : Vec F S1024x256 .f32 := incoming fun q => k0_pay12 (quarter (outRows m c (row t)) q) (iblk m c 4 t)

/-- The gate's gradient of a point's block. -/
def gateOut (c : Dev nD) (t : Fin cfg0.N) : Vec F S1024x256 .bf16 := gateGrad (hidden m c t) (iblk m c 2 t) (iblk m c 3 t)

/-- The linear half's gradient of a point's block. -/
def linOut (c : Dev nD) (t : Fin cfg0.N) : Vec F S1024x256 .bf16 := linGrad (hidden m c t) (iblk m c 2 t)

/-- The gated value of a point's block. -/
def gatedOut (c : Dev nD) (t : Fin cfg0.N) : Vec F S1024x256 .bf16 := gated (iblk m c 2 t) (iblk m c 3 t)

/-- A point's step of the gate weights' gradient. -/
def stepG (c : Dev nD) (t : Fin cfg0.N) (x : Vec F S256x1024 .f32) : Vec F S256x1024 .f32 := k0_pay2 (inRows m c (row t)) x (gateOut m c t)

/-- A point's step of the linear weights' gradient. -/
def stepU (c : Dev nD) (t : Fin cfg0.N) (x : Vec F S256x1024 .f32) : Vec F S256x1024 .f32 := k0_pay3 (inRows m c (row t)) x (linOut m c t)

/-- A point's step of the output weights' gradient. -/
def stepD (c : Dev nD) (t : Fin cfg0.N) (x : Vec F S256x1024 .f32) : Vec F S256x1024 .f32 := k0_pay1 (outRows m c (row t)) x (gatedOut m c t)

/-- The gate weights' running gradient after a point. -/
def accG (c : Dev nD) (t : Fin cfg0.N) : Vec F S256x1024 .f32 := acc (stepG m c) (k0_pay9 (F := F)) t.val t.isLt

/-- The linear weights' running gradient after a point. -/
def accU (c : Dev nD) (t : Fin cfg0.N) : Vec F S256x1024 .f32 := acc (stepU m c) (k0_pay10 (F := F)) t.val t.isLt

/-- The output weights' running gradient after a point. -/
def accD (c : Dev nD) (t : Fin cfg0.N) : Vec F S256x1024 .f32 := acc (stepD m c) (k0_pay11 (F := F)) t.val t.isLt

/-- What the kept rows and the running sums are known to hold before point `n`. -/
def Known (c : Dev nD) (n : ℕ) (x12 x13 : Vec F S4096x1024 .bf16) (x16 x17 x18 : Vec F S256x1024 .f32) : Prop :=
  Held (outRows m c) n x12 ∧ Held (inRows m c) n x13 ∧ Reached (stepG m c) (k0_pay9 (F := F)) n x16 ∧ Reached (stepU m c) (k0_pay10 (F := F)) n x17 ∧ Reached (stepD m c) (k0_pay11 (F := F)) n x18

/-- Between points: the kept rows and the running sums at what is known of them, the other buffers at anything. -/
def inv (c : Dev nD) (n : ℕ) : sProp 𝕄 :=
  iprop(∃ x12 x13 x16 x17 x18, ⌜Known m c n x12 x13 x16 x17 x18⌝
    ∗ owns (c : Thread nD τ) (Memref.whole cc0_scratch0) fullShare x12 ∗ owns (c : Thread nD τ) (Memref.whole cc0_scratch1) fullShare x13
    ∗ (∃ d, owns (c : Thread nD τ) (Memref.whole cc0_scratch2) fullShare d) ∗ (∃ d, owns (c : Thread nD τ) (Memref.whole cc0_scratch3) fullShare d)
    ∗ owns (c : Thread nD τ) (Memref.whole cc0_scratch4) fullShare x16 ∗ owns (c : Thread nD τ) (Memref.whole cc0_scratch5) fullShare x17
    ∗ owns (c : Thread nD τ) (Memref.whole cc0_scratch6) fullShare x18 ∗ ∃ r, prngReg c r)

/-- The pipeline's proof data: the arrays as the region finds them, the inputs' blocks kept, the results' at what every
    point leaves, and between points the kept rows and the running sums at what is known of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gateOut m c t
    | ⟨6, _⟩ => linOut m c t
    | ⟨7, _⟩ => k0_pay4 (accG m c t)
    | ⟨8, _⟩ => k0_pay5 (accU m c t)
    | ⟨9, _⟩ => k0_pay6 (accD m c t)
  Φ t := inv m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = gateOut m c t := by dsimp only [dats]
theorem after0_6 (c : Dev nD) (t : Fin cfg0.N) : (dats m 0 c).after 6 t = linOut m c t := by dsimp only [dats]
theorem after0_7 (c : Dev nD) (t : Fin cfg0.N) : (dats m 0 c).after 7 t = k0_pay4 (accG m c t) := by dsimp only [dats]
theorem after0_8 (c : Dev nD) (t : Fin cfg0.N) : (dats m 0 c).after 8 t = k0_pay5 (accU m c t) := by dsimp only [dats]
theorem after0_9 (c : Dev nD) (t : Fin cfg0.N) : (dats m 0 c).after 9 t = k0_pay6 (accD m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The three results left at a group's last point: what the body makes of the buffer it finds is what the proof data ask. -/
theorem leave7 (c : Dev nD) (t : Fin cfg0.N) (d) :
    owns (c : Thread nD τ) ((cfg0.win 7).stage (cfg0.slots t 7)) fullShare (left (grid0.coords t) ((dats m 0 c).before 7 t d) (k0_pay4 (accG m c t)))
      ⊢ ((dats m 0 c).leavesExact 7 t : sProp 𝕄) := by
  unfold Dat.leavesExact left
  by_cases h : k0_cond3 (grid0.coords t) = 1#1
  · rw [if_pos h, show cfg0.idle 7 (cfg0.grid.coords t) = false from congrArg (fun b => !(b == 1#1)) h, after0_7]
  · rw [if_neg h, show cfg0.idle 7 (cfg0.grid.coords t) = true from by show (!(k0_cond3 (grid0.coords t) == 1#1)) = true; simp [h],
      show (cfg0.win 7).flush t = false from Bool.eq_false_iff.mpr fun e => h ((cond3_iff t).mpr ((flush0_7 t).mp e))]
    iintro H
    iexists _
    iexact H

theorem leave8 (c : Dev nD) (t : Fin cfg0.N) (d) :
    owns (c : Thread nD τ) ((cfg0.win 8).stage (cfg0.slots t 8)) fullShare (left (grid0.coords t) ((dats m 0 c).before 8 t d) (k0_pay5 (accU m c t)))
      ⊢ ((dats m 0 c).leavesExact 8 t : sProp 𝕄) := by
  unfold Dat.leavesExact left
  by_cases h : k0_cond3 (grid0.coords t) = 1#1
  · rw [if_pos h, show cfg0.idle 8 (cfg0.grid.coords t) = false from congrArg (fun b => !(b == 1#1)) h, after0_8]
  · rw [if_neg h, show cfg0.idle 8 (cfg0.grid.coords t) = true from by show (!(k0_cond3 (grid0.coords t) == 1#1)) = true; simp [h],
      show (cfg0.win 8).flush t = false from Bool.eq_false_iff.mpr fun e => h ((cond3_iff t).mpr ((flush0_8 t).mp e))]
    iintro H
    iexists _
    iexact H

theorem leave9 (c : Dev nD) (t : Fin cfg0.N) (d) :
    owns (c : Thread nD τ) ((cfg0.win 9).stage (cfg0.slots t 9)) fullShare (left (grid0.coords t) ((dats m 0 c).before 9 t d) (k0_pay6 (accD m c t)))
      ⊢ ((dats m 0 c).leavesExact 9 t : sProp 𝕄) := by
  unfold Dat.leavesExact left
  by_cases h : k0_cond3 (grid0.coords t) = 1#1
  · rw [if_pos h, show cfg0.idle 9 (cfg0.grid.coords t) = false from congrArg (fun b => !(b == 1#1)) h, after0_9]
  · rw [if_neg h, show cfg0.idle 9 (cfg0.grid.coords t) = true from by show (!(k0_cond3 (grid0.coords t) == 1#1)) = true; simp [h],
      show (cfg0.win 9).flush t = false from Bool.eq_false_iff.mpr fun e => h ((cond3_iff t).mpr ((flush0_9 t).mp e))]
    iintro H
    iexists _
    iexact H

theorem phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)
        ∗ (∃ d, owns (c : Thread nD τ) (Memref.whole cc0_scratch6) fullShare d)) ∗ ∃ r, prngReg c r) := by
  unfold Pipeline.ΦA
  rw [scopedRest0_eq]; simp only [owns_whole]

theorem phi_in (c : Dev nD) : (Pipeline.ΦA spec0 c : sProp 𝕄) ⊢ (dats m 0 c).Φ 0 := by
  rw [phi_eq, show (dats m 0 c).Φ 0 = inv m c 0 from rfl]
  unfold inv
  iintro ⟨⟨⟨%a, HA⟩, ⟨%b, HB⟩, HC, HD, ⟨%e, HE⟩, ⟨%f, HF⟩, ⟨%g, HG⟩⟩, HP⟩
  iexists a, b, e, f, g
  isplitr
  · ipureintro
    exact ⟨fun r h => absurd h (Nat.not_lt_zero _), fun r h => absurd h (Nat.not_lt_zero _), fun k h e => absurd e (Nat.succ_ne_zero k).symm,
      fun k h e => absurd e (Nat.succ_ne_zero k).symm, fun k h e => absurd e (Nat.succ_ne_zero k).symm⟩
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HP

theorem phi_out (c : Dev nD) : (dats m 0 c).Φ (Fin.last cfg0.N) ⊢ (Pipeline.ΦA spec0 c : sProp 𝕄) := by
  rw [phi_eq, show (dats m 0 c).Φ (Fin.last cfg0.N) = inv m c cfg0.N from rfl]
  unfold inv
  iintro ⟨%a, %b, %e, %f, %g, %hK, HA, HB, HC, HD, HE, HF, HG, HP⟩
  isplitr [HP]
  · isplitl [HA]; · iexists a; iexact HA
    isplitl [HB]; · iexists b; iexact HB
    isplitl [HC]; · iexact HC
    isplitl [HD]; · iexact HD
    isplitl [HE]; · iexists e; iexact HE
    isplitl [HF]; · iexists f; iexact HF
    iexists g; iexact HG
  iexact HP

theorem keeper_row (t : Fin cfg0.N) (h : t.val < 4) : keeper (row t) = t := Fin.ext (Nat.mod_eq_of_lt h)

theorem products_eq (c : Dev nD) (t : Fin cfg0.N) {x12 : Vec F S4096x1024 .bf16} (h : Held (outRows m c) t.val x12) :
    incoming (products (grid0.coords t) (iblk m c 0 t) (iblk m c 4 t) x12) = hidden m c t := by
  have e := held_row t (held_step (w := k0_pay7 (iblk m c 0 t)) t (fun hl => by unfold outRows; rw [keeper_row t hl]) h)
  unfold hidden
  refine congrArg incoming (funext fun q => ?_)
  unfold products
  rw [rows256_eq, e]

set_option maxHeartbeats 1600000 in
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = inv m c (t.val + 1) from rfl, show (dats m 0 c).Φ t.castSucc = inv m c t.val from rfl,
    show (dats m 0 c).owesAt () t.succ = (dats m 0 c).owesAt () t.castSucc from rfl, after0_0, after0_1, after0_2, after0_3, after0_4, after0_5, after0_6]
  unfold inv
  iintro ⟨⟨%x12, %x13, %x16, %x17, %x18, %hK, HA, HB, HC, HD, HE, HF, HG, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨hk12, hk13, hk16, hk17, hk18⟩ := hK
  have hout : Held (outRows m c) (t.val + 1) (kept (grid0.coords t) x12 (k0_pay7 (iblk m c 0 t))) :=
    held_step t (fun hl => by unfold outRows; rw [keeper_row t hl]) hk12
  have hin : Held (inRows m c) (t.val + 1) (kept (grid0.coords t) x13 (k0_pay8 (iblk m c 1 t))) :=
    held_step t (fun hl => by unfold inRows; rw [keeper_row t hl]) hk13
  rw [body_eq]
  iapply (body_run c (grid0.coords t) _ _ _ _ _ _ _ _ _ _ _ _ _ _ _ _ _ _ _ _ _ _ _ _ _ (iblk m c 0 t) (iblk m c 1 t) (iblk m c 2 t) (iblk m c 3 t) (iblk m c 4 t)
    ((dats m 0 c).before 7 t d7) ((dats m 0 c).before 8 t d8) ((dats m 0 c).before 9 t d9) x12 x13 x16 x17 x18 Set.univ _)
  rw [products_eq m c t hk12, rows1024_eq, rows1024_eq, held_row t hout, held_row t hin]
  rw [show k0_pay2 (inRows m c (row t)) (begun (grid0.coords t) x16 (k0_pay9 (F := F))) (gateGrad (hidden m c t) (iblk m c 2 t) (iblk m c 3 t)) = accG m c t from acc_step t hk16,
    show k0_pay3 (inRows m c (row t)) (begun (grid0.coords t) x17 (k0_pay10 (F := F))) (linGrad (hidden m c t) (iblk m c 2 t)) = accU m c t from acc_step t hk17,
    show k0_pay1 (outRows m c (row t)) (begun (grid0.coords t) x18 (k0_pay11 (F := F))) (gated (iblk m c 2 t) (iblk m c 3 t)) = accD m c t from acc_step t hk18]
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [H9]; · iexact H9
  isplitl [HA]; · iexact HA
  isplitl [HB]; · iexact HB
  isplitl [HC]; · iexact HC
  isplitl [HD]; · iexact HD
  isplitl [HE]; · iexact HE
  isplitl [HF]; · iexact HF
  isplitl [HG]; · iexact HG
  iintro ⟨H0, H1, H2, H3, H4, H5, H6, H7, H8, H9, HA, HB, HC, HD, HE, HF, HG⟩
  isplitl [HA HB HC HD HE HF HG HP]
  · iexists _, _, _, _, _
    isplitr
    · ipureintro
      exact ⟨hout, hin, reached_succ _ _ t, reached_succ _ _ t, reached_succ _ _ t⟩
    isplitl [HA]; · iexact HA
    isplitl [HB]; · iexact HB
    isplitl [HC]; · iexact HC
    isplitl [HD]; · iexact HD
    isplitl [HE]; · iexact HE
    isplitl [HF]; · iexact HF
    isplitl [HG]; · iexact HG
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leave7 m c t d7); iexact H7
  isplitl [H8]; · iapply (leave8 m c t d8); iexact H8
  iapply (leave9 m c t d9); iexact H9

set_option backward.isDefEq.respectTransparency.types false in
/-- Every weakly fair execution of the program ends, with every array of the pipeline at what the proof data make of it and every
    semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := phi_in m) (hout := phi_out m)

/-- The frame: the arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Own.Grad

end
-- ==== Proof.GradSpec.lean ====
/- The feed-forward gradient over the reals: the hidden values, their gradients and the gradients of the three weights. -/
module

public import proofs.«01_k».proof.Proof.AttnSpec

@[expose] public section

noncomputable section

namespace Cert.Own.Grad

open Idealize.ShloMosaic
open Cert.Own.Attn

/-- The incoming gradient, the input rows, and the three weights, a row of each for every hidden column. -/
structure Args where
  d : Fin 4096 → Fin 1024 → ℝ
  h : Fin 4096 → Fin 1024 → ℝ
  g : Fin 2816 → Fin 1024 → ℝ
  u : Fin 2816 → Fin 1024 → ℝ
  w : Fin 2816 → Fin 1024 → ℝ

/-- The sigmoid. -/
def sg (x : ℝ) : ℝ := (1 + Real.exp (-x))⁻¹

section Spec
variable (X : Args)

/-- The gate and the linear half before the activation. -/
def pre (r : Fin 4096) (n : Fin 2816) : ℝ := ∑ k, X.h r k * X.g n k
def lin (r : Fin 4096) (n : Fin 2816) : ℝ := ∑ k, X.h r k * X.u n k
/-- Half of the incoming gradient. -/
def halfD (r : Fin 4096) (k : Fin 1024) : ℝ := 1 / 2 * X.d r k
/-- The gradient of the gated values. -/
def ds (r : Fin 4096) (n : Fin 2816) : ℝ := ∑ k, halfD X r k * X.w n k
/-- The gated values. -/
def gv (r : Fin 4096) (n : Fin 2816) : ℝ := pre X r n * sg (pre X r n) * lin X r n
/-- The gradients of the gate and of the linear half. -/
def da (r : Fin 4096) (n : Fin 2816) : ℝ := ds X r n * lin X r n * (sg (pre X r n) + pre X r n * sg (pre X r n) * (1 - sg (pre X r n)))
def db (r : Fin 4096) (n : Fin 2816) : ℝ := ds X r n * (pre X r n * sg (pre X r n))
/-- The gradients of the three weights. -/
def dg (n : Fin 2816) (l : Fin 1024) : ℝ := ∑ r, da X r n * X.h r l
def du (n : Fin 2816) (l : Fin 1024) : ℝ := ∑ r, db X r n * X.h r l
def dw (n : Fin 2816) (l : Fin 1024) : ℝ := ∑ r, gv X r n * halfD X r l

end Spec

theorem half_word : Ideal.ofBits .f32 0x3F000000#32 = ((1 / 2 : ℝ) : EReal) := by
  simp [Ideal.ofBits, Ideal.ieee, -EReal.coe_mul]; norm_num

/-- The sigmoid by the hyperbolic tangent of half the argument. -/
theorem tanh_half (x : ℝ) : 1 / 2 * Real.tanh (1 / 2 * x) + 1 / 2 = sg x := by
  unfold sg
  have e : Real.exp (-x) = Real.exp (-(1 / 2 * x)) * Real.exp (-(1 / 2 * x)) := by rw [← Real.exp_add]; ring_nf
  have i : Real.exp (1 / 2 * x) * Real.exp (-(1 / 2 * x)) = 1 := by rw [← Real.exp_add, add_neg_cancel, Real.exp_zero]
  have hp : 0 < Real.exp (1 / 2 * x) := Real.exp_pos _
  have hn : 0 < Real.exp (-(1 / 2 * x)) := Real.exp_pos _
  rw [Real.tanh_eq_sinh_div_cosh, Real.sinh_eq, Real.cosh_eq, e]
  generalize Real.exp (1 / 2 * x) = p at *
  generalize Real.exp (-(1 / 2 * x)) = q at *
  have h1 : p + q ≠ 0 := by positivity
  have h2 : 1 + q * q ≠ 0 := by positivity
  field_simp
  nlinarith [i]

theorem sg_div (x : ℝ) : Ideal.div ((1 : ℝ) : EReal) (((1 : ℝ) : EReal) + Ideal.exp (-(x : EReal))) = ((sg x : ℝ) : EReal) := by
  have hp : (0 : ℝ) < 1 + Real.exp (-x) := by positivity
  rw [← EReal.coe_neg, Ideal.exp_coe, ← EReal.coe_add, div_real _ hp.ne', one_div]
  rfl

end Cert.Own.Grad

end
-- ==== Proof.GradPoint.lean ====
/- The feed-forward gradient's kernel on blocks of real numbers: what its steps compute, index by index. -/
module

public import proofs.«01_k».proof.Proof.GradFrame
public import proofs.«01_k».proof.Proof.GradSpec
public import Idealize.ShloMosaic.Lib.Pipeline.ValueKit

@[expose] public section

set_option maxRecDepth 16384

noncomputable section

namespace Cert.Own.Grad

open Idealize.ShloMosaic Idealize.ShloMosaic.TcCoe Idealize.SL.Sem
open Cert.KernelGradIdeal Cert.KernelGradIdeal.Gen
open Cert.Own Cert.Own.Attn

/-! ## The products and the casts -/

theorem half_at (x : Vec Ideal S1024x1024 .f32) (p k : Fin 1024) : k0_pay7 (F := Ideal) x (ix2 p k) = ((1 / 2 : ℝ) : EReal) * x (ix2 p k) := by
  pointwise [k0_pay7]
  rw [half_word]
theorem kept_at (x : Vec Ideal S1024x1024 .bf16) (p k : Fin 1024) : k0_pay8 (F := Ideal) x (ix2 p k) = x (ix2 p k) := by
  pointwise [k0_pay8]
theorem product_at (x w : Vec Ideal S256x1024 .bf16) (p n : Fin 256) : k0_pay12 (F := Ideal) x w (ix2 p n) = ∑ k, x (ix2 p k) * w (ix2 n k) := by
  pointwise [k0_pay12]
theorem stepG_at (h : Vec Ideal S1024x1024 .bf16) (s : Vec Ideal S256x1024 .f32) (x : Vec Ideal S1024x256 .bf16) (n : Fin 256) (l : Fin 1024) :
    k0_pay2 (F := Ideal) h s x (ix2 n l) = s (ix2 n l) + ∑ p, x (ix2 p n) * h (ix2 p l) := by
  pointwise [k0_pay2]
theorem stepU_at (h : Vec Ideal S1024x1024 .bf16) (s : Vec Ideal S256x1024 .f32) (x : Vec Ideal S1024x256 .bf16) (n : Fin 256) (l : Fin 1024) :
    k0_pay3 (F := Ideal) h s x (ix2 n l) = s (ix2 n l) + ∑ p, x (ix2 p n) * h (ix2 p l) := by
  pointwise [k0_pay3]
theorem stepD_at (h : Vec Ideal S1024x1024 .bf16) (s : Vec Ideal S256x1024 .f32) (x : Vec Ideal S1024x256 .bf16) (n : Fin 256) (l : Fin 1024) :
    k0_pay1 (F := Ideal) h s x (ix2 n l) = s (ix2 n l) + ∑ p, x (ix2 p n) * h (ix2 p l) := by
  pointwise [k0_pay1]
theorem zeroG_at (n : Fin 256) (l : Fin 1024) : k0_pay9 (F := Ideal) (ix2 n l) = 0 := by
  pointwise [k0_pay9]
theorem zeroU_at (n : Fin 256) (l : Fin 1024) : k0_pay10 (F := Ideal) (ix2 n l) = 0 := by
  pointwise [k0_pay10]
theorem zeroD_at (n : Fin 256) (l : Fin 1024) : k0_pay11 (F := Ideal) (ix2 n l) = 0 := by
  pointwise [k0_pay11]
theorem outG_at (s : Vec Ideal S256x1024 .f32) (n : Fin 256) (l : Fin 1024) : k0_pay4 (F := Ideal) s (ix2 n l) = s (ix2 n l) := by
  pointwise [k0_pay4]
theorem outU_at (s : Vec Ideal S256x1024 .f32) (n : Fin 256) (l : Fin 1024) : k0_pay5 (F := Ideal) s (ix2 n l) = s (ix2 n l) := by
  pointwise [k0_pay5]
theorem outD_at (s : Vec Ideal S256x1024 .f32) (n : Fin 256) (l : Fin 1024) : k0_pay6 (F := Ideal) s (ix2 n l) = s (ix2 n l) := by
  pointwise [k0_pay6]

/-! ## The activation, sixteen rows at a time -/

section Rows
variable (a b : Vec Ideal S16x256 .bf16) (D : Vec Ideal S16x256 .f32) (p : Fin 16) (n : Fin 256) (x y z : ℝ)
  (ha : a (ix2 p n) = ((x : ℝ) : EReal)) (hb : b (ix2 p n) = ((y : ℝ) : EReal)) (hD : D (ix2 p n) = ((z : ℝ) : EReal))

theorem lin_at : k0_pay14 (F := Ideal) b (ix2 p n) = b (ix2 p n) := by
  pointwise [k0_pay14]
include ha
theorem sg_at : k0_pay15 (F := Ideal) a (ix2 p n) = ((sg x : ℝ) : EReal) := by
  pointwise [k0_pay15, k0_pay13]
  rw [half_word, ha, ← EReal.coe_mul, Ideal.tanh_coe, ← EReal.coe_mul, ← EReal.coe_add, tanh_half]
theorem silu_at : k0_pay16 (F := Ideal) a (ix2 p n) = ((x * sg x : ℝ) : EReal) := by
  have h : k0_pay16 (F := Ideal) a (ix2 p n) = a (ix2 p n) * k0_pay15 (F := Ideal) a (ix2 p n) := by
    pointwise [k0_pay16, k0_pay15, k0_pay13]
  rw [h, sg_at a p n x ha, ha, ← EReal.coe_mul]
include hb in
theorem gatedRows_at : k0_pay17 (F := Ideal) (k0_pay14 b) (k0_pay16 a) (ix2 p n) = ((x * sg x * y : ℝ) : EReal) := by
  pointwise [k0_pay17]
  rw [silu_at a p n x ha, lin_at, hb, ← EReal.coe_mul]
include hD in
theorem linRows_at : k0_pay19 (F := Ideal) D (k0_pay16 a) (ix2 p n) = ((z * (x * sg x) : ℝ) : EReal) := by
  pointwise [k0_pay19]
  rw [silu_at a p n x ha, hD, ← EReal.coe_mul]
include hb hD in
theorem gateRows_at : k0_pay18 (F := Ideal) D (k0_pay14 b) (k0_pay15 a) (k0_pay16 a) (ix2 p n) = ((z * y * (sg x + x * sg x * (1 - sg x)) : ℝ) : EReal) := by
  pointwise [k0_pay18]
  rw [silu_at a p n x ha, sg_at a p n x ha, lin_at, hb, hD, ← EReal.coe_mul]
  simp only [EReal.coe_mul, EReal.coe_add, EReal.coe_sub, EReal.coe_one]
end Rows

/-! ## The activation on a block -/

theorem win16_at {e : EltTy} (x : Vec Ideal S1024x256 e) (p : Fin 1024) (n : Fin 256) :
    win16 x (p.val / 16) (by have := p.isLt; omega) (ix2 ⟨p.val % 16, Nat.mod_lt _ (by decide)⟩ n) = x (ix2 p n) := by
  refine congrArg x (ext2 ?_ ?_)
  · show 16 * (p.val / 16) + 1 * (p.val % 16) = p.val; omega
  · show 0 + 1 * n.val = n.val; omega

section Block
variable (a b : Vec Ideal S1024x256 .bf16) (D : Vec Ideal S1024x256 .f32) (p : Fin 1024) (n : Fin 256) (x y z : ℝ)
  (ha : a (ix2 p n) = ((x : ℝ) : EReal))
include ha

theorem gated_at (hb : b (ix2 p n) = ((y : ℝ) : EReal)) : gated a b (ix2 p n) = ((x * sg x * y : ℝ) : EReal) :=
  gatedRows_at _ _ _ _ x y ((win16_at a p n).trans ha) ((win16_at b p n).trans hb)
theorem linGrad_at (hD : D (ix2 p n) = ((z : ℝ) : EReal)) : linGrad D a (ix2 p n) = ((z * (x * sg x) : ℝ) : EReal) :=
  linRows_at _ _ _ _ x z ((win16_at a p n).trans ha) ((win16_at D p n).trans hD)
theorem gateGrad_at (hb : b (ix2 p n) = ((y : ℝ) : EReal)) (hD : D (ix2 p n) = ((z : ℝ) : EReal)) :
    gateGrad D a b (ix2 p n) = ((z * y * (sg x + x * sg x * (1 - sg x)) : ℝ) : EReal) :=
  gateRows_at _ _ _ _ _ x y z ((win16_at a p n).trans ha) ((win16_at b p n).trans hb) ((win16_at D p n).trans hD)
end Block

/-! ## A running sum over a group of four points -/

theorem acc_head (f : Fin cfg0.N → Vec Ideal S256x1024 .f32 → Vec Ideal S256x1024 .f32) (z : Vec Ideal S256x1024 .f32) (n : ℕ) (h : n < cfg0.N) (e : n % 4 = 0) :
    acc f z n h = f ⟨n, h⟩ z := by
  cases n with
  | zero => rfl
  | succ n =>
    show f _ (if (n + 1) % 4 = 0 then z else _) = _
    rw [if_pos e]
theorem acc_next (f : Fin cfg0.N → Vec Ideal S256x1024 .f32 → Vec Ideal S256x1024 .f32) (z : Vec Ideal S256x1024 .f32) (n : ℕ) (h : n + 1 < cfg0.N) (e : (n + 1) % 4 ≠ 0) :
    acc f z (n + 1) h = f ⟨n + 1, h⟩ (acc f z n (Nat.lt_of_succ_lt h)) := by
  show f _ (if (n + 1) % 4 = 0 then z else _) = _
  rw [if_neg e]

/-- Row `p` of row block `r`. -/
def rowOf (r : Fin 4) (p : Fin 1024) : Fin 4096 := ⟨1024 * r.val + p.val, by omega⟩

/-- The sum over all rows is the sum of the four row blocks' sums. -/
theorem sum_rows (g : Fin 4096 → ℝ) :
    ∑ r, g r = (∑ p, g (rowOf 0 p)) + (∑ p, g (rowOf 1 p)) + (∑ p, g (rowOf 2 p)) + ∑ p, g (rowOf 3 p) := by
  rw [← Fin.sum_univ_four (fun r => ∑ p, g (rowOf r p))]
  exact (sum_blocks (a := 4) (b := 1024) rfl g).symm

/-- The point of row block `r` in the group of hidden columns `j`. -/
def pointOf (j : Fin 11) (r : Fin 4) : Fin cfg0.N := ⟨4 * j.val + r.val, lt_of_lt_of_eq (show 4 * j.val + r.val < 44 by omega) N_0.symm⟩

/-- A running sum whose step adds a row block's sum is, after its group's last point, the sum over all rows. -/
theorem acc_rows (f : Fin cfg0.N → Vec Ideal S256x1024 .f32 → Vec Ideal S256x1024 .f32) (z : Vec Ideal S256x1024 .f32) (i : S256x1024.Idx) (g : Fin 4096 → ℝ) (j : Fin 11)
    (hz : z i = 0) (hf : ∀ r x, f (pointOf j r) x i = x i + ((∑ p, g (rowOf r p) : ℝ) : EReal)) :
    acc f z (pointOf j 3).val (pointOf j 3).isLt i = ((∑ r, g r : ℝ) : EReal) := by
  have e3 := hf 3 (acc f z (pointOf j 2).val (pointOf j 2).isLt)
  have e2 := hf 2 (acc f z (pointOf j 1).val (pointOf j 1).isLt)
  have e1 := hf 1 (acc f z (pointOf j 0).val (pointOf j 0).isLt)
  have e0 := hf 0 z
  have a3 : acc f z (pointOf j 3).val (pointOf j 3).isLt = f (pointOf j 3) (acc f z (pointOf j 2).val (pointOf j 2).isLt) :=
    acc_next f z (4 * j.val + 2) _ (by omega)
  have a2 : acc f z (pointOf j 2).val (pointOf j 2).isLt = f (pointOf j 2) (acc f z (pointOf j 1).val (pointOf j 1).isLt) :=
    acc_next f z (4 * j.val + 1) _ (by omega)
  have a1 : acc f z (pointOf j 1).val (pointOf j 1).isLt = f (pointOf j 1) (acc f z (pointOf j 0).val (pointOf j 0).isLt) :=
    acc_next f z (4 * j.val) _ (by omega)
  have a0 : acc f z (pointOf j 0).val (pointOf j 0).isLt = f (pointOf j 0) z := acc_head f z (4 * j.val) _ (by omega)
  rw [a3, e3, a2, e2, a1, e1, a0, e0, hz, zero_add, sum_rows, EReal.coe_add, EReal.coe_add, EReal.coe_add]

end Cert.Own.Grad

end
-- ==== Proof.GradRef.lean ====
/- The reference of the feed-forward gradient, index by index, on finite arguments. -/
module

public import proofs.«01_k».proof.Proof.Gen.ReferenceGradIdeal.Read
public import proofs.«01_k».proof.Proof.GradSpec
public import Idealize.ShloMosaic.Lib.KernelVsHost

@[expose] public section

set_option maxRecDepth 16384

noncomputable section

namespace Cert.Own.GradRef

open Idealize.ShloMosaic Idealize.ShloMosaic.TcCoe Idealize.SL.Sem Idealize.ShloMosaic.StableHlo
open Cert.ReferenceGradIdeal Cert.ReferenceGradIdeal.Gen Cert.ReferenceGradIdeal.Read
open Cert.Own Cert.Own.Attn Cert.Own.Grad

variable (x0 : Vec Ideal S4096x1024 .f32) (x1 : Vec Ideal S4096x1024 .bf16) (x2 x3 x4 : Vec Ideal S2816x1024 .bf16) (X : Args)
  (h0 : ∀ r l, x0 (ix2 r l) = ((X.d r l : ℝ) : EReal)) (h1 : ∀ r l, x1 (ix2 r l) = ((X.h r l : ℝ) : EReal))
  (h2 : ∀ r l, x2 (ix2 r l) = ((X.g r l : ℝ) : EReal)) (h3 : ∀ r l, x3 (ix2 r l) = ((X.u r l : ℝ) : EReal))
  (h4 : ∀ r l, x4 (ix2 r l) = ((X.w r l : ℝ) : EReal))

section Up
include h1

theorem pre_at (h2 : ∀ r l, x2 (ix2 r l) = ((X.g r l : ℝ) : EReal)) (r : Fin 4096) (n : Fin 2816) : val_main_v6 (F := Ideal) x1 x2 (ix2 r n) = ((pre X r n : ℝ) : EReal) := by
  pointwise [val_main_v6, val_main_v0, val_main_v2, val_main_v1]
  exact sum_real _ _ fun k => by rw [h1, h2, ← EReal.coe_mul]
theorem lin_at (h3 : ∀ r l, x3 (ix2 r l) = ((X.u r l : ℝ) : EReal)) (r : Fin 4096) (n : Fin 2816) : val_main_v7 (F := Ideal) x1 x3 (ix2 r n) = ((lin X r n : ℝ) : EReal) := by
  pointwise [val_main_v7, val_main_v0, val_main_v4, val_main_v3]
  exact sum_real _ _ fun k => by rw [h1, h3, ← EReal.coe_mul]
include h2
theorem sg_at (r : Fin 4096) (n : Fin 2816) : val_main_v8_2 (F := Ideal) x1 x2 (ix2 r n) = ((sg (pre X r n) : ℝ) : EReal) := by
  pointwise [val_main_v8_2, val_main_call0_v4, val_main_call0_cst_0, val_main_call0_v3, val_main_call0_v2, val_main_call0_cst, val_main_call0_v1, val_main_call0_v0]
  rw [pre_at x1 x2 X h1 h2]
  exact sg_div _
theorem slope_at (r : Fin 4096) (n : Fin 2816) :
    val_main_v8_1 (F := Ideal) x1 x2 (ix2 r n) = ((sg (pre X r n) * (1 - sg (pre X r n)) : ℝ) : EReal) := by
  pointwise [val_main_v8_1, val_main_call0_v7, val_main_call0_v6, val_main_call0_cst_1]
  rw [sg_at x1 x2 X h1 h2, EReal.coe_mul, EReal.coe_sub]
  rfl
theorem silu_at (r : Fin 4096) (n : Fin 2816) :
    val_main_v8_0 (F := Ideal) x1 x2 (ix2 r n) = ((pre X r n * sg (pre X r n) : ℝ) : EReal) := by
  pointwise [val_main_v8_0]
  rw [sg_at x1 x2 X h1 h2, pre_at x1 x2 X h1 h2, EReal.coe_mul]
include h3
theorem gv_at (r : Fin 4096) (n : Fin 2816) : val_main_v9 (F := Ideal) x1 x2 x3 (ix2 r n) = ((gv X r n : ℝ) : EReal) := by
  pointwise [val_main_v9]
  rw [silu_at x1 x2 X h1 h2, lin_at x1 x3 X h1 h3, ← EReal.coe_mul]
  rfl
end Up

include h0
theorem half_at (r : Fin 4096) (k : Fin 1024) : val_main_v14 (F := Ideal) x0 (ix2 r k) = ((halfD X r k : ℝ) : EReal) := by
  pointwise [val_main_v14, val_main_v13, val_main_cst_0]
  rw [half_word, h0, ← EReal.coe_mul]
  rfl
section Down
include h1 h2 h3
theorem dw_at (n : Fin 2816) (l : Fin 1024) : val_main_v16 (F := Ideal) x0 x1 x2 x3 (ix2 n l) = ((dw X n l : ℝ) : EReal) := by
  pointwise [val_main_v16, val_main_v15]
  exact sum_real _ _ fun r => by rw [half_at x0 X h0, gv_at x1 x2 x3 X h1 h2 h3, ← EReal.coe_mul, mul_comm]
end Down
include h4
theorem ds_at (r : Fin 4096) (n : Fin 2816) : val_main_v17 (F := Ideal) x0 x4 (ix2 r n) = ((ds X r n : ℝ) : EReal) := by
  pointwise [val_main_v17, val_main_v5]
  exact sum_real _ _ fun k => by rw [half_at x0 X h0, h4, ← EReal.coe_mul]
include h1 h2
theorem db_at (r : Fin 4096) (n : Fin 2816) : val_main_v18 (F := Ideal) x0 x1 x2 x4 (ix2 r n) = ((db X r n : ℝ) : EReal) := by
  pointwise [val_main_v18]
  rw [silu_at x1 x2 X h1 h2, ds_at x0 x4 X h0 h4, ← EReal.coe_mul, mul_comm]
  rfl
theorem db_out (r : Fin 4096) (n : Fin 2816) : val_main_v28 (F := Ideal) x0 x1 x2 x4 (ix2 r n) = ((db X r n : ℝ) : EReal) := by
  pointwise [val_main_v28]
  exact db_at x0 x1 x2 x4 X h0 h1 h2 h4 r n
theorem du_at (n : Fin 2816) (l : Fin 1024) : val_main_v30 (F := Ideal) x0 x1 x2 x4 (ix2 n l) = ((du X n l : ℝ) : EReal) := by
  pointwise [val_main_v30, val_main_v26, val_main_v22, val_main_v21, val_main_v0]
  exact sum_real _ _ fun r => by rw [db_at x0 x1 x2 x4 X h0 h1 h2 h4, h1, ← EReal.coe_mul]
include h3
theorem da_at (r : Fin 4096) (n : Fin 2816) : val_main_v20 (F := Ideal) x0 x1 x2 x3 x4 (ix2 r n) = ((da X r n : ℝ) : EReal) := by
  pointwise [val_main_v20, val_main_call1_v2, val_main_call1_v1, val_main_call1_v0, val_main_v19]
  rw [ds_at x0 x4 X h0 h4, lin_at x1 x3 X h1 h3, pre_at x1 x2 X h1 h2, sg_at x1 x2 X h1 h2, slope_at x1 x2 X h1 h2]
  simp only [← EReal.coe_mul, ← EReal.coe_add]
  refine congrArg _ ?_
  unfold da
  ring
theorem da_out (r : Fin 4096) (n : Fin 2816) : val_main_v27 (F := Ideal) x0 x1 x2 x3 x4 (ix2 r n) = ((da X r n : ℝ) : EReal) := by
  pointwise [val_main_v27]
  exact da_at x0 x1 x2 x3 x4 X h0 h1 h2 h3 h4 r n
theorem dg_at (n : Fin 2816) (l : Fin 1024) : val_main_v29 (F := Ideal) x0 x1 x2 x3 x4 (ix2 n l) = ((dg X n l : ℝ) : EReal) := by
  pointwise [val_main_v29, val_main_v25, val_main_v24, val_main_v23, val_main_v0]
  exact sum_real _ _ fun r => by rw [da_at x0 x1 x2 x3 x4 X h0 h1 h2 h3 h4, h1, ← EReal.coe_mul]
omit h4
theorem dw_out (n : Fin 2816) (l : Fin 1024) : val_main_v31 (F := Ideal) x0 x1 x2 x3 (ix2 n l) = ((dw X n l : ℝ) : EReal) := by
  pointwise [val_main_v31]
  exact dw_at x0 x1 x2 x3 X h0 h1 h2 h3 n l

end Cert.Own.GradRef

end
-- ==== Proof.GradArray.lean ====
/- The feed-forward gradient's kernel over its whole grid, of finite arguments: the five arrays it leaves, index by index. -/
module

public import proofs.«01_k».proof.Proof.GradPoint
public import proofs.«01_k».proof.Proof.GradRef

@[expose] public section

set_option maxRecDepth 16384

noncomputable section

namespace Cert.Own.Grad

open Idealize.ShloMosaic Idealize.ShloMosaic.TcCoe Idealize.SL.Sem Idealize.ShloMosaic.StableHlo
open Cert.KernelGradIdeal Cert.KernelGradIdeal.Gen
open Cert.ReferenceGradIdeal.Read (val_main_v6 val_main_v7)
open Cert.Own Cert.Own.Attn

/-! ## The blocks' places -/

theorem index0 : ∀ r : Fin 4, win0_0.index (keeper r) = ![r.val, 0] := by decide +kernel
theorem index1 : ∀ r : Fin 4, win0_1.index (keeper r) = ![r.val, 0] := by decide +kernel
theorem index2 : ∀ t : Fin cfg0.N, win0_2.index t = ![t.val % 4, t.val / 4] := by decide +kernel
theorem index3 : ∀ t : Fin cfg0.N, win0_3.index t = ![t.val % 4, t.val / 4] := by decide +kernel
theorem index4 : ∀ t : Fin cfg0.N, win0_4.index t = ![t.val / 4, 0] := by decide +kernel
theorem index5 : ∀ t : Fin cfg0.N, win0_5.index t = ![t.val % 4, t.val / 4] := by decide +kernel
theorem index6 : ∀ t : Fin cfg0.N, win0_6.index t = ![t.val % 4, t.val / 4] := by decide +kernel
theorem index7 : ∀ t : Fin cfg0.N, win0_7.index t = ![t.val / 4, 0] := by decide +kernel
theorem index8 : ∀ t : Fin cfg0.N, win0_8.index t = ![t.val / 4, 0] := by decide +kernel
theorem index9 : ∀ t : Fin cfg0.N, win0_9.index t = ![t.val / 4, 0] := by decide +kernel

/-- The group of hidden columns of a point. -/
def colsOf (t : Fin cfg0.N) : Fin 11 := ⟨t.val / 4, by have : t.val < 44 := lt_of_lt_of_eq t.isLt N_0; omega⟩
/-- Hidden column `n` of group `j`. -/
def colOf (j : Fin 11) (n : Fin 256) : Fin 2816 := ⟨256 * j.val + n.val, by omega⟩
theorem row_point (j : Fin 11) (r : Fin 4) : row (pointOf j r) = r := Fin.ext (by show (4 * j.val + r.val) % 4 = r.val; omega)
theorem cols_point (j : Fin 11) (r : Fin 4) : colsOf (pointOf j r) = j := Fin.ext (by show (4 * j.val + r.val) / 4 = j.val; omega)
theorem point_last (t : Fin cfg0.N) (h : t.val % 4 = 3) : t = pointOf (colsOf t) 3 := Fin.ext (by show t.val = 4 * (t.val / 4) + 3; omega)

variable (m : (ℓ : Loc nD τ sig) → Buf (Elt Ideal) ℓ) (c : Dev nD)

/-! ## The gate and the linear half before the activation, as the host makes them -/

theorem pre_eq : V m c main_v4 = (truncf (F := Ideal) (φ := .f32) .bf16 (val_main_v6 (F := Ideal) (m ((c : Thread nD τ).loc main_arg1)) (m ((c : Thread nD τ).loc main_arg2))) bitsLt_bf16_f32 : Vec Ideal S4096x2816 .bf16) := by
  simp only [V, hostOps0, List.flatten_cons, List.flatten_nil, List.append_nil, List.cons_append, List.nil_append]
  entry_read
  rfl
theorem lin_eq : V m c main_v8 = (truncf (F := Ideal) (φ := .f32) .bf16 (val_main_v7 (F := Ideal) (m ((c : Thread nD τ).loc main_arg1)) (m ((c : Thread nD τ).loc main_arg3))) bitsLt_bf16_f32 : Vec Ideal S4096x2816 .bf16) := by
  simp only [V, hostOps0, List.flatten_cons, List.flatten_nil, List.append_nil, List.cons_append, List.nil_append]
  entry_read
  rfl

/-! ## The blocks, index by index -/

theorem blk0 (r : Fin 4) (p k : Fin 1024) :
    (iblk m c 0 (keeper r) : Vec Ideal S1024x1024 .f32) (ix2 p k) = (V m c main_arg0 : Vec Ideal S4096x1024 .f32) (ix2 (rowOf r p) k) := by
  unfold rowOf; blk_point [iblk, index0 r]
theorem blk1 (r : Fin 4) (p k : Fin 1024) :
    (iblk m c 1 (keeper r) : Vec Ideal S1024x1024 .bf16) (ix2 p k) = (V m c main_arg1 : Vec Ideal S4096x1024 .bf16) (ix2 (rowOf r p) k) := by
  unfold rowOf; blk_point [iblk, index1 r]
theorem blk4 (t : Fin cfg0.N) (n : Fin 256) (k : Fin 1024) :
    (iblk m c 4 t : Vec Ideal S256x1024 .bf16) (ix2 n k) = (V m c main_arg4 : Vec Ideal S2816x1024 .bf16) (ix2 (colOf (colsOf t) n) k) := by
  unfold colOf colsOf; blk_point [iblk, index4 t]
theorem emb2 (t : Fin cfg0.N) (p : Fin 1024) (n : Fin 256) :
    ((win0_2.blk t).view.emb (ix2 p n) : S4096x2816.Idx) = ix2 (rowOf (row t) p) (colOf (colsOf t) n) := by
  funext a; apply Fin.ext
  match a with
  | ⟨0, _⟩ =>
    show win0_2.index t 0 * 1024 + 1 * p.val = 1024 * (t.val % 4) + p.val
    rw [index2 t]; show t.val % 4 * 1024 + 1 * p.val = 1024 * (t.val % 4) + p.val; omega
  | ⟨1, _⟩ =>
    show win0_2.index t 1 * 256 + 1 * n.val = 256 * (t.val / 4) + n.val
    rw [index2 t]; show t.val / 4 * 256 + 1 * n.val = 256 * (t.val / 4) + n.val; omega
theorem emb3 (t : Fin cfg0.N) (p : Fin 1024) (n : Fin 256) :
    ((win0_3.blk t).view.emb (ix2 p n) : S4096x2816.Idx) = ix2 (rowOf (row t) p) (colOf (colsOf t) n) := by
  funext a; apply Fin.ext
  match a with
  | ⟨0, _⟩ =>
    show win0_3.index t 0 * 1024 + 1 * p.val = 1024 * (t.val % 4) + p.val
    rw [index3 t]; show t.val % 4 * 1024 + 1 * p.val = 1024 * (t.val % 4) + p.val; omega
  | ⟨1, _⟩ =>
    show win0_3.index t 1 * 256 + 1 * n.val = 256 * (t.val / 4) + n.val
    rw [index3 t]; show t.val / 4 * 256 + 1 * n.val = 256 * (t.val / 4) + n.val; omega
theorem read2 (x : Vec Ideal S4096x2816 .bf16) (t : Fin cfg0.N) (p : Fin 1024) (n : Fin 256) :
    ((win0_2.blk t).view.read (Elt Ideal) x : Vec Ideal S1024x256 .bf16) (ix2 p n) = x (ix2 (rowOf (row t) p) (colOf (colsOf t) n)) :=
  congrArg x (emb2 t p n)
theorem read3 (x : Vec Ideal S4096x2816 .bf16) (t : Fin cfg0.N) (p : Fin 1024) (n : Fin 256) :
    ((win0_3.blk t).view.read (Elt Ideal) x : Vec Ideal S1024x256 .bf16) (ix2 p n) = x (ix2 (rowOf (row t) p) (colOf (colsOf t) n)) :=
  congrArg x (emb3 t p n)
theorem blk2 (t : Fin cfg0.N) (p : Fin 1024) (n : Fin 256) :
    (iblk m c 2 t : Vec Ideal S1024x256 .bf16) (ix2 p n) = (V m c main_v4 : Vec Ideal S4096x2816 .bf16) (ix2 (rowOf (row t) p) (colOf (colsOf t) n)) := by
  unfold iblk
  exact read2 (V m c main_v4) t p n
theorem blk3 (t : Fin cfg0.N) (p : Fin 1024) (n : Fin 256) :
    (iblk m c 3 t : Vec Ideal S1024x256 .bf16) (ix2 p n) = (V m c main_v8 : Vec Ideal S4096x2816 .bf16) (ix2 (rowOf (row t) p) (colOf (colsOf t) n)) := by
  unfold iblk
  exact read3 (V m c main_v8) t p n

/-- The five arguments are finite: these real arrays. -/
structure Finite (X : Args) : Prop where
  d : ∀ r l, (m ((c : Thread nD τ).loc main_arg0) : Vec Ideal S4096x1024 .f32) (ix2 r l) = ((X.d r l : ℝ) : EReal)
  h : ∀ r l, (m ((c : Thread nD τ).loc main_arg1) : Vec Ideal S4096x1024 .bf16) (ix2 r l) = ((X.h r l : ℝ) : EReal)
  g : ∀ r l, (m ((c : Thread nD τ).loc main_arg2) : Vec Ideal S2816x1024 .bf16) (ix2 r l) = ((X.g r l : ℝ) : EReal)
  u : ∀ r l, (m ((c : Thread nD τ).loc main_arg3) : Vec Ideal S2816x1024 .bf16) (ix2 r l) = ((X.u r l : ℝ) : EReal)
  w : ∀ r l, (m ((c : Thread nD τ).loc main_arg4) : Vec Ideal S2816x1024 .bf16) (ix2 r l) = ((X.w r l : ℝ) : EReal)

variable {X : Args} (hX : Finite m c X)
include hX

/-! ## A point's values -/

theorem preBlock_at (t : Fin cfg0.N) (p : Fin 1024) (n : Fin 256) :
    (iblk m c 2 t : Vec Ideal S1024x256 .bf16) (ix2 p n) = ((pre X (rowOf (row t) p) (colOf (colsOf t) n) : ℝ) : EReal) := by
  refine (blk2 m c t p n).trans ?_
  rw [pre_eq]
  exact GradRef.pre_at _ _ X hX.h hX.g _ _
theorem linBlock_at (t : Fin cfg0.N) (p : Fin 1024) (n : Fin 256) :
    (iblk m c 3 t : Vec Ideal S1024x256 .bf16) (ix2 p n) = ((lin X (rowOf (row t) p) (colOf (colsOf t) n) : ℝ) : EReal) := by
  refine (blk3 m c t p n).trans ?_
  rw [lin_eq]
  exact GradRef.lin_at _ _ X hX.h hX.u _ _
theorem outRows_at (r : Fin 4) (p k : Fin 1024) : outRows m c r (ix2 p k) = ((halfD X (rowOf r p) k : ℝ) : EReal) := by
  unfold outRows
  rw [half_at]
  refine (congrArg (_ * ·) (blk0 m c r p k)).trans ?_
  rw [V_main_arg0]
  refine (congrArg (_ * ·) (hX.d _ _)).trans ?_
  rw [← EReal.coe_mul]; rfl
theorem inRows_at (r : Fin 4) (p k : Fin 1024) : inRows m c r (ix2 p k) = ((X.h (rowOf r p) k : ℝ) : EReal) := by
  unfold inRows
  rw [kept_at]
  refine (blk1 m c r p k).trans ?_
  rw [V_main_arg1]
  exact hX.h _ _
theorem weight_at (t : Fin cfg0.N) (n : Fin 256) (k : Fin 1024) :
    (iblk m c 4 t : Vec Ideal S256x1024 .bf16) (ix2 n k) = ((X.w (colOf (colsOf t) n) k : ℝ) : EReal) := by
  refine (blk4 m c t n k).trans ?_
  rw [V_main_arg4]
  exact hX.w _ _

omit hX in
theorem quarter_at (w : Vec Ideal S1024x1024 .bf16) (p k : Fin 1024) :
    quarter w ⟨p.val / 256, by have := p.isLt; omega⟩ (ix2 ⟨p.val % 256, Nat.mod_lt _ (by decide)⟩ k) = w (ix2 p k) :=
  congrArg w (ext2 (by show 256 * (p.val / 256) + p.val % 256 = p.val; omega) rfl)

theorem hidden_at (t : Fin cfg0.N) (p : Fin 1024) (n : Fin 256) :
    hidden m c t (ix2 p n) = ((ds X (rowOf (row t) p) (colOf (colsOf t) n) : ℝ) : EReal) := by
  refine (product_at (quarter (outRows m c (row t)) ⟨p.val / 256, by have := p.isLt; omega⟩) (iblk m c 4 t) ⟨p.val % 256, Nat.mod_lt _ (by decide)⟩ n).trans ?_
  exact sum_real _ _ fun k => by rw [quarter_at, outRows_at m c hX, weight_at m c hX, ← EReal.coe_mul]

theorem gateOut_at (t : Fin cfg0.N) (p : Fin 1024) (n : Fin 256) : gateOut m c t (ix2 p n) = ((da X (rowOf (row t) p) (colOf (colsOf t) n) : ℝ) : EReal) :=
  gateGrad_at _ _ _ p n _ _ _ (preBlock_at m c hX t p n) (linBlock_at m c hX t p n) (hidden_at m c hX t p n)
theorem linOut_at (t : Fin cfg0.N) (p : Fin 1024) (n : Fin 256) : linOut m c t (ix2 p n) = ((db X (rowOf (row t) p) (colOf (colsOf t) n) : ℝ) : EReal) :=
  linGrad_at _ _ p n _ _ (preBlock_at m c hX t p n) (hidden_at m c hX t p n)
theorem gatedOut_at (t : Fin cfg0.N) (p : Fin 1024) (n : Fin 256) : gatedOut m c t (ix2 p n) = ((gv X (rowOf (row t) p) (colOf (colsOf t) n) : ℝ) : EReal) :=
  gated_at _ _ p n _ _ (preBlock_at m c hX t p n) (linBlock_at m c hX t p n)

/-! ## The running sums after a group -/

theorem accG_at (j : Fin 11) (n : Fin 256) (l : Fin 1024) : accG m c (pointOf j 3) (ix2 n l) = ((dg X (colOf j n) l : ℝ) : EReal) :=
  acc_rows (stepG m c) (k0_pay9 (F := Ideal)) (ix2 n l) (fun r => da X r (colOf j n) * X.h r l) j (zeroG_at n l) fun r x => by
    unfold stepG
    rw [stepG_at, row_point]
    exact congrArg (_ + ·) (sum_real _ _ fun p => by rw [gateOut_at m c hX, inRows_at m c hX, row_point, cols_point, ← EReal.coe_mul])
theorem accU_at (j : Fin 11) (n : Fin 256) (l : Fin 1024) : accU m c (pointOf j 3) (ix2 n l) = ((du X (colOf j n) l : ℝ) : EReal) :=
  acc_rows (stepU m c) (k0_pay10 (F := Ideal)) (ix2 n l) (fun r => db X r (colOf j n) * X.h r l) j (zeroU_at n l) fun r x => by
    unfold stepU
    rw [stepU_at, row_point]
    exact congrArg (_ + ·) (sum_real _ _ fun p => by rw [linOut_at m c hX, inRows_at m c hX, row_point, cols_point, ← EReal.coe_mul])
theorem accD_at (j : Fin 11) (n : Fin 256) (l : Fin 1024) : accD m c (pointOf j 3) (ix2 n l) = ((dw X (colOf j n) l : ℝ) : EReal) :=
  acc_rows (stepD m c) (k0_pay11 (F := Ideal)) (ix2 n l) (fun r => gv X r (colOf j n) * halfD X r l) j (zeroD_at n l) fun r x => by
    unfold stepD
    rw [stepD_at, row_point]
    exact congrArg (_ + ·) (sum_real _ _ fun p => by rw [gatedOut_at m c hX, outRows_at m c hX, row_point, cols_point, ← EReal.coe_mul])

/-! ## The arrays -/

/-- A function of the reals as an array. -/
def hiddenArr (g : Fin 4096 → Fin 2816 → ℝ) (r : Fin 4096) (n : Fin 2816) : EReal := ((g r n : ℝ) : EReal)
def weightArr (g : Fin 2816 → Fin 1024 → ℝ) (n : Fin 2816) (l : Fin 1024) : EReal := ((g n l : ℝ) : EReal)

theorem fin5 : (dats m 0 c).arrAt 5 cfg0.N = fun i : S4096x2816.Idx => hiddenArr (da X) (i 0) (i 1) := by
  refine (dats m 0 c).arrAt_eq_of_covers 5 _ (by decide +kernel) fun t hf y => ?_
  blk_simp
  rw [after0_5]
  obtain ⟨p, n, hy⟩ : ∃ (p : Fin 1024) (n : Fin 256), y = ix2 p n := pair_of y
  subst hy
  rw [gateOut_at m c hX t]
  show hiddenArr (da X) _ _ = _
  refine congrArg₂ (hiddenArr _) (Fin.ext ?_) (Fin.ext ?_)
  · show 1024 * (t.val % 4) + p.val = win0_5.index t 0 * 1024 + 1 * p.val
    rw [index5 t]; show 1024 * (t.val % 4) + p.val = t.val % 4 * 1024 + 1 * p.val; omega
  · show 256 * (t.val / 4) + n.val = win0_5.index t 1 * 256 + 1 * n.val
    rw [index5 t]; show 256 * (t.val / 4) + n.val = t.val / 4 * 256 + 1 * n.val; omega
theorem fin6 : (dats m 0 c).arrAt 6 cfg0.N = fun i : S4096x2816.Idx => hiddenArr (db X) (i 0) (i 1) := by
  refine (dats m 0 c).arrAt_eq_of_covers 6 _ (by decide +kernel) fun t hf y => ?_
  blk_simp
  rw [after0_6]
  obtain ⟨p, n, hy⟩ : ∃ (p : Fin 1024) (n : Fin 256), y = ix2 p n := pair_of y
  subst hy
  rw [linOut_at m c hX t]
  show hiddenArr (db X) _ _ = _
  refine congrArg₂ (hiddenArr _) (Fin.ext ?_) (Fin.ext ?_)
  · show 1024 * (t.val % 4) + p.val = win0_6.index t 0 * 1024 + 1 * p.val
    rw [index6 t]; show 1024 * (t.val % 4) + p.val = t.val % 4 * 1024 + 1 * p.val; omega
  · show 256 * (t.val / 4) + n.val = win0_6.index t 1 * 256 + 1 * n.val
    rw [index6 t]; show 256 * (t.val / 4) + n.val = t.val / 4 * 256 + 1 * n.val; omega
theorem fin7 : (dats m 0 c).arrAt 7 cfg0.N = fun i : S2816x1024.Idx => weightArr (dg X) (i 0) (i 1) := by
  refine (dats m 0 c).arrAt_eq_of_covers 7 _ (by decide +kernel) fun t hf y => ?_
  blk_simp
  rw [after0_7]
  obtain ⟨n, l, hy⟩ : ∃ (n : Fin 256) (l : Fin 1024), y = ix2 n l := pair_of y
  subst hy
  have e := accG_at m c hX (colsOf t) n l
  rw [← point_last t ((flush0_7 t).mp hf)] at e
  refine ((outG_at _ n l).trans e).trans ?_
  show weightArr (dg X) _ _ = _
  refine congrArg₂ (weightArr _) (Fin.ext ?_) (Fin.ext ?_)
  · show 256 * (t.val / 4) + n.val = win0_7.index t 0 * 256 + 1 * n.val
    rw [index7 t]; show 256 * (t.val / 4) + n.val = t.val / 4 * 256 + 1 * n.val; omega
  · show l.val = win0_7.index t 1 * 1024 + 1 * l.val
    rw [index7 t]; show l.val = 0 * 1024 + 1 * l.val; omega
theorem fin8 : (dats m 0 c).arrAt 8 cfg0.N = fun i : S2816x1024.Idx => weightArr (du X) (i 0) (i 1) := by
  refine (dats m 0 c).arrAt_eq_of_covers 8 _ (by decide +kernel) fun t hf y => ?_
  blk_simp
  rw [after0_8]
  obtain ⟨n, l, hy⟩ : ∃ (n : Fin 256) (l : Fin 1024), y = ix2 n l := pair_of y
  subst hy
  have e := accU_at m c hX (colsOf t) n l
  rw [← point_last t ((flush0_8 t).mp hf)] at e
  refine ((outU_at _ n l).trans e).trans ?_
  show weightArr (du X) _ _ = _
  refine congrArg₂ (weightArr _) (Fin.ext ?_) (Fin.ext ?_)
  · show 256 * (t.val / 4) + n.val = win0_8.index t 0 * 256 + 1 * n.val
    rw [index8 t]; show 256 * (t.val / 4) + n.val = t.val / 4 * 256 + 1 * n.val; omega
  · show l.val = win0_8.index t 1 * 1024 + 1 * l.val
    rw [index8 t]; show l.val = 0 * 1024 + 1 * l.val; omega
theorem fin9 : (dats m 0 c).arrAt 9 cfg0.N = fun i : S2816x1024.Idx => weightArr (dw X) (i 0) (i 1) := by
  refine (dats m 0 c).arrAt_eq_of_covers 9 _ (by decide +kernel) fun t hf y => ?_
  blk_simp
  rw [after0_9]
  obtain ⟨n, l, hy⟩ : ∃ (n : Fin 256) (l : Fin 1024), y = ix2 n l := pair_of y
  subst hy
  have e := accD_at m c hX (colsOf t) n l
  rw [← point_last t ((flush0_9 t).mp hf)] at e
  refine ((outD_at _ n l).trans e).trans ?_
  show weightArr (dw X) _ _ = _
  refine congrArg₂ (weightArr _) (Fin.ext ?_) (Fin.ext ?_)
  · show 256 * (t.val / 4) + n.val = win0_9.index t 0 * 256 + 1 * n.val
    rw [index9 t]; show 256 * (t.val / 4) + n.val = t.val / 4 * 256 + 1 * n.val; omega
  · show l.val = win0_9.index t 1 * 1024 + 1 * l.val
    rw [index9 t]; show l.val = 0 * 1024 + 1 * l.val; omega

end Cert.Own.Grad

end
-- ==== Proof.GradClaim.lean ====
/- The claims about the feed-forward gradient: the runs of the three programs, and the results of the two equal on finite arguments. -/
module

public import proofs.«01_k».proof.Defs
public import proofs.«01_k».proof.Proof.Gen.Pre_finite_inputs
public import proofs.«01_k».proof.Proof.Gen.KernelGrad.Frame
public import proofs.«01_k».proof.Proof.Gen.ReferenceGradIdeal.Run
public import proofs.«01_k».proof.Proof.GradArray
public import Idealize.ShloMosaic.Lib.Claim

@[expose] public section

set_option maxRecDepth 100000

noncomputable section

namespace Cert.Own.GradClaim

open Idealize.ShloMosaic Idealize.ShloMosaic.TcCoe Idealize.SL.Sem
open Cert.Own Cert.Own.Attn Cert.Own.Grad

/-! ## The frame of the program over machine floats, from the one run -/

section Frame
attribute [local instance] Cert.KernelGrad.Gen.facts

theorem body_same : Cert.KernelGrad.cc0_ffn_grads (F := Bits) = Cert.KernelGradIdeal.cc0_ffn_grads (F := Bits) := rfl

theorem table_same : Cert.KernelGrad.defs₀ (F := Bits) = Cert.KernelGradIdeal.defs₀ (F := Bits) :=
  congrArg Defs.onTc (funext fun l => funext fun a => match l, a with
    | 0, (t, s) => by
      show Cert.KernelGrad.cc0_ffn_grads (F := Bits) _ _ _ _ _ _ _ _ _ _ _ _ _ _ _ _ _ _ _ _ _ _ _ _ _ _ _ _ _ _ _ _ _ _ _ = _
      rw [body_same]
      rfl)

theorem defs_same : Cert.KernelGrad.defs (F := Bits) = Cert.KernelGradIdeal.defs (F := Bits) :=
  congrArg (Pipeline.defs (Cert.KernelGradIdeal.pcfgs (F := Bits))) table_same

theorem frame_kernel : Cert.quiescent_KernelGrad (hKernelGrad := Cert.KernelGrad.Gen.facts) := fun m ρ _ => by
  rw [defs_same]
  exact Cert.Own.Grad.frame (F := Bits) m ρ

end Frame

/-! ## Finite arguments are real numbers -/

/-- A conjunction over a list holds of every entry. -/
theorem all_of_foldl {ι : Type} (x : ι → BitVec 1) (L : List ι) (b : BitVec 1) (h : L.foldl (fun r i => IntOp.andi r (x i)) b = 1#1) :
    b = 1#1 ∧ ∀ i ∈ L, x i = 1#1 := by
  induction L generalizing b with
  | nil => exact ⟨h, fun i hi => absurd hi List.not_mem_nil⟩
  | cons a L ih =>
    obtain ⟨hb, hL⟩ := ih _ h
    obtain ⟨hb, ha⟩ := and_one hb
    refine ⟨hb, fun i hi => ?_⟩
    rcases List.mem_cons.mp hi with rfl | hi
    · exact ha
    · exact hL i hi

/-- A conjunction over a whole array holds of every entry. -/
theorem all_of_reduce {s : Shape} {axes : List (Fin s.rank)} (x : IVec s 1) (v : IVec ⟨0, ![]⟩ 1) (h : s.ReducesTo axes ⟨0, ![]⟩) (hu : 0 < (⟨0, ![]⟩ : Shape).numel)
    (j : (⟨0, ![]⟩ : Shape).Idx) (e : Host.reduce IntOp.andi x v h hu j = 1#1) (i : s.Idx) : x i = 1#1 := by
  rw [Host.reduce_eq_foldl] at e
  refine (all_of_foldl x _ _ e).2 i (List.mem_filter.mpr ⟨List.mem_map.mpr ⟨s.rowMajor i, List.mem_finRange _, s.rowMajor.symm_apply_apply i⟩, ?_⟩)
  exact decide_eq_true (funext fun a => a.elim0)

abbrev Tokens := Vec Ideal Cert.KernelGradIdeal.S4096x1024 .bf16
abbrev Weights := Vec Ideal Cert.KernelGradIdeal.S2816x1024 .bf16

theorem finite_of_fn [inst : Cert.Pre_finite_inputs.Facts] (x0 : Vec Ideal Cert.KernelGradIdeal.S4096x1024 .f32) (x1 : Tokens) (x2 x3 x4 : Weights)
    (h : Cert.Pre_finite_inputs.fn (F := Ideal) x0 x1 x2 x3 x4 = fun _ => 1#1) :
    (∀ i, x0 i = ((EReal.toReal (x0 i) : ℝ) : EReal) ∧ x1 i = ((EReal.toReal (x1 i) : ℝ) : EReal))
      ∧ ∀ i, x2 i = ((EReal.toReal (x2 i) : ℝ) : EReal) ∧ x3 i = ((EReal.toReal (x3 i) : ℝ) : EReal) ∧ x4 i = ((EReal.toReal (x4 i) : ℝ) : EReal) := by
  obtain ⟨ht, hw⟩ := and_one (congrFun h ix0)
  refine ⟨fun i => ?_, fun i => ?_⟩
  · obtain ⟨e0, e1⟩ := and_one (all_of_reduce _ _ _ _ _ ht i)
    exact ⟨real_of_abs_lt _ e0, real_of_abs_lt _ e1⟩
  · obtain ⟨e, e4⟩ := and_one (all_of_reduce _ _ _ _ _ hw i)
    obtain ⟨e2, e3⟩ := and_one e
    exact ⟨real_of_abs_lt _ e2, real_of_abs_lt _ e3, real_of_abs_lt _ e4⟩

/-- The real numbers the five arguments hold. -/
def argsOf (x0 : Vec Ideal Cert.KernelGradIdeal.S4096x1024 .f32) (x1 : Tokens) (x2 x3 x4 : Weights) : Args where
  d r l := EReal.toReal (x0 (ix2 r l))
  h r l := EReal.toReal (x1 (ix2 r l))
  g r l := EReal.toReal (x2 (ix2 r l))
  u r l := EReal.toReal (x3 (ix2 r l))
  w r l := EReal.toReal (x4 (ix2 r l))

/-! ## The kernel's run, its results named -/

section Run
open Cert.KernelGradIdeal Cert.KernelGradIdeal.Gen

theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9_0) = (dats m 0 c).arrAt 5 cfg0.N
      ∧ r.2.mem ((c.tc : Thread nD τ).loc main_v9_1) = (dats m 0 c).arrAt 6 cfg0.N
      ∧ r.2.mem ((c.tc : Thread nD τ).loc main_v9_2) = (dats m 0 c).arrAt 7 cfg0.N
      ∧ r.2.mem ((c.tc : Thread nD τ).loc main_v9_3) = (dats m 0 c).arrAt 8 cfg0.N
      ∧ r.2.mem ((c.tc : Thread nD τ).loc main_v9_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, (h.1 c).1 9,
    ((h.1 c).1 0).trans (((dats m 0 c).arrAt_in 0 rfl _).trans (V_main_arg0 m c)),
    ((h.1 c).1 1).trans (((dats m 0 c).arrAt_in 1 rfl _).trans (V_main_arg1 m c)),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).1 4).trans (((dats m 0 c).arrAt_in 4 rfl _).trans (V_main_arg4 m c))⟩) (run_main m g)

theorem finite_of_pre (m : (ℓ : Loc nD τ sig) → Buf (Elt Ideal) ℓ)
    (h : Cert.Pre_KernelGradIdeal_finite_inputs (hPre_finite_inputs := Cert.Pre_finite_inputs.Gen.facts) m) (c : Dev nD) :
    Finite m c (argsOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) :=
  have f := finite_of_fn (inst := Cert.Pre_finite_inputs.Gen.facts) _ _ _ _ _ (h c)
  { d := fun r l => (f.1 (ix2 r l)).1
    h := fun r l => (f.1 (ix2 r l)).2
    g := fun r l => (f.2 (ix2 r l)).1
    u := fun r l => (f.2 (ix2 r l)).2.1
    w := fun r l => (f.2 (ix2 r l)).2.2 }

end Run

/-! ## The results agree -/

theorem hidden_ext (x : Vec Ideal Cert.KernelGradIdeal.S4096x2816 .bf16) (g : Fin 4096 → Fin 2816 → ℝ) (h : ∀ r n, x (ix2 r n) = ((g r n : ℝ) : EReal)) :
    x = fun i : Cert.KernelGradIdeal.S4096x2816.Idx => hiddenArr g (i 0) (i 1) := by
  funext i
  obtain ⟨r, n, rfl⟩ := pair_of i
  exact h r n
theorem weight_ext (x : Weights) (g : Fin 2816 → Fin 1024 → ℝ) (h : ∀ n l, x (ix2 n l) = ((g n l : ℝ) : EReal)) :
    x = fun i : Cert.KernelGradIdeal.S2816x1024.Idx => weightArr g (i 0) (i 1) := by
  funext i
  obtain ⟨n, l, rfl⟩ := pair_of i
  exact h n l

theorem algebraic : Cert.algebraic_KernelGradIdeal_ReferenceGradIdeal_pre_finite_inputs (hKernelGradIdeal := Cert.KernelGradIdeal.Gen.facts) (hReferenceGradIdeal := Cert.ReferenceGradIdeal.Gen.facts)
    (hPre_finite_inputs := Cert.Pre_finite_inputs.Gen.facts) := by
  intro m g m' g' hpre hagree
  refine ⟨fun c => (dats m 0 c).arrAt 5 Cert.KernelGradIdeal.cfg0.N, fun c => (dats m 0 c).arrAt 6 Cert.KernelGradIdeal.cfg0.N,
    fun c => (dats m 0 c).arrAt 7 Cert.KernelGradIdeal.cfg0.N, fun c => (dats m 0 c).arrAt 8 Cert.KernelGradIdeal.cfg0.N,
    fun c => (dats m 0 c).arrAt 9 Cert.KernelGradIdeal.cfg0.N, kernel_run m g, ?_⟩
  refine θ_run_mono (Cert.ReferenceGradIdeal.Value.run (F := Ideal) m' g') ?_
  intro r hr c
  have hX := finite_of_pre m hpre c
  obtain ⟨e0, e1, e2, e3, e4⟩ := hagree c
  refine ⟨(hr c).1.trans ?_, (hr c).2.1.trans ?_, (hr c).2.2.1.trans ?_, (hr c).2.2.2.1.trans ?_, (hr c).2.2.2.2.1.trans ?_, (hr c).2.2.2.2.2⟩
  · rw [Cert.ReferenceGradIdeal.Read.val_main_v27_eq, e0, e1, e2, e3, e4]
    exact (hidden_ext _ _ (GradRef.da_out _ _ _ _ _ _ hX.d hX.h hX.g hX.u hX.w)).trans (fin5 m c hX).symm
  · rw [Cert.ReferenceGradIdeal.Read.val_main_v28_eq, e0, e1, e2, e4]
    exact (hidden_ext _ _ (GradRef.db_out _ _ _ _ _ hX.d hX.h hX.g hX.w)).trans (fin6 m c hX).symm
  · rw [Cert.ReferenceGradIdeal.Read.val_main_v29_eq, e0, e1, e2, e3, e4]
    exact (weight_ext _ _ (GradRef.dg_at _ _ _ _ _ _ hX.d hX.h hX.g hX.u hX.w)).trans (fin7 m c hX).symm
  · rw [Cert.ReferenceGradIdeal.Read.val_main_v30_eq, e0, e1, e2, e4]
    exact (weight_ext _ _ (GradRef.du_at _ _ _ _ _ hX.d hX.h hX.g hX.w)).trans (fin8 m c hX).symm
  · rw [Cert.ReferenceGradIdeal.Read.val_main_v31_eq, e0, e1, e2, e3]
    exact (weight_ext _ _ (GradRef.dw_out _ _ _ _ _ hX.d hX.h hX.g hX.u)).trans (fin9 m c hX).symm

theorem reference_frame : Cert.quiescent_ReferenceGradIdeal (hReferenceGradIdeal := Cert.ReferenceGradIdeal.Gen.facts) := fun m ρ _ =>
  (θ_run Cert.ReferenceGradIdeal.defs _ _).mono
    (fun r h => ⟨fun c => (h c).2.2.2.2.2, sem_eq_zero_of_no_sems (by decide) r.2⟩)
    (Cert.ReferenceGradIdeal.Value.run (F := Ideal) m ρ)

end Cert.Own.GradClaim

end
-- ==== Proof.FwdRun.lean ====
/- The feed-forward layer's kernel body at one grid point, by what it makes of the blocks it touches. -/
module

public import proofs.«01_k».proof.Proof.Gen.KernelFwdIdeal.Frame
public import proofs.«01_k».proof.Proof.Gen.KernelFwdIdeal.Skeleton
public import Idealize.ShloMosaic.Lib.VecWindow
public import Idealize.ShloMosaic.Lib.Exec
public import Idealize.ShloMosaic.Lib.Tactic

@[expose] public section

set_option maxRecDepth 16384

noncomputable section

namespace Cert.Own.Fwd

open Cert.KernelFwdIdeal Cert.KernelFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The normalised rows as the products find them: made at the first point of a row of points, found at the other. -/
def rows (i : grid0.Coords) (x : Vec F S512x1024 .f32) (g : Vec F S1x1024 .f32) (h : Vec F S512x1024 .bf16) : Vec F S512x1024 .bf16 :=
  if k0_cond1 i = 1#1 then k0_pay2 x g else h

/-- The running sum as the products find it. -/
def begun (i : grid0.Coords) (s : Vec F S512x1024 .f32) : Vec F S512x1024 .f32 := if k0_cond1 i = 1#1 then k0_pay3 (F := F) else s

/-- The layer's result as the body leaves it. -/
def left (i : grid0.Coords) (y x s : Vec F S512x1024 .f32) : Vec F S512x1024 .f32 := if k0_cond2 i = 1#1 then k0_pay1 x s else y

theorem step_congr {h h' : Vec F S512x1024 .bf16} {wg wu wd : Vec F S1408x1024 .bf16} {s s' : Vec F S512x1024 .f32} (eh : h = h') (es : s = s') :
    k0_pay9 h wg wu s wd = k0_pay9 h' wg wu s' wd := by rw [eh, es]

section Run

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole)

set_option maxHeartbeats 1600000 in
theorem body_run (x : Vec F S512x1024 .f32) (g : Vec F S1x1024 .f32) (wg wu wd : Vec F S1408x1024 .bf16) (y : Vec F S512x1024 .f32) (h : Vec F S512x1024 .bf16)
    (s : Vec F S512x1024 .f32) (E : Set ℕ) (K : PUnit → sProp 𝕄) :
    iprop(owns (c : Thread nD τ) arg2 fullShare x ∗ owns (c : Thread nD τ) arg3 fullShare g ∗ owns (c : Thread nD τ) arg4 fullShare wg
        ∗ owns (c : Thread nD τ) arg5 fullShare wu ∗ owns (c : Thread nD τ) arg6 fullShare wd ∗ owns (c : Thread nD τ) arg7 fullShare y
        ∗ owns (c : Thread nD τ) arg8 fullShare h ∗ (∃ d, owns (c : Thread nD τ) arg9 fullShare d) ∗ (∃ d, owns (c : Thread nD τ) arg10 fullShare d)
        ∗ owns (c : Thread nD τ) arg11 fullShare s
        ∗ (iprop(owns (c : Thread nD τ) arg2 fullShare x ∗ owns (c : Thread nD τ) arg3 fullShare g ∗ owns (c : Thread nD τ) arg4 fullShare wg
          ∗ owns (c : Thread nD τ) arg5 fullShare wu ∗ owns (c : Thread nD τ) arg6 fullShare wd
          ∗ owns (c : Thread nD τ) arg7 fullShare (left i y x (k0_pay9 (rows i x g h) wg wu (begun i s) wd))
          ∗ owns (c : Thread nD τ) arg8 fullShare (rows i x g h) ∗ owns (c : Thread nD τ) arg9 fullShare (k0_pay7 (rows i x g h) wg)
          ∗ owns (c : Thread nD τ) arg10 fullShare (k0_pay8 (rows i x g h) wu) ∗ owns (c : Thread nD τ) arg11 fullShare (k0_pay9 (rows i x g h) wg wu (begun i s) wd)) -∗ K ⟨⟩))
      ⊢ wp frame (wpE (defs₀ (F := F)) Variants.none c none) E (cc0_ffn_fwd (F := F) i arg2 harg2 arg3 harg3 arg4 harg4 arg5 harg5 arg6 harg6 arg7 harg7 arg8 harg8 arg9 harg9 arg10 harg10 arg11 harg11) K := by
  simp only [cc0_ffn_fwd_eq_skeleton]
  unfold cc0_ffn_fwd_skel
  simp only [k0_part1_eq_skeleton]
  unfold k0_part1_skel rows begun left owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, %h9, H9⟩, ⟨%d10, %f10, %h10, H10⟩, ⟨%f11, %h11, H11⟩, Hk⟩
  subst h2 h3 h4 h5 h6 h7 h8 h9 h10 h11
  have e2 := View.readAt_full (Val := Elt F) arg2.view f2 inb_S512x1024_S512x1024_0_0
  have e3 := View.readAt_full (Val := Elt F) arg3.view f3 inb_S1x1024_S1x1024_0_0
  have e4 := View.readAt_full (Val := Elt F) arg4.view f4 inb_S1408x1024_S1408x1024_0_0
  have e5 := View.readAt_full (Val := Elt F) arg5.view f5 inb_S1408x1024_S1408x1024_0_0
  have e6 := View.readAt_full (Val := Elt F) arg6.view f6 inb_S1408x1024_S1408x1024_0_0
  have e8 := View.readAt_full (Val := Elt F) arg8.view f8 inb_S512x1024_S512x1024_0_0
  have e11 := View.readAt_full (Val := Elt F) arg11.view f11 inb_S512x1024_S512x1024_0_0
  by_cases c1 : k0_cond1 i = 1#1 <;> by_cases c2 : k0_cond2 i = 1#1 <;>
  · simp only [c1, c2, if_true, if_false]
    sl_exec (disch := first | sl_exact c1 | sl_exact c2)
    sl_step
    iapply Hk
    isplitl [H2]
    · iexists _; isplitr; swap; · iexact H2
      ipureintro; first | rfl | (refine (View.read_writes_full _ _ _ _ _).trans ?_; simp only [View.readAt_writes_full, e2, e3, e4, e5, e6, e8, e11])
    isplitl [H3]
    · iexists _; isplitr; swap; · iexact H3
      ipureintro; first | rfl | (refine (View.read_writes_full _ _ _ _ _).trans ?_; simp only [View.readAt_writes_full, e2, e3, e4, e5, e6, e8, e11])
    isplitl [H4]
    · iexists _; isplitr; swap; · iexact H4
      ipureintro; first | rfl | (refine (View.read_writes_full _ _ _ _ _).trans ?_; simp only [View.readAt_writes_full, e2, e3, e4, e5, e6, e8, e11])
    isplitl [H5]
    · iexists _; isplitr; swap; · iexact H5
      ipureintro; first | rfl | (refine (View.read_writes_full _ _ _ _ _).trans ?_; simp only [View.readAt_writes_full, e2, e3, e4, e5, e6, e8, e11])
    isplitl [H6]
    · iexists _; isplitr; swap; · iexact H6
      ipureintro; first | rfl | (refine (View.read_writes_full _ _ _ _ _).trans ?_; simp only [View.readAt_writes_full, e2, e3, e4, e5, e6, e8, e11])
    isplitl [H7]
    · iexists _; isplitr; swap; · iexact H7
      ipureintro; first | rfl | (refine (View.read_writes_full _ _ _ _ _).trans (congrArg (k0_pay1 _) ?_); first | rfl | exact View.readCov_full _ _ _ _ _ | exact (View.readCov_full _ _ _ _ _).trans (step_congr (View.readCov_full _ _ _ _ _) (View.readCov_full _ _ _ _ _)))
    isplitl [H8]
    · iexists _; isplitr; swap; · iexact H8
      ipureintro; first | rfl | (refine (View.read_writes_full _ _ _ _ _).trans ?_; first | rfl)
    isplitl [H9]
    · iexists _; isplitr; swap; · iexact H9
      ipureintro; refine (View.read_writes_full _ _ _ _ _).trans (congrArg (fun r => k0_pay7 r _) ?_); first | rfl | exact View.readCov_full _ _ _ _ _
    isplitl [H10]
    · iexists _; isplitr; swap; · iexact H10
      ipureintro; refine (View.read_writes_full _ _ _ _ _).trans (congrArg (fun r => k0_pay8 r _) ?_); first | rfl | exact View.readCov_full _ _ _ _ _
    iexists _; isplitr; swap; · iexact H11
    ipureintro
    refine (View.read_writes_full _ _ _ _ _).trans (step_congr ?_ ?_) <;>
      first | rfl | exact View.readCov_full _ _ _ _ _

end Run

end Cert.Own.Fwd

end
-- ==== Proof.FwdFrame.lean ====
/- The feed-forward layer over the whole grid: the blocks every grid point finds and leaves, the run of the program to the
   arrays these make, and the frame. -/
module

public import proofs.«01_k».proof.Proof.FwdRun

@[expose] public section

set_option maxRecDepth 16384

noncomputable section

namespace Cert.Own.Fwd

open Cert.KernelFwdIdeal Cert.KernelFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val % 2 = 0 := by decide +kernel
theorem cond2_iff : ∀ t : Fin cfg0.N, k0_cond2 (grid0.coords t) = 1#1 ↔ t.val % 2 = 1 := by decide +kernel

/-- The first point of a point's row of points. -/
abbrev head (t : Fin cfg0.N) : Fin cfg0.N := ⟨t.val - t.val % 2, Nat.lt_of_le_of_lt (Nat.sub_le _ _) t.isLt⟩

theorem head_even (t : Fin cfg0.N) (h : t.val % 2 = 0) : head t = t := Fin.ext (by show t.val - t.val % 2 = t.val; omega)

/-- The normalised rows of a point's row of points. -/
def normed (c : Dev nD) (t : Fin cfg0.N) : Vec F S512x1024 .bf16 := k0_pay2 (iblk m c 0 (head t)) (iblk m c 1 (head t))

/-- A point's step of the running sum. -/
def step (c : Dev nD) (t : Fin cfg0.N) (s : Vec F S512x1024 .f32) : Vec F S512x1024 .f32 :=
  k0_pay9 (normed m c t) (iblk m c 2 t) (iblk m c 3 t) s (iblk m c 4 t)

/-- The running sum after a point. -/
def total (c : Dev nD) (t : Fin cfg0.N) : Vec F S512x1024 .f32 :=
  step m c t (if t.val % 2 = 0 then k0_pay3 (F := F) else step m c (head t) (k0_pay3 (F := F)))

/-- What the running sum's buffer is known to hold before point `n`. -/
def Known (c : Dev nD) (n : ℕ) (s : Vec F S512x1024 .f32) : Prop := ∀ t : Fin cfg0.N, n = t.val + 1 → s = total m c t

theorem total_step (c : Dev nD) (t : Fin cfg0.N) {s : Vec F S512x1024 .f32} (h : Known m c t.val s) : step m c t (begun (grid0.coords t) s) = total m c t := by
  unfold begun total
  refine congrArg (step m c t) ?_
  by_cases e : t.val % 2 = 0
  · rw [if_pos e, if_pos ((cond1_iff t).mpr e)]
  · rw [if_neg e, if_neg fun e' => e ((cond1_iff t).mp e')]
    rw [h (head t) (by show t.val = t.val - t.val % 2 + 1; omega)]
    unfold total
    rw [if_pos (by show (t.val - t.val % 2) % 2 = 0; omega)]

/-- Between points: the running sum at what is known of it. -/
def inv (c : Dev nD) (n : ℕ) : sProp 𝕄 :=
  iprop(∃ s, ⌜Known m c n s⌝ ∗ owns (c : Thread nD τ) (Memref.whole cc0_scratch0) fullShare s ∗ ∃ r, prngReg c r)

/-- The pipeline's proof data: the arrays as the region finds them, the inputs' blocks kept, the results' at what every
    point leaves, and between points the running sum at what is known of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (iblk m c 0 t) (total m c t)
    | ⟨6, _⟩ => normed m c t
    | ⟨7, _⟩ => k0_pay7 (normed m c t) (iblk m c 2 t)
    | ⟨8, _⟩ => k0_pay8 (normed m c t) (iblk m c 3 t)
  Φ t := inv m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay1 (iblk m c 0 t) (total m c t) := by dsimp only [dats]
theorem after0_6 (c : Dev nD) (t : Fin cfg0.N) : (dats m 0 c).after 6 t = normed m c t := by dsimp only [dats]
theorem after0_7 (c : Dev nD) (t : Fin cfg0.N) : (dats m 0 c).after 7 t = k0_pay7 (normed m c t) (iblk m c 2 t) := by dsimp only [dats]
theorem after0_8 (c : Dev nD) (t : Fin cfg0.N) : (dats m 0 c).after 8 t = k0_pay8 (normed m c t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The normalised rows are still in their buffer at the second point of a row of points. -/
theorem before0_6 (c : Dev nD) (t : Fin cfg0.N) (h : ¬ t.val % 2 = 0) (d) : (dats m 0 c).before 6 t d = normed m c t := by
  have hp : (⟨t.val - 1, by omega⟩ : Fin cfg0.N) = head t := Fin.ext (by show t.val - 1 = t.val - t.val % 2; omega)
  have he : (head t).val % 2 = 0 := by show (t.val - t.val % 2) % 2 = 0; omega
  unfold Dat.before
  rw [if_neg (by rw [(cfg0.win 6).fetch_out rfl]; exact Bool.false_ne_true), if_neg (by omega)]
  dsimp only
  rw [hp, if_neg (by intro e; have := (flush0_6 (head t)).mp e; omega),
    show idle0 6 (grid0.coords (head t)) = false from by
      show (!(k0_cond1 (grid0.coords (head t)) == 1#1)) = false
      rw [(cond1_iff (head t)).mpr he]; rfl]
  dsimp only
  unfold Dat.kept
  rw [Pipeline.fill_of_clip_none (cfg := cfg0) 6 _ (fun _ => rfl) d ((dats m 0 c).after 6 (head t)), Window.fill_cut, after0_6]
  unfold normed
  rw [head_even (head t) he]

/-- The rows the products find are the normalised rows of the point's row of points. -/
theorem rows_eq (c : Dev nD) (t : Fin cfg0.N) (d) : rows (grid0.coords t) (iblk m c 0 t) (iblk m c 1 t) ((dats m 0 c).before 6 t d) = normed m c t := by
  unfold rows
  by_cases h : t.val % 2 = 0
  · rw [if_pos ((cond1_iff t).mpr h)]
    unfold normed
    rw [head_even t h]
  · rw [if_neg fun e => h ((cond1_iff t).mp e), before0_6 m c t h]

/-- The layer's result, left at the second point of a row of points. -/
theorem leave5 (c : Dev nD) (t : Fin cfg0.N) (d) :
    owns (c : Thread nD τ) ((cfg0.win 5).stage (cfg0.slots t 5)) fullShare (left (grid0.coords t) ((dats m 0 c).before 5 t d) (iblk m c 0 t) (total m c t))
      ⊢ ((dats m 0 c).leavesExact 5 t : sProp 𝕄) := by
  unfold Dat.leavesExact left
  by_cases h : k0_cond2 (grid0.coords t) = 1#1
  · rw [if_pos h, show cfg0.idle 5 (cfg0.grid.coords t) = false from congrArg (fun b => !(b == 1#1)) h, after0_5]
  · rw [if_neg h, show cfg0.idle 5 (cfg0.grid.coords t) = true from by show (!(k0_cond2 (grid0.coords t) == 1#1)) = true; simp [h],
      show (cfg0.win 5).flush t = false from Bool.eq_false_iff.mpr fun e => h ((cond2_iff t).mpr ((flush0_5 t).mp e))]
    iintro H
    iexists _
    iexact H

/-- The normalised rows, left at every point. -/
theorem leave6 (c : Dev nD) (t : Fin cfg0.N) :
    owns (c : Thread nD τ) ((cfg0.win 6).stage (cfg0.slots t 6)) fullShare (normed m c t) ⊢ ((dats m 0 c).leavesExact 6 t : sProp 𝕄) := by
  unfold Dat.leavesExact
  by_cases h : t.val % 2 = 0
  · rw [show cfg0.idle 6 (cfg0.grid.coords t) = false from congrArg (fun b => !(b == 1#1)) ((cond1_iff t).mpr h), after0_6]
  · rw [show (cfg0.win 6).flush t = true from (flush0_6 t).mpr (by omega), after0_6]
    cases cfg0.idle 6 (cfg0.grid.coords t) <;> exact Entails.rfl

theorem phi_eq (c : Dev nD) :
    (Pipeline.ΦA spec0 c : sProp 𝕄)
      = iprop((∃ d, owns (c : Thread nD τ) (Memref.whole cc0_scratch0) fullShare d) ∗ ∃ r, prngReg c r) := by
  unfold Pipeline.ΦA
  rw [scopedRest0_eq]; simp only [owns_whole]

theorem phi_in (c : Dev nD) : (Pipeline.ΦA spec0 c : sProp 𝕄) ⊢ (dats m 0 c).Φ 0 := by
  rw [phi_eq, show (dats m 0 c).Φ 0 = inv m c 0 from rfl]
  unfold inv
  iintro ⟨⟨%s, HA⟩, HP⟩
  iexists s
  isplitr
  · ipureintro
    exact fun t e => absurd e (Nat.succ_ne_zero _).symm
  isplitl [HA]; · iexact HA
  iexact HP

theorem phi_out (c : Dev nD) : (dats m 0 c).Φ (Fin.last cfg0.N) ⊢ (Pipeline.ΦA spec0 c : sProp 𝕄) := by
  rw [phi_eq, show (dats m 0 c).Φ (Fin.last cfg0.N) = inv m c cfg0.N from rfl]
  unfold inv
  iintro ⟨%s, %hK, HA, HP⟩
  isplitl [HA]; · iexists s; iexact HA
  iexact HP

set_option maxHeartbeats 1600000 in
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = inv m c (t.val + 1) from rfl, show (dats m 0 c).Φ t.castSucc = inv m c t.val from rfl,
    show (dats m 0 c).owesAt () t.succ = (dats m 0 c).owesAt () t.castSucc from rfl, after0_0, after0_1, after0_2, after0_3, after0_4, after0_7, after0_8]
  unfold inv
  iintro ⟨⟨%s, %hK, HA, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) s Set.univ _)
  rw [rows_eq m c t d6, show k0_pay9 (normed m c t) (iblk m c 2 t) (iblk m c 3 t) (begun (grid0.coords t) s) (iblk m c 4 t) = total m c t from total_step m c t hK]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HA]; · iexact HA
  iintro ⟨H0, H1, H2, H3, H4, H5, H6, H7, H8, HA⟩
  isplitl [HA HP]
  · iexists _
    isplitr
    · ipureintro
      intro t' e
      rw [show t' = t from Fin.ext (Nat.succ_injective e).symm]
    isplitl [HA]; · iexact HA
    iexact HP
  isplitl [Ho]; · iexact Ho
  isplitl [H0]; · iexact H0
  isplitl [H1]; · iexact H1
  isplitl [H2]; · iexact H2
  isplitl [H3]; · iexact H3
  isplitl [H4]; · iexact H4
  isplitl [H5]; · iapply (leave5 m c t d5); iexact H5
  isplitl [H6]; · iapply (leave6 m c t); iexact H6
  isplitl [H7]; · iexact H7
  iexact H8

set_option backward.isDefEq.respectTransparency.types false in
/-- Every weakly fair execution of the program ends, with every array of the pipeline at what the proof data make of it and every
    semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := phi_in m) (hout := phi_out m)

/-- The frame: the arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Own.Fwd

end
-- ==== Proof.FwdSpec.lean ====
/- The feed-forward layer over the extended reals: the normalised rows, the two hidden products, the gated values and the
   layer's result. -/
module

public import proofs.«01_k».proof.Proof.Norm
public import proofs.«01_k».proof.Proof.GradSpec

@[expose] public section

noncomputable section

namespace Cert.Own.Fwd

open Idealize.ShloMosaic
open Cert.Own Cert.Own.Norm

/-- The sigmoid. -/
def sigmoid (a : EReal) : EReal := Ideal.div 1 (1 + Ideal.exp (-a))

/-- The sigmoid by the hyperbolic tangent of half the argument, infinite arguments included. -/
theorem tanh_sigmoid (a : EReal) :
    Ideal.ofBits .f32 0x3F000000#32 * Ideal.tanh (Ideal.ofBits .f32 0x3F000000#32 * a) + Ideal.ofBits .f32 0x3F000000#32 = sigmoid a := by
  unfold sigmoid
  rw [Grad.half_word]
  induction a using EReal.rec with
  | bot =>
    rw [EReal.coe_mul_bot_of_pos (by norm_num), Ideal.tanh_bot, EReal.neg_bot, Ideal.exp_top, EReal.add_top_of_ne_bot (by decide)]
    have e : Ideal.div 1 ⊤ = 0 := by
      unfold Ideal.div
      rw [if_neg (by simp), EReal.inv_top, mul_zero]
    rw [e, show (-1 : EReal) = ((-1 : ℝ) : EReal) from by rw [EReal.coe_neg, EReal.coe_one], ← EReal.coe_mul, ← EReal.coe_add]
    norm_num
  | top =>
    rw [EReal.coe_mul_top_of_pos (by norm_num), Ideal.tanh_top, EReal.neg_top, Ideal.exp_bot, add_zero, mul_one, ← EReal.coe_add,
      show (1 : EReal) = ((1 : ℝ) : EReal) from rfl, Ideal.div_coe one_ne_zero, ← EReal.coe_mul]
    norm_num
  | coe a =>
    rw [← EReal.coe_mul, Ideal.tanh_coe, ← EReal.coe_mul, ← EReal.coe_add, Grad.tanh_half]
    exact (Grad.sg_div a).symm

/-- The layer's input rows, its gain, and its three weights, a row of each for every hidden column. -/
structure Args where
  x : Fin 4096 → Fin 1024 → EReal
  g : Fin 1024 → EReal
  wg : Fin 2816 → Fin 1024 → EReal
  wu : Fin 2816 → Fin 1024 → EReal
  wd : Fin 2816 → Fin 1024 → EReal

section Spec
variable (X : Args)

/-- The normalised rows. -/
def normal (r : Fin 4096) (l : Fin 1024) : EReal := X.x r l * scale (X.x r) * X.g l
/-- The gate and the linear half before the activation. -/
def pre (r : Fin 4096) (n : Fin 2816) : EReal := ∑ k, normal X r k * X.wg n k
def lin (r : Fin 4096) (n : Fin 2816) : EReal := ∑ k, normal X r k * X.wu n k
/-- The gated values. -/
def gated (r : Fin 4096) (n : Fin 2816) : EReal := pre X r n * sigmoid (pre X r n) * lin X r n
/-- The layer's result. -/
def result (r : Fin 4096) (l : Fin 1024) : EReal := X.x r l + Ideal.ofBits .f32 0x3F000000#32 * ∑ n, gated X r n * X.wd n l
end Spec

/-- The sum over the hidden columns is the sum of its two halves. -/
theorem sum_halves (f : Fin 2816 → EReal) :
    (∑ n : Fin 1408, f ⟨n.val, by omega⟩) + ∑ n : Fin 1408, f ⟨1408 + n.val, by omega⟩ = ∑ n, f n := by
  rw [← sum_blocks (a := 2) (b := 1408) rfl f, Fin.sum_univ_two]
  refine congrArg₂ (· + ·) (Finset.sum_congr rfl fun n _ => congrArg f (Fin.ext ?_)) (Finset.sum_congr rfl fun n _ => congrArg f (Fin.ext ?_))
  · show n.val = 1408 * 0 + n.val; omega
  · show 1408 + n.val = 1408 * 1 + n.val; omega

end Cert.Own.Fwd

end
-- ==== Proof.FwdArray.lean ====
/- The feed-forward layer's kernel over its whole grid: the four arrays it leaves, index by index. -/
module

public import proofs.«01_k».proof.Proof.FwdFrame
public import proofs.«01_k».proof.Proof.FwdSpec
public import Idealize.ShloMosaic.Lib.Pipeline.ValueKit

@[expose] public section

set_option maxRecDepth 16384

noncomputable section

namespace Cert.Own.Fwd

open Idealize.ShloMosaic Idealize.ShloMosaic.TcCoe Idealize.SL.Sem
open Cert.KernelFwdIdeal Cert.KernelFwdIdeal.Gen
open Cert.Own Cert.Own.Norm

/-! ## What the kernel's steps compute -/

section Blocks
variable (x s : Vec Ideal S512x1024 .f32) (g : Vec Ideal S1x1024 .f32) (h : Vec Ideal S512x1024 .bf16) (wg wu wd : Vec Ideal S1408x1024 .bf16)

theorem normal_block (p : Fin 512) (l : Fin 1024) :
    k0_pay2 (F := Ideal) x g (ix2 p l) = x (ix2 p l) * scale (fun j => x (ix2 p j)) * g (ix2 0 l) := by
  pointwise [k0_pay2]
  rfl
theorem zero_block (p : Fin 512) (l : Fin 1024) : k0_pay3 (F := Ideal) (ix2 p l) = 0 := by
  pointwise [k0_pay3]
theorem pre_block (p : Fin 512) (n : Fin 1408) : k0_pay5 (F := Ideal) h wg (ix2 p n) = ∑ k, h (ix2 p k) * wg (ix2 n k) := by
  pointwise [k0_pay5, k0_pay4]
theorem lin_block (p : Fin 512) (n : Fin 1408) : k0_pay6 (F := Ideal) h wu (ix2 p n) = ∑ k, h (ix2 p k) * wu (ix2 n k) := by
  pointwise [k0_pay6, k0_pay4]
theorem pre_left (p : Fin 512) (n : Fin 1408) : k0_pay7 (F := Ideal) h wg (ix2 p n) = ∑ k, h (ix2 p k) * wg (ix2 n k) := by
  pointwise [k0_pay7]
  exact pre_block h wg p n
theorem lin_left (p : Fin 512) (n : Fin 1408) : k0_pay8 (F := Ideal) h wu (ix2 p n) = ∑ k, h (ix2 p k) * wu (ix2 n k) := by
  pointwise [k0_pay8]
  exact lin_block h wu p n
theorem step_block (p : Fin 512) (l : Fin 1024) :
    k0_pay9 (F := Ideal) h wg wu s wd (ix2 p l)
      = s (ix2 p l) + ∑ n, (∑ k, h (ix2 p k) * wg (ix2 n k)) * sigmoid (∑ k, h (ix2 p k) * wg (ix2 n k)) * (∑ k, h (ix2 p k) * wu (ix2 n k)) * wd (ix2 n l) := by
  pointwise [k0_pay9]
  refine congrArg (_ + ·) (Finset.sum_congr rfl fun n _ => ?_)
  rw [pre_block, lin_block, tanh_sigmoid]
theorem result_block (p : Fin 512) (l : Fin 1024) :
    k0_pay1 (F := Ideal) x s (ix2 p l) = x (ix2 p l) + Ideal.ofBits .f32 0x3F000000#32 * s (ix2 p l) := by
  pointwise [k0_pay1]
end Blocks

/-! ## The blocks' places -/

theorem index0 : ∀ t : Fin cfg0.N, win0_0.index t = ![t.val / 2, 0] := by decide +kernel
theorem index1 : ∀ t : Fin cfg0.N, win0_1.index t = ![0, 0] := by decide +kernel
theorem index2 : ∀ t : Fin cfg0.N, win0_2.index t = ![t.val % 2, 0] := by decide +kernel
theorem index3 : ∀ t : Fin cfg0.N, win0_3.index t = ![t.val % 2, 0] := by decide +kernel
theorem index4 : ∀ t : Fin cfg0.N, win0_4.index t = ![t.val % 2, 0] := by decide +kernel
theorem index5 : ∀ t : Fin cfg0.N, win0_5.index t = ![t.val / 2, 0] := by decide +kernel
theorem index6 : ∀ t : Fin cfg0.N, win0_6.index t = ![t.val / 2, 0] := by decide +kernel
theorem index7 : ∀ t : Fin cfg0.N, win0_7.index t = ![t.val / 2, t.val % 2] := by decide +kernel
theorem index8 : ∀ t : Fin cfg0.N, win0_8.index t = ![t.val / 2, t.val % 2] := by decide +kernel

/-- Row `p` of a point's rows. -/
def rowOf (t : Fin cfg0.N) (p : Fin 512) : Fin 4096 := ⟨512 * (t.val / 2) + p.val, by have : t.val < 16 := lt_of_lt_of_eq t.isLt N_0; omega⟩
/-- Hidden column `n` of a point's columns. -/
def colOf (t : Fin cfg0.N) (n : Fin 1408) : Fin 2816 := ⟨1408 * (t.val % 2) + n.val, by omega⟩

theorem row_head (t : Fin cfg0.N) (p : Fin 512) : rowOf (head t) p = rowOf t p :=
  Fin.ext (by show 512 * ((t.val - t.val % 2) / 2) + p.val = 512 * (t.val / 2) + p.val; omega)

variable (m : (ℓ : Loc nD τ sig) → Buf (Elt Ideal) ℓ) (c : Dev nD)

/-- The layer's five arrays as the program finds them. -/
def args : Args where
  x r l := (m ((c : Thread nD τ).loc main_arg0) : Vec Ideal S4096x1024 .f32) (ix2 r l)
  g l := (m ((c : Thread nD τ).loc main_arg1) : Vec Ideal S1x1024 .f32) (ix2 0 l)
  wg n l := (m ((c : Thread nD τ).loc main_arg2) : Vec Ideal S2816x1024 .bf16) (ix2 n l)
  wu n l := (m ((c : Thread nD τ).loc main_arg3) : Vec Ideal S2816x1024 .bf16) (ix2 n l)
  wd n l := (m ((c : Thread nD τ).loc main_arg4) : Vec Ideal S2816x1024 .bf16) (ix2 n l)

theorem blk0 (t : Fin cfg0.N) (p : Fin 512) (l : Fin 1024) : (iblk m c 0 t : Vec Ideal S512x1024 .f32) (ix2 p l) = (args m c).x (rowOf t p) l := by
  unfold rowOf; blk_point [iblk, index0 t]
theorem blk1 (t : Fin cfg0.N) (l : Fin 1024) : (iblk m c 1 t : Vec Ideal S1x1024 .f32) (ix2 0 l) = (args m c).g l := by
  blk_point [iblk, index1 t]
theorem blk2 (t : Fin cfg0.N) (n : Fin 1408) (l : Fin 1024) : (iblk m c 2 t : Vec Ideal S1408x1024 .bf16) (ix2 n l) = (args m c).wg (colOf t n) l := by
  unfold colOf; blk_point [iblk, index2 t]
theorem blk3 (t : Fin cfg0.N) (n : Fin 1408) (l : Fin 1024) : (iblk m c 3 t : Vec Ideal S1408x1024 .bf16) (ix2 n l) = (args m c).wu (colOf t n) l := by
  unfold colOf; blk_point [iblk, index3 t]
theorem blk4 (t : Fin cfg0.N) (n : Fin 1408) (l : Fin 1024) : (iblk m c 4 t : Vec Ideal S1408x1024 .bf16) (ix2 n l) = (args m c).wd (colOf t n) l := by
  unfold colOf; blk_point [iblk, index4 t]

/-! ## A point's values -/

theorem normed_at (t : Fin cfg0.N) (p : Fin 512) (l : Fin 1024) : normed m c t (ix2 p l) = normal (args m c) (rowOf t p) l := by
  unfold normed
  rw [normal_block]
  simp only [blk0, blk1, row_head]
  rfl
theorem pre_sum (t : Fin cfg0.N) (p : Fin 512) (n : Fin 1408) :
    ∑ k, normed m c t (ix2 p k) * (iblk m c 2 t : Vec Ideal S1408x1024 .bf16) (ix2 n k) = pre (args m c) (rowOf t p) (colOf t n) :=
  Finset.sum_congr rfl fun k _ => by rw [normed_at, blk2]
theorem lin_sum (t : Fin cfg0.N) (p : Fin 512) (n : Fin 1408) :
    ∑ k, normed m c t (ix2 p k) * (iblk m c 3 t : Vec Ideal S1408x1024 .bf16) (ix2 n k) = lin (args m c) (rowOf t p) (colOf t n) :=
  Finset.sum_congr rfl fun k _ => by rw [normed_at, blk3]
theorem step_at (t : Fin cfg0.N) (s : Vec Ideal S512x1024 .f32) (p : Fin 512) (l : Fin 1024) :
    step m c t s (ix2 p l) = s (ix2 p l) + ∑ n, gated (args m c) (rowOf t p) (colOf t n) * (args m c).wd (colOf t n) l := by
  unfold step
  rw [step_block]
  refine congrArg (_ + ·) (Finset.sum_congr rfl fun n _ => ?_)
  rw [pre_sum, lin_sum, blk4]
  rfl
theorem total_at (t : Fin cfg0.N) (h : t.val % 2 = 1) (p : Fin 512) (l : Fin 1024) :
    total m c t (ix2 p l) = ∑ n, gated (args m c) (rowOf t p) n * (args m c).wd n l := by
  have e0 : ∀ n, colOf (head t) n = ⟨n.val, by omega⟩ := fun n => Fin.ext (by show 1408 * ((t.val - t.val % 2) % 2) + n.val = n.val; omega)
  have e1 : ∀ n, colOf t n = ⟨1408 + n.val, by omega⟩ := fun n => Fin.ext (by show 1408 * (t.val % 2) + n.val = 1408 + n.val; omega)
  unfold total
  rw [if_neg (by omega), step_at, step_at, zero_block, zero_add]
  simp only [row_head, e0, e1]
  exact sum_halves fun n => gated (args m c) (rowOf t p) n * (args m c).wd n l

/-! ## The arrays -/

theorem fin5 : (dats m 0 c).arrAt 5 cfg0.N = fun i : S4096x1024.Idx => result (args m c) (i 0) (i 1) := by
  refine (dats m 0 c).arrAt_eq_of_covers 5 _ (by decide +kernel) fun t hf y => ?_
  blk_simp
  rw [after0_5]
  obtain ⟨p, l, hy⟩ : ∃ (p : Fin 512) (l : Fin 1024), y = ix2 p l := pair_of y
  subst hy
  refine (result_block _ _ p l).trans ?_
  rw [blk0, total_at m c t ((flush0_5 t).mp hf)]
  show result (args m c) (rowOf t p) l = _
  refine congrArg₂ (result (args m c)) (Fin.ext ?_) (Fin.ext ?_)
  · show 512 * (t.val / 2) + p.val = win0_5.index t 0 * 512 + 1 * p.val
    rw [index5 t]; show 512 * (t.val / 2) + p.val = t.val / 2 * 512 + 1 * p.val; omega
  · show l.val = win0_5.index t 1 * 1024 + 1 * l.val
    rw [index5 t]; show l.val = 0 * 1024 + 1 * l.val; omega
theorem fin6 : (dats m 0 c).arrAt 6 cfg0.N = fun i : S4096x1024.Idx => normal (args m c) (i 0) (i 1) := by
  refine (dats m 0 c).arrAt_eq_of_covers 6 _ (by decide +kernel) fun t hf y => ?_
  blk_simp
  rw [after0_6]
  obtain ⟨p, l, hy⟩ : ∃ (p : Fin 512) (l : Fin 1024), y = ix2 p l := pair_of y
  subst hy
  refine (normed_at m c t p l).trans ?_
  refine congrArg₂ (normal (args m c)) (Fin.ext ?_) (Fin.ext ?_)
  · show 512 * (t.val / 2) + p.val = win0_6.index t 0 * 512 + 1 * p.val
    rw [index6 t]; show 512 * (t.val / 2) + p.val = t.val / 2 * 512 + 1 * p.val; omega
  · show l.val = win0_6.index t 1 * 1024 + 1 * l.val
    rw [index6 t]; show l.val = 0 * 1024 + 1 * l.val; omega
theorem fin7 : (dats m 0 c).arrAt 7 cfg0.N = fun i : S4096x2816.Idx => pre (args m c) (i 0) (i 1) := by
  refine (dats m 0 c).arrAt_eq_of_covers 7 _ (by decide +kernel) fun t hf y => ?_
  blk_simp
  rw [after0_7]
  obtain ⟨p, n, hy⟩ : ∃ (p : Fin 512) (n : Fin 1408), y = ix2 p n := pair_of y
  subst hy
  refine ((pre_left _ _ p n).trans (pre_sum m c t p n)).trans ?_
  refine congrArg₂ (pre (args m c)) (Fin.ext ?_) (Fin.ext ?_)
  · show 512 * (t.val / 2) + p.val = win0_7.index t 0 * 512 + 1 * p.val
    rw [index7 t]; show 512 * (t.val / 2) + p.val = t.val / 2 * 512 + 1 * p.val; omega
  · show 1408 * (t.val % 2) + n.val = win0_7.index t 1 * 1408 + 1 * n.val
    rw [index7 t]; show 1408 * (t.val % 2) + n.val = t.val % 2 * 1408 + 1 * n.val; omega
theorem fin8 : (dats m 0 c).arrAt 8 cfg0.N = fun i : S4096x2816.Idx => lin (args m c) (i 0) (i 1) := by
  refine (dats m 0 c).arrAt_eq_of_covers 8 _ (by decide +kernel) fun t hf y => ?_
  blk_simp
  rw [after0_8]
  obtain ⟨p, n, hy⟩ : ∃ (p : Fin 512) (n : Fin 1408), y = ix2 p n := pair_of y
  subst hy
  refine ((lin_left _ _ p n).trans (lin_sum m c t p n)).trans ?_
  refine congrArg₂ (lin (args m c)) (Fin.ext ?_) (Fin.ext ?_)
  · show 512 * (t.val / 2) + p.val = win0_8.index t 0 * 512 + 1 * p.val
    rw [index8 t]; show 512 * (t.val / 2) + p.val = t.val / 2 * 512 + 1 * p.val; omega
  · show 1408 * (t.val % 2) + n.val = win0_8.index t 1 * 1408 + 1 * n.val
    rw [index8 t]; show 1408 * (t.val % 2) + n.val = t.val % 2 * 1408 + 1 * n.val; omega

end Cert.Own.Fwd

end
-- ==== Proof.FwdRef.lean ====
/- The reference of the feed-forward layer, index by index. -/
module

public import proofs.«01_k».proof.Proof.Gen.ReferenceFwdIdeal.Read
public import proofs.«01_k».proof.Proof.FwdSpec
public import Idealize.ShloMosaic.Lib.KernelVsHost

@[expose] public section

set_option maxRecDepth 16384

noncomputable section

namespace Cert.Own.FwdRef

open Idealize.ShloMosaic Idealize.ShloMosaic.TcCoe Idealize.SL.Sem Idealize.ShloMosaic.StableHlo
open Cert.ReferenceFwdIdeal Cert.ReferenceFwdIdeal.Gen Cert.ReferenceFwdIdeal.Read
open Cert.Own Cert.Own.Norm Cert.Own.Fwd

variable (x0 : Vec Ideal S4096x1024 .f32) (x1 : Vec Ideal S1x1024 .f32) (x2 x3 x4 : Vec Ideal S2816x1024 .bf16)

/-- The layer's five arrays, as functions of their places. -/
def argsOf : Args where
  x r l := x0 (ix2 r l)
  g l := x1 (ix2 0 l)
  wg n l := x2 (ix2 n l)
  wu n l := x3 (ix2 n l)
  wd n l := x4 (ix2 n l)

theorem scale_at (r : Fin 4096) : val_main_v12 (F := Ideal) x0 (ix2 r 0) = scale (fun l => x0 (ix2 r l)) := by
  pointwise [val_main_v12, val_main_v11, val_main_v10, val_main_v9, val_main_v8, val_main_v7, val_main_v6, val_main_v5, val_main_cst, val_main_cst_0, val_main_cst_1]
  rfl
theorem normal_at (r : Fin 4096) (l : Fin 1024) : val_main_v16 (F := Ideal) x0 x1 (ix2 r l) = normal (argsOf x0 x1 x2 x3 x4) r l := by
  pointwise [val_main_v16, val_main_v15, val_main_v14, val_main_v13]
  rw [scale_at]
  rfl
theorem pre_at (r : Fin 4096) (n : Fin 2816) : val_main_v17 (F := Ideal) x0 x1 x2 (ix2 r n) = pre (argsOf x0 x1 x2 x3 x4) r n := by
  pointwise [val_main_v17, val_main_v1, val_main_v0]
  exact Finset.sum_congr rfl fun k _ => congrArg (· * _) (normal_at x0 x1 x2 x3 x4 r k)
theorem lin_at (r : Fin 4096) (n : Fin 2816) : val_main_v18 (F := Ideal) x0 x1 x3 (ix2 r n) = lin (argsOf x0 x1 x2 x3 x4) r n := by
  pointwise [val_main_v18, val_main_v3, val_main_v2]
  exact Finset.sum_congr rfl fun k _ => congrArg (· * _) (normal_at x0 x1 x2 x3 x4 r k)
theorem sigmoid_at (r : Fin 4096) (n : Fin 2816) :
    val_main_call0_v5 (F := Ideal) x0 x1 x2 (ix2 r n) = sigmoid (pre (argsOf x0 x1 x2 x3 x4) r n) := by
  pointwise [val_main_call0_v5, val_main_call0_v4, val_main_call0_cst_0, val_main_call0_v3, val_main_call0_v2, val_main_call0_cst, val_main_call0_v1, val_main_call0_v0]
  rw [pre_at x0 x1 x2 x3 x4]
  rfl
theorem gated_at (r : Fin 4096) (n : Fin 2816) : val_main_v20 (F := Ideal) x0 x1 x2 x3 (ix2 r n) = gated (argsOf x0 x1 x2 x3 x4) r n := by
  pointwise [val_main_v20, val_main_v19]
  rw [sigmoid_at x0 x1 x2 x3 x4, pre_at x0 x1 x2 x3 x4, lin_at x0 x1 x2 x3 x4]
  rfl
theorem result_at (r : Fin 4096) (l : Fin 1024) : val_main_v24 (F := Ideal) x0 x1 x2 x3 x4 (ix2 r l) = result (argsOf x0 x1 x2 x3 x4) r l := by
  pointwise [val_main_v24, val_main_v23, val_main_v22, val_main_cst_2, val_main_v21, val_main_v4]
  unfold result
  refine congrArg (fun e : EReal => x0 (ix2 r l) + Ideal.ofBits .f32 0x3F000000#32 * e) ?_
  exact Finset.sum_congr rfl fun n _ => congrArg (· * _) (gated_at x0 x1 x2 x3 x4 r n)
theorem normal_out (r : Fin 4096) (l : Fin 1024) : val_main_v25 (F := Ideal) x0 x1 (ix2 r l) = normal (argsOf x0 x1 x2 x3 x4) r l := by
  pointwise [val_main_v25]
  exact normal_at x0 x1 x2 x3 x4 r l
theorem pre_out (r : Fin 4096) (n : Fin 2816) : val_main_v26 (F := Ideal) x0 x1 x2 (ix2 r n) = pre (argsOf x0 x1 x2 x3 x4) r n := by
  pointwise [val_main_v26]
  exact pre_at x0 x1 x2 x3 x4 r n
theorem lin_out (r : Fin 4096) (n : Fin 2816) : val_main_v27 (F := Ideal) x0 x1 x3 (ix2 r n) = lin (argsOf x0 x1 x2 x3 x4) r n := by
  pointwise [val_main_v27]
  exact lin_at x0 x1 x2 x3 x4 r n

end Cert.Own.FwdRef

end
-- ==== Proof.FwdClaim.lean ====
/- The claims about the feed-forward layer: the runs of the three programs, and the results of the two equal. -/
module

public import proofs.«01_k».proof.Defs
public import proofs.«01_k».proof.Proof.Gen.KernelFwd.Frame
public import proofs.«01_k».proof.Proof.Gen.ReferenceFwdIdeal.Run
public import proofs.«01_k».proof.Proof.FwdArray
public import proofs.«01_k».proof.Proof.FwdRef
public import Idealize.ShloMosaic.Lib.Claim

@[expose] public section

set_option maxRecDepth 100000

noncomputable section

namespace Cert.Own.FwdClaim

open Idealize.ShloMosaic Idealize.ShloMosaic.TcCoe Idealize.SL.Sem
open Cert.Own Cert.Own.Fwd

/-! ## The frame of the program over machine floats, from the one run -/

section Frame
attribute [local instance] Cert.KernelFwd.Gen.facts

theorem body_same : Cert.KernelFwd.cc0_ffn_fwd (F := Bits) = Cert.KernelFwdIdeal.cc0_ffn_fwd (F := Bits) := rfl

theorem table_same : Cert.KernelFwd.defs₀ (F := Bits) = Cert.KernelFwdIdeal.defs₀ (F := Bits) :=
  congrArg Defs.onTc (funext fun l => funext fun a => match l, a with
    | 0, (t, s) => by
      show Cert.KernelFwd.cc0_ffn_fwd (F := Bits) _ _ _ _ _ _ _ _ _ _ _ _ _ _ _ _ _ _ _ _ _ = _
      rw [body_same]
      rfl)

theorem defs_same : Cert.KernelFwd.defs (F := Bits) = Cert.KernelFwdIdeal.defs (F := Bits) :=
  congrArg (Pipeline.defs (Cert.KernelFwdIdeal.pcfgs (F := Bits))) table_same

theorem frame_kernel : Cert.quiescent_KernelFwd (hKernelFwd := Cert.KernelFwd.Gen.facts) := fun m ρ _ => by
  rw [defs_same]
  exact Cert.Own.Fwd.frame (F := Bits) m ρ

end Frame

/-! ## The kernel's run, its results named -/

section Run
open Cert.KernelFwdIdeal Cert.KernelFwdIdeal.Gen

theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8,
    ((h.1 c).1 0).trans (((dats m 0 c).arrAt_in 0 rfl _).trans (V_main_arg0 m c)),
    ((h.1 c).1 1).trans (((dats m 0 c).arrAt_in 1 rfl _).trans (V_main_arg1 m c)),
    ((h.1 c).1 2).trans (((dats m 0 c).arrAt_in 2 rfl _).trans (V_main_arg2 m c)),
    ((h.1 c).1 3).trans (((dats m 0 c).arrAt_in 3 rfl _).trans (V_main_arg3 m c)),
    ((h.1 c).1 4).trans (((dats m 0 c).arrAt_in 4 rfl _).trans (V_main_arg4 m c))⟩) (run_main m g)

end Run

/-! ## The results agree -/

theorem ext_by {m n : Nat} (x : (⟨2, ![m, n]⟩ : Shape).Idx → EReal) (f : Fin m → Fin n → EReal) (h : ∀ r l, x (ix2 r l) = f r l) :
    x = fun i : (⟨2, ![m, n]⟩ : Shape).Idx => f (i 0) (i 1) := by
  funext i
  obtain ⟨r, l, rfl⟩ := pair_of i
  exact h r l

theorem algebraic : Cert.algebraic_KernelFwdIdeal_ReferenceFwdIdeal (hKernelFwdIdeal := Cert.KernelFwdIdeal.Gen.facts) (hReferenceFwdIdeal := Cert.ReferenceFwdIdeal.Gen.facts) := by
  intro m g m' g' _ hagree
  refine ⟨fun c => (dats m 0 c).arrAt 5 Cert.KernelFwdIdeal.cfg0.N, fun c => (dats m 0 c).arrAt 6 Cert.KernelFwdIdeal.cfg0.N,
    fun c => (dats m 0 c).arrAt 7 Cert.KernelFwdIdeal.cfg0.N, fun c => (dats m 0 c).arrAt 8 Cert.KernelFwdIdeal.cfg0.N, kernel_run m g, ?_⟩
  refine θ_run_mono (Cert.ReferenceFwdIdeal.Value.run (F := Ideal) m' g') ?_
  intro r hr c
  obtain ⟨e0, e1, e2, e3, e4⟩ := hagree c
  refine ⟨(hr c).1.trans ?_, (hr c).2.1.trans ?_, (hr c).2.2.1.trans ?_, (hr c).2.2.2.1.trans ?_, (hr c).2.2.2.2⟩
  · rw [Cert.ReferenceFwdIdeal.Read.val_main_v24_eq, e0, e1, e2, e3, e4]
    exact (ext_by _ _ (FwdRef.result_at _ _ _ _ _)).trans (fin5 m c).symm
  · rw [Cert.ReferenceFwdIdeal.Read.val_main_v25_eq, e0, e1]
    exact (ext_by _ _ (FwdRef.normal_out _ _ (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)))).trans (fin6 m c).symm
  · rw [Cert.ReferenceFwdIdeal.Read.val_main_v26_eq, e0, e1, e2]
    exact (ext_by _ _ (FwdRef.pre_out _ _ _ (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)))).trans (fin7 m c).symm
  · rw [Cert.ReferenceFwdIdeal.Read.val_main_v27_eq, e0, e1, e3]
    exact (ext_by _ _ (FwdRef.lin_out _ _ (m ((c.tc : Thread Cert.KernelFwdIdeal.nD Cert.KernelFwdIdeal.τ).loc Cert.KernelFwdIdeal.main_arg2)) _ (m ((c.tc : Thread Cert.KernelFwdIdeal.nD Cert.KernelFwdIdeal.τ).loc Cert.KernelFwdIdeal.main_arg4)))).trans (fin8 m c).symm

theorem reference_frame : Cert.quiescent_ReferenceFwdIdeal (hReferenceFwdIdeal := Cert.ReferenceFwdIdeal.Gen.facts) := fun m ρ _ =>
  (θ_run Cert.ReferenceFwdIdeal.defs _ _).mono
    (fun r h => ⟨fun c => (h c).2.2.2.2, sem_eq_zero_of_no_sems (by decide) r.2⟩)
    (Cert.ReferenceFwdIdeal.Value.run (F := Ideal) m ρ)

end Cert.Own.FwdClaim

end
-- ==== Proof.lean ====
/- The proof of the certificate's claim: the frames of the programs and the equality of each kernel's results with its
   reference's, put together. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelProj.Frame
public import proofs.«01_k».proof.Proof.Gen.KernelProjIdeal.Value
public import proofs.«01_k».proof.Proof.Gen.ReferenceProjIdeal.Run
public import proofs.«01_k».proof.Proof.Gen.ReferenceProjIdeal.Read
public import proofs.«01_k».proof.Proof.Gen.KernelAttn.Frame
public import proofs.«01_k».proof.Proof.Gen.ReferenceAttnIdeal.Run
public import proofs.«01_k».proof.Proof.Gen.ReferenceAttnIdeal.Read
public import proofs.«01_k».proof.Proof.Gen.KernelGrad.Frame
public import proofs.«01_k».proof.Proof.Gen.ReferenceGradIdeal.Run
public import proofs.«01_k».proof.Proof.Gen.ReferenceGradIdeal.Read
public import proofs.«01_k».proof.Proof.Gen.KernelFwd.Frame
public import proofs.«01_k».proof.Proof.Gen.ReferenceFwdIdeal.Run
public import proofs.«01_k».proof.Proof.Gen.ReferenceFwdIdeal.Read
public import proofs.«01_k».proof.Proof.ConvClaim
public import proofs.«01_k».proof.Proof.UpClaim
public import proofs.«01_k».proof.Proof.ProjClaim
public import proofs.«01_k».proof.Proof.AttnClaim
public import proofs.«01_k».proof.Proof.GradClaim
public import proofs.«01_k».proof.Proof.FwdClaim
public import proofs.«01_k».proof.Proof.Gen.Pre_finite_arguments
public import proofs.«01_k».proof.Proof.Gen.Pre_finite_inputs

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.KernelUp.Gen.facts,
  Cert.KernelUpIdeal.Gen.facts,
  Cert.ReferenceUpIdeal.Gen.facts,
  Cert.KernelProj.Gen.facts,
  Cert.KernelProjIdeal.Gen.facts,
  Cert.ReferenceProjIdeal.Gen.facts,
  Cert.KernelAttn.Gen.facts,
  Cert.KernelAttnIdeal.Gen.facts,
  Cert.ReferenceAttnIdeal.Gen.facts,
  Cert.KernelGrad.Gen.facts,
  Cert.KernelGradIdeal.Gen.facts,
  Cert.ReferenceGradIdeal.Gen.facts,
  Cert.KernelFwd.Gen.facts,
  Cert.KernelFwdIdeal.Gen.facts,
  Cert.ReferenceFwdIdeal.Gen.facts,
  Cert.Pre_finite_arguments.Gen.facts,
  Cert.Pre_finite_inputs.Gen.facts,
  fun m ρ _ => Cert.Kernel.Gen.frame m ρ,
  fun m ρ _ => Cert.KernelIdeal.Gen.frame m ρ,
  Cert.Own.ConvClaim.reference_frame,
  fun m ρ _ => Cert.KernelUp.Gen.frame m ρ,
  fun m ρ _ => Cert.KernelUpIdeal.Gen.frame m ρ,
  Cert.Own.UpClaim.reference_frame,
  fun m ρ _ => Cert.KernelProj.Gen.frame m ρ,
  fun m ρ _ => Cert.KernelProjIdeal.Gen.frame m ρ,
  Cert.Own.ProjClaim.reference_frame,
  Cert.Own.AttnClaim.frame_kernel,
  fun m ρ _ => Cert.Own.AttnIdealBody.frame m ρ,
  fun m ρ _ => Cert.Own.AttnIdealBody.frame m ρ,
  Cert.Own.AttnClaim.reference_frame,
  fun m ρ _ => Cert.Own.AttnClaim.reference_frame m ρ trivial,
  Cert.Own.GradClaim.frame_kernel,
  fun m ρ _ => Cert.Own.Grad.frame m ρ,
  fun m ρ _ => Cert.Own.Grad.frame m ρ,
  Cert.Own.GradClaim.reference_frame,
  fun m ρ _ => Cert.Own.GradClaim.reference_frame m ρ trivial,
  Cert.Own.FwdClaim.frame_kernel,
  fun m ρ _ => Cert.Own.Fwd.frame m ρ,
  Cert.Own.FwdClaim.reference_frame,
  trivial,
  Cert.Own.ConvClaim.algebraic,
  trivial,
  Cert.Own.UpClaim.algebraic,
  trivial,
  Cert.Own.ProjClaim.algebraic,
  trivial,
  Cert.Own.AttnClaim.algebraic,
  trivial,
  Cert.Own.GradClaim.algebraic,
  trivial,
  Cert.Own.FwdClaim.algebraic⟩

end Cert.Proof

end
